-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v549) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x3 : Shape := ⟨2, ![4096, 3]⟩
abbrev S3x128 : Shape := ⟨2, ![3, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S4096x128 : Shape := ⟨2, ![4096, 128]⟩
abbrev S128x3 : Shape := ⟨2, ![128, 3]⟩
abbrev S128x128 : Shape := ⟨2, ![128, 128]⟩
abbrev S1x17x1 : Shape := ⟨3, ![1, 17, 1]⟩
abbrev S1x17 : Shape := ⟨2, ![1, 17]⟩
abbrev S128x64 : Shape := ⟨2, ![128, 64]⟩
abbrev S128x1x3 : Shape := ⟨3, ![128, 1, 3]⟩
abbrev S128x64x1 : Shape := ⟨3, ![128, 64, 1]⟩
abbrev S128x64x3 : Shape := ⟨3, ![128, 64, 3]⟩
abbrev S8192x3 : Shape := ⟨2, ![8192, 3]⟩
abbrev S8192x128 : Shape := ⟨2, ![8192, 128]⟩
abbrev S8192x1 : Shape := ⟨2, ![8192, 1]⟩
abbrev S128x65 : Shape := ⟨2, ![128, 65]⟩
abbrev S128x63 : Shape := ⟨2, ![128, 63]⟩
abbrev S128x62 : Shape := ⟨2, ![128, 62]⟩
abbrev S128x2 : Shape := ⟨2, ![128, 2]⟩
abbrev S128x4 : Shape := ⟨2, ![128, 4]⟩
abbrev S128x60 : Shape := ⟨2, ![128, 60]⟩
abbrev S128x8 : Shape := ⟨2, ![128, 8]⟩
abbrev S128x56 : Shape := ⟨2, ![128, 56]⟩
abbrev S128x16 : Shape := ⟨2, ![128, 16]⟩
abbrev S128x48 : Shape := ⟨2, ![128, 48]⟩
abbrev S128x32 : Shape := ⟨2, ![128, 32]⟩
abbrev S128x1x65 : Shape := ⟨3, ![128, 1, 65]⟩
abbrev S128x17x65 : Shape := ⟨3, ![128, 17, 65]⟩
abbrev S128x17 : Shape := ⟨2, ![128, 17]⟩
abbrev S128x17x1 : Shape := ⟨3, ![128, 17, 1]⟩
abbrev S128x16x1 : Shape := ⟨3, ![128, 16, 1]⟩
abbrev S128x1x64 : Shape := ⟨3, ![128, 1, 64]⟩
abbrev S128x16x64 : Shape := ⟨3, ![128, 16, 64]⟩
abbrev S128x80 : Shape := ⟨2, ![128, 80]⟩
abbrev S128x79 : Shape := ⟨2, ![128, 79]⟩
abbrev S128x78 : Shape := ⟨2, ![128, 78]⟩
abbrev S128x77 : Shape := ⟨2, ![128, 77]⟩
abbrev S128x76 : Shape := ⟨2, ![128, 76]⟩
abbrev S128x5 : Shape := ⟨2, ![128, 5]⟩
abbrev S128x75 : Shape := ⟨2, ![128, 75]⟩
abbrev S128x6 : Shape := ⟨2, ![128, 6]⟩
abbrev S128x74 : Shape := ⟨2, ![128, 74]⟩
abbrev S128x7 : Shape := ⟨2, ![128, 7]⟩
abbrev S128x73 : Shape := ⟨2, ![128, 73]⟩
abbrev S128x72 : Shape := ⟨2, ![128, 72]⟩
abbrev S128x9 : Shape := ⟨2, ![128, 9]⟩
abbrev S128x71 : Shape := ⟨2, ![128, 71]⟩
abbrev S128x10 : Shape := ⟨2, ![128, 10]⟩
abbrev S128x70 : Shape := ⟨2, ![128, 70]⟩
abbrev S128x11 : Shape := ⟨2, ![128, 11]⟩
abbrev S128x69 : Shape := ⟨2, ![128, 69]⟩
abbrev S128x12 : Shape := ⟨2, ![128, 12]⟩
abbrev S128x68 : Shape := ⟨2, ![128, 68]⟩
abbrev S128x13 : Shape := ⟨2, ![128, 13]⟩
abbrev S128x67 : Shape := ⟨2, ![128, 67]⟩
abbrev S128x14 : Shape := ⟨2, ![128, 14]⟩
abbrev S128x66 : Shape := ⟨2, ![128, 66]⟩
abbrev S128x15 : Shape := ⟨2, ![128, 15]⟩
abbrev S128x16x80 : Shape := ⟨3, ![128, 16, 80]⟩
abbrev S128x16x3 : Shape := ⟨3, ![128, 16, 3]⟩
abbrev S2048x3 : Shape := ⟨2, ![2048, 3]⟩
abbrev S2048x128 : Shape := ⟨2, ![2048, 128]⟩
abbrev S2048x1 : Shape := ⟨2, ![2048, 1]⟩
abbrev S128x81 : Shape := ⟨2, ![128, 81]⟩
abbrev S128x1x81 : Shape := ⟨3, ![128, 1, 81]⟩
abbrev S128x17x81 : Shape := ⟨3, ![128, 17, 81]⟩
abbrev S128x1x80 : Shape := ⟨3, ![128, 1, 80]⟩
abbrev S128x96 : Shape := ⟨2, ![128, 96]⟩
abbrev S128x95 : Shape := ⟨2, ![128, 95]⟩
abbrev S128x94 : Shape := ⟨2, ![128, 94]⟩
abbrev S128x93 : Shape := ⟨2, ![128, 93]⟩
abbrev S128x92 : Shape := ⟨2, ![128, 92]⟩
abbrev S128x91 : Shape := ⟨2, ![128, 91]⟩
abbrev S128x90 : Shape := ⟨2, ![128, 90]⟩
abbrev S128x89 : Shape := ⟨2, ![128, 89]⟩
abbrev S128x88 : Shape := ⟨2, ![128, 88]⟩
abbrev S128x87 : Shape := ⟨2, ![128, 87]⟩
abbrev S128x86 : Shape := ⟨2, ![128, 86]⟩
abbrev S128x85 : Shape := ⟨2, ![128, 85]⟩
abbrev S128x84 : Shape := ⟨2, ![128, 84]⟩
abbrev S128x83 : Shape := ⟨2, ![128, 83]⟩
abbrev S128x82 : Shape := ⟨2, ![128, 82]⟩
abbrev S128x16x96 : Shape := ⟨3, ![128, 16, 96]⟩
abbrev S128x97 : Shape := ⟨2, ![128, 97]⟩
abbrev S128x1x97 : Shape := ⟨3, ![128, 1, 97]⟩
abbrev S128x17x97 : Shape := ⟨3, ![128, 17, 97]⟩
abbrev S128x1x96 : Shape := ⟨3, ![128, 1, 96]⟩
abbrev S128x112 : Shape := ⟨2, ![128, 112]⟩
abbrev S128x111 : Shape := ⟨2, ![128, 111]⟩
abbrev S128x110 : Shape := ⟨2, ![128, 110]⟩
abbrev S128x109 : Shape := ⟨2, ![128, 109]⟩
abbrev S128x108 : Shape := ⟨2, ![128, 108]⟩
abbrev S128x107 : Shape := ⟨2, ![128, 107]⟩
abbrev S128x106 : Shape := ⟨2, ![128, 106]⟩
abbrev S128x105 : Shape := ⟨2, ![128, 105]⟩
abbrev S128x104 : Shape := ⟨2, ![128, 104]⟩
abbrev S128x103 : Shape := ⟨2, ![128, 103]⟩
abbrev S128x102 : Shape := ⟨2, ![128, 102]⟩
abbrev S128x101 : Shape := ⟨2, ![128, 101]⟩
abbrev S128x100 : Shape := ⟨2, ![128, 100]⟩
abbrev S128x99 : Shape := ⟨2, ![128, 99]⟩
abbrev S128x98 : Shape := ⟨2, ![128, 98]⟩
abbrev S128x16x112 : Shape := ⟨3, ![128, 16, 112]⟩
abbrev S128x113 : Shape := ⟨2, ![128, 113]⟩
abbrev S128x1x113 : Shape := ⟨3, ![128, 1, 113]⟩
abbrev S128x17x113 : Shape := ⟨3, ![128, 17, 113]⟩
abbrev S128x1x112 : Shape := ⟨3, ![128, 1, 112]⟩
abbrev S128x127 : Shape := ⟨2, ![128, 127]⟩
abbrev S128x126 : Shape := ⟨2, ![128, 126]⟩
abbrev S128x125 : Shape := ⟨2, ![128, 125]⟩
abbrev S128x124 : Shape := ⟨2, ![128, 124]⟩
abbrev S128x123 : Shape := ⟨2, ![128, 123]⟩
abbrev S128x122 : Shape := ⟨2, ![128, 122]⟩
abbrev S128x121 : Shape := ⟨2, ![128, 121]⟩
abbrev S128x120 : Shape := ⟨2, ![128, 120]⟩
abbrev S128x119 : Shape := ⟨2, ![128, 119]⟩
abbrev S128x118 : Shape := ⟨2, ![128, 118]⟩
abbrev S128x117 : Shape := ⟨2, ![128, 117]⟩
abbrev S128x116 : Shape := ⟨2, ![128, 116]⟩
abbrev S128x115 : Shape := ⟨2, ![128, 115]⟩
abbrev S128x114 : Shape := ⟨2, ![128, 114]⟩
abbrev S128x16x128 : Shape := ⟨3, ![128, 16, 128]⟩

abbrev nBuf : Space → Nat
  | .hbm => 9
  | .vmem => 9
  | .smem => 1
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S3x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x128, .f32⟩
  | .hbm, ⟨7, _⟩ => ⟨S1x1, .f32⟩
  | .hbm, ⟨8, _⟩ => ⟨S4096x128, .f32⟩
  | .local _ .vmem, ⟨0, _⟩ => ⟨S128x3, .f32⟩
  | .local _ .vmem, ⟨1, _⟩ => ⟨S128x3, .f32⟩
  | .local _ .vmem, ⟨2, _⟩ => ⟨S128x3, .f32⟩
  | .local _ .vmem, ⟨3, _⟩ => ⟨S128x3, .f32⟩
  | .local _ .vmem, ⟨4, _⟩ => ⟨S3x128, .f32⟩
  | .local _ .vmem, ⟨5, _⟩ => ⟨S1x128, .f32⟩
  | .local _ .vmem, ⟨6, _⟩ => ⟨S128x1, .f32⟩
  | .local _ .vmem, ⟨7, _⟩ => ⟨S128x128, .f32⟩
  | .local _ .vmem, ⟨8, _⟩ => ⟨S128x128, .f32⟩
  | .local _ .smem, ⟨0, _⟩ => ⟨S1x1, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x3 : Shape := ⟨2, ![4096, 3]⟩
abbrev S3x128 : Shape := ⟨2, ![3, 128]⟩
abbrev S128 : Shape := ⟨1, ![128]⟩
abbrev S128x1 : Shape := ⟨2, ![128, 1]⟩
abbrev S1 : Shape := ⟨1, ![1]⟩
abbrev S_ : Shape := ⟨0, ![]⟩
abbrev S64 : Shape := ⟨1, ![64]⟩
abbrev S65 : Shape := ⟨1, ![65]⟩
abbrev S4096x64 : Shape := ⟨2, ![4096, 64]⟩
abbrev S4096x1 : Shape := ⟨2, ![4096, 1]⟩
abbrev S4096x1x3 : Shape := ⟨3, ![4096, 1, 3]⟩
abbrev S4096x64x1 : Shape := ⟨3, ![4096, 64, 1]⟩
abbrev S4096x64x3 : Shape := ⟨3, ![4096, 64, 3]⟩
abbrev S4096x64x128 : Shape := ⟨3, ![4096, 64, 128]⟩
abbrev S1x1x128 : Shape := ⟨3, ![1, 1, 128]⟩
abbrev S1x1x1 : Shape := ⟨3, ![1, 1, 1]⟩
abbrev S4096x63 : Shape := ⟨2, ![4096, 63]⟩
abbrev S4096x65 : Shape := ⟨2, ![4096, 65]⟩
abbrev S4096x62 : Shape := ⟨2, ![4096, 62]⟩
abbrev S4096 : Shape := ⟨1, ![4096]⟩
abbrev S16 : Shape := ⟨1, ![16]⟩
abbrev S17 : Shape := ⟨1, ![17]⟩
abbrev S4096x17 : Shape := ⟨2, ![4096, 17]⟩
abbrev S4096x1x65 : Shape := ⟨3, ![4096, 1, 65]⟩
abbrev S4096x17x1 : Shape := ⟨3, ![4096, 17, 1]⟩
abbrev S4096x17x65 : Shape := ⟨3, ![4096, 17, 65]⟩
abbrev S4096x16 : Shape := ⟨2, ![4096, 16]⟩
abbrev S4096x80 : Shape := ⟨2, ![4096, 80]⟩
abbrev S4096x80x1 : Shape := ⟨3, ![4096, 80, 1]⟩
abbrev S4096x16x1 : Shape := ⟨3, ![4096, 16, 1]⟩
abbrev S4096x16x3 : Shape := ⟨3, ![4096, 16, 3]⟩
abbrev S4096x16x128 : Shape := ⟨3, ![4096, 16, 128]⟩
abbrev S4096x79 : Shape := ⟨2, ![4096, 79]⟩
abbrev S4096x81 : Shape := ⟨2, ![4096, 81]⟩
abbrev S4096x78 : Shape := ⟨2, ![4096, 78]⟩
abbrev S4096x1x81 : Shape := ⟨3, ![4096, 1, 81]⟩
abbrev S4096x17x81 : Shape := ⟨3, ![4096, 17, 81]⟩
abbrev S4096x96 : Shape := ⟨2, ![4096, 96]⟩
abbrev S4096x96x1 : Shape := ⟨3, ![4096, 96, 1]⟩
abbrev S4096x95 : Shape := ⟨2, ![4096, 95]⟩
abbrev S4096x97 : Shape := ⟨2, ![4096, 97]⟩
abbrev S4096x94 : Shape := ⟨2, ![4096, 94]⟩
abbrev S4096x1x97 : Shape := ⟨3, ![4096, 1, 97]⟩
abbrev S4096x17x97 : Shape := ⟨3, ![4096, 17, 97]⟩
abbrev S4096x112 : Shape := ⟨2, ![4096, 112]⟩
abbrev S4096x112x1 : Shape := ⟨3, ![4096, 112, 1]⟩
abbrev S4096x111 : Shape := ⟨2, ![4096, 111]⟩
abbrev S4096x113 : Shape := ⟨2, ![4096, 113]⟩
abbrev S4096x110 : Shape := ⟨2, ![4096, 110]⟩
abbrev S4096x1x113 : Shape := ⟨3, ![4096, 1, 113]⟩
abbrev S4096x17x113 : Shape := ⟨3, ![4096, 17, 113]⟩
abbrev S4096x128 : Shape := ⟨2, ![4096, 128]⟩
abbrev S4096x128x1 : Shape := ⟨3, ![4096, 128, 1]⟩

abbrev nBuf : Space → Nat
  | .hbm => 1167
  | .vmem => 0
  | .smem => 0
  | _ => 0

abbrev hbmTy0_0 (i : Nat) : BufTy := match i % 128 with
  | 0 => ⟨S4096x3, .f32⟩
  | 1 => ⟨S4096x3, .f32⟩
  | 2 => ⟨S3x128, .f32⟩
  | 3 => ⟨S128, .f32⟩
  | 4 => ⟨S128x1, .f32⟩
  | 5 => ⟨S1, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S64, .f32⟩
  | 14 => ⟨S_, .f32⟩
  | 15 => ⟨S64, .f32⟩
  | 16 => ⟨S64, .f32⟩
  | 17 => ⟨S1, .f32⟩
  | 18 => ⟨S_, .f32⟩
  | 19 => ⟨S64, .f32⟩
  | 20 => ⟨S64, .f32⟩
  | 21 => ⟨S64, .f32⟩
  | 22 => ⟨S64, .f32⟩
  | 23 => ⟨S1, .f32⟩
  | 24 => ⟨S64, .f32⟩
  | 25 => ⟨S64, .f32⟩
  | 26 => ⟨S64, .f32⟩
  | 27 => ⟨S1, .f32⟩
  | 28 => ⟨S65, .f32⟩
  | 29 => ⟨S64, .f32⟩
  | 30 => ⟨S4096x64, .f32⟩
  | 31 => ⟨S1, .f32⟩
  | 32 => ⟨S4096x1, .f32⟩
  | 33 => ⟨S4096x1x3, .f32⟩
  | 34 => ⟨S4096x64x1, .f32⟩
  | 35 => ⟨S4096x1x3, .f32⟩
  | 36 => ⟨S4096x64x3, .f32⟩
  | 37 => ⟨S4096x64x3, .f32⟩
  | 38 => ⟨S4096x64x3, .f32⟩
  | 39 => ⟨S4096x64x3, .f32⟩
  | 40 => ⟨S4096x64x3, .f32⟩
  | 41 => ⟨S4096x64x128, .f32⟩
  | 42 => ⟨S1x1x128, .f32⟩
  | 43 => ⟨S4096x64x128, .f32⟩
  | 44 => ⟨S4096x64x128, .f32⟩
  | 45 => ⟨S_, .f32⟩
  | 46 => ⟨S4096x64x128, .f32⟩
  | 47 => ⟨S4096x64x128, .f32⟩
  | 48 => ⟨S4096x64x1, .f32⟩
  | 49 => ⟨S1x1x1, .f32⟩
  | 50 => ⟨S4096x64x1, .f32⟩
  | 51 => ⟨S4096x64x1, .f32⟩
  | 52 => ⟨S4096x64, .f32⟩
  | 53 => ⟨S4096x63, .f32⟩
  | 54 => ⟨S4096x63, .f32⟩
  | 55 => ⟨S4096x65, .f32⟩
  | 56 => ⟨S4096x64, .f32⟩
  | 57 => ⟨S4096x64, .f32⟩
  | 58 => ⟨S4096x64, .f32⟩
  | 59 => ⟨S4096x63, .f32⟩
  | 60 => ⟨S4096x63, .f32⟩
  | 61 => ⟨S_, .f32⟩
  | 62 => ⟨S4096x63, .f32⟩
  | 63 => ⟨S4096x63, .f32⟩
  | 64 => ⟨S4096x63, .f32⟩
  | 65 => ⟨S_, .f32⟩
  | 66 => ⟨S4096x63, .f32⟩
  | 67 => ⟨S4096x63, .f32⟩
  | 68 => ⟨S4096x63, .f32⟩
  | 69 => ⟨S4096x1, .f32⟩
  | 70 => ⟨S_, .f32⟩
  | 71 => ⟨S4096x1, .f32⟩
  | 72 => ⟨S4096x62, .f32⟩
  | 73 => ⟨S4096x63, .f32⟩
  | 74 => ⟨S4096x63, .f32⟩
  | 75 => ⟨S_, .f32⟩
  | 76 => ⟨S_, .f32⟩
  | 77 => ⟨S_, .f32⟩
  | 78 => ⟨S4096x63, .f32⟩
  | 79 => ⟨S4096x63, .f32⟩
  | 80 => ⟨S_, .f32⟩
  | 81 => ⟨S4096x63, .f32⟩
  | 82 => ⟨S4096x63, .f32⟩
  | 83 => ⟨S4096x63, .f32⟩
  | 84 => ⟨S_, .f32⟩
  | 85 => ⟨S4096x63, .f32⟩
  | 86 => ⟨S4096x63, .f32⟩
  | 87 => ⟨S4096x63, .f32⟩
  | 88 => ⟨S4096x63, .f32⟩
  | 89 => ⟨S_, .f32⟩
  | 90 => ⟨S4096x63, .f32⟩
  | 91 => ⟨S4096x63, .f32⟩
  | 92 => ⟨S4096x63, .f32⟩
  | 93 => ⟨S_, .f32⟩
  | 94 => ⟨S4096x63, .f32⟩
  | 95 => ⟨S4096x63, .f32⟩
  | 96 => ⟨S4096x63, .f32⟩
  | 97 => ⟨S4096x63, .f32⟩
  | 98 => ⟨S_, .f32⟩
  | 99 => ⟨S4096x63, .f32⟩
  | 100 => ⟨S4096x63, .f32⟩
  | 101 => ⟨S_, .f32⟩
  | 102 => ⟨S4096x63, .f32⟩
  | 103 => ⟨S4096x63, .f32⟩
  | 104 => ⟨S_, .f32⟩
  | 105 => ⟨S4096x63, .f32⟩
  | 106 => ⟨S4096x63, .f32⟩
  | 107 => ⟨S4096x63, .f32⟩
  | 108 => ⟨S4096x63, .f32⟩
  | 109 => ⟨S_, .f32⟩
  | 110 => ⟨S4096x63, .f32⟩
  | 111 => ⟨S4096x63, .f32⟩
  | 112 => ⟨S_, .f32⟩
  | 113 => ⟨S4096x63, .f32⟩
  | 114 => ⟨S4096x63, .f32⟩
  | 115 => ⟨S4096x63, .f32⟩
  | 116 => ⟨S_, .f32⟩
  | 117 => ⟨S4096x63, .f32⟩
  | 118 => ⟨S4096x63, .f32⟩
  | 119 => ⟨S_, .f32⟩
  | 120 => ⟨S4096x63, .f32⟩
  | 121 => ⟨S4096x63, .f32⟩
  | 122 => ⟨S4096x63, .f32⟩
  | 123 => ⟨S4096x1, .f32⟩
  | 124 => ⟨S_, .f32⟩
  | 125 => ⟨S4096x1, .f32⟩
  | 126 => ⟨S4096x64, .f32⟩
  | 127 => ⟨S4096x1, .f32⟩
  | _ => ⟨S4096x3, .f32⟩

abbrev hbmTy0_1 (i : Nat) : BufTy := match i % 128 with
  | 0 => ⟨S_, .f32⟩
  | 1 => ⟨S4096x1, .f32⟩
  | 2 => ⟨S4096x63, .f32⟩
  | 3 => ⟨S_, .f32⟩
  | 4 => ⟨S4096x63, .f32⟩
  | 5 => ⟨S4096x63, .f32⟩
  | 6 => ⟨S4096x64, .f32⟩
  | 7 => ⟨S4096x64, .f32⟩
  | 8 => ⟨S_, .f32⟩
  | 9 => ⟨S_, .f32⟩
  | 10 => ⟨S4096x64, .f32⟩
  | 11 => ⟨S4096x64, .f32⟩
  | 12 => ⟨S4096x64, .f32⟩
  | 13 => ⟨S_, .f32⟩
  | 14 => ⟨S4096x64, .f32⟩
  | 15 => ⟨S4096x64, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x64, .f32⟩
  | 29 => ⟨S4096x64, .f32⟩
  | 30 => ⟨S4096x1, .f32⟩
  | 31 => ⟨S4096x64, .f32⟩
  | 32 => ⟨S4096x64, .f32⟩
  | 33 => ⟨S_, .f32⟩
  | 34 => ⟨S_, .f32⟩
  | 35 => ⟨S4096x64, .f32⟩
  | 36 => ⟨S_, .f32⟩
  | 37 => ⟨S4096x64, .f32⟩
  | 38 => ⟨S4096x64, .f32⟩
  | 39 => ⟨S4096x1, .f32⟩
  | 40 => ⟨S_, .f32⟩
  | 41 => ⟨S4096x1, .f32⟩
  | 42 => ⟨S4096x65, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S16, .f32⟩
  | 51 => ⟨S_, .f32⟩
  | 52 => ⟨S16, .f32⟩
  | 53 => ⟨S16, .f32⟩
  | 54 => ⟨S1, .f32⟩
  | 55 => ⟨S_, .f32⟩
  | 56 => ⟨S16, .f32⟩
  | 57 => ⟨S16, .f32⟩
  | 58 => ⟨S16, .f32⟩
  | 59 => ⟨S16, .f32⟩
  | 60 => ⟨S1, .f32⟩
  | 61 => ⟨S16, .f32⟩
  | 62 => ⟨S16, .f32⟩
  | 63 => ⟨S16, .f32⟩
  | 64 => ⟨S1, .f32⟩
  | 65 => ⟨S17, .f32⟩
  | 66 => ⟨S_, .f32⟩
  | 67 => ⟨S17, .f32⟩
  | 68 => ⟨S17, .f32⟩
  | 69 => ⟨S4096x17, .f32⟩
  | 70 => ⟨S4096x65, .f32⟩
  | 71 => ⟨S4096x1x65, .f32⟩
  | 72 => ⟨S4096x17x1, .f32⟩
  | 73 => ⟨S4096x17x65, .f32⟩
  | 74 => ⟨S4096x17x65, .f32⟩
  | 75 => ⟨S4096x17x65, .i1⟩
  | 76 => ⟨S4096x17x65, .i32⟩
  | 77 => ⟨S_, .i32⟩
  | 78 => ⟨S4096x17, .i32⟩
  | 79 => ⟨S_, .i32⟩
  | 80 => ⟨S4096x17, .i32⟩
  | 81 => ⟨S4096x17, .i32⟩
  | 82 => ⟨S_, .i32⟩
  | 83 => ⟨S_, .i32⟩
  | 84 => ⟨S_, .i32⟩
  | 85 => ⟨S4096x17, .i32⟩
  | 86 => ⟨S4096x17, .i32⟩
  | 87 => ⟨S_, .i32⟩
  | 88 => ⟨S4096x17, .i32⟩
  | 89 => ⟨S4096x17, .i32⟩
  | 90 => ⟨S_, .i32⟩
  | 91 => ⟨S_, .i32⟩
  | 92 => ⟨S_, .i32⟩
  | 93 => ⟨S4096x17, .i32⟩
  | 94 => ⟨S4096x17, .i32⟩
  | 95 => ⟨S_, .i32⟩
  | 96 => ⟨S4096x17, .i32⟩
  | 97 => ⟨S4096x17, .i32⟩
  | 98 => ⟨S_, .i32⟩
  | 99 => ⟨S4096x17, .i32⟩
  | 100 => ⟨S4096x17, .i1⟩
  | 101 => ⟨S_, .i32⟩
  | 102 => ⟨S4096x17, .i32⟩
  | 103 => ⟨S4096x17, .i32⟩
  | 104 => ⟨S4096x17, .i32⟩
  | 105 => ⟨S4096x17x1, .i32⟩
  | 106 => ⟨S4096x17, .f32⟩
  | 107 => ⟨S_, .i32⟩
  | 108 => ⟨S4096x17, .i32⟩
  | 109 => ⟨S4096x17, .i1⟩
  | 110 => ⟨S_, .i32⟩
  | 111 => ⟨S4096x17, .i32⟩
  | 112 => ⟨S4096x17, .i32⟩
  | 113 => ⟨S4096x17, .i32⟩
  | 114 => ⟨S4096x17x1, .i32⟩
  | 115 => ⟨S4096x17, .f32⟩
  | 116 => ⟨S_, .i32⟩
  | 117 => ⟨S4096x17, .i32⟩
  | 118 => ⟨S4096x17, .i1⟩
  | 119 => ⟨S_, .i32⟩
  | 120 => ⟨S4096x17, .i32⟩
  | 121 => ⟨S4096x17, .i32⟩
  | 122 => ⟨S4096x17, .i32⟩
  | 123 => ⟨S4096x17x1, .i32⟩
  | 124 => ⟨S4096x17, .f32⟩
  | 125 => ⟨S_, .i32⟩
  | 126 => ⟨S4096x17, .i32⟩
  | 127 => ⟨S4096x17, .i1⟩
  | _ => ⟨S4096x3, .f32⟩

abbrev hbmTy0_2 (i : Nat) : BufTy := match i % 128 with
  | 0 => ⟨S_, .i32⟩
  | 1 => ⟨S4096x17, .i32⟩
  | 2 => ⟨S4096x17, .i32⟩
  | 3 => ⟨S4096x17, .i32⟩
  | 4 => ⟨S4096x17x1, .i32⟩
  | 5 => ⟨S4096x17, .f32⟩
  | 6 => ⟨S4096x17, .f32⟩
  | 7 => ⟨S4096x17, .f32⟩
  | 8 => ⟨S4096x17, .f32⟩
  | 9 => ⟨S_, .f32⟩
  | 10 => ⟨S4096x17, .i1⟩
  | 11 => ⟨S_, .f32⟩
  | 12 => ⟨S4096x17, .f32⟩
  | 13 => ⟨S4096x17, .f32⟩
  | 14 => ⟨S_, .f32⟩
  | 15 => ⟨S4096x17, .f32⟩
  | 16 => ⟨S4096x17, .i1⟩
  | 17 => ⟨S_, .f32⟩
  | 18 => ⟨S4096x17, .f32⟩
  | 19 => ⟨S4096x17, .f32⟩
  | 20 => ⟨S_, .f32⟩
  | 21 => ⟨S4096x17, .f32⟩
  | 22 => ⟨S4096x17, .i1⟩
  | 23 => ⟨S_, .f32⟩
  | 24 => ⟨S4096x17, .f32⟩
  | 25 => ⟨S4096x17, .f32⟩
  | 26 => ⟨S_, .f32⟩
  | 27 => ⟨S_, .f32⟩
  | 28 => ⟨S_, .f32⟩
  | 29 => ⟨S4096x17, .f32⟩
  | 30 => ⟨S4096x17, .f32⟩
  | 31 => ⟨S_, .f32⟩
  | 32 => ⟨S4096x17, .f32⟩
  | 33 => ⟨S4096x17, .f32⟩
  | 34 => ⟨S4096x17, .f32⟩
  | 35 => ⟨S4096x17, .f32⟩
  | 36 => ⟨S4096x17, .f32⟩
  | 37 => ⟨S4096x16, .f32⟩
  | 38 => ⟨S4096x1, .f32⟩
  | 39 => ⟨S4096x80, .f32⟩
  | 40 => ⟨S4096x80, .i32⟩
  | 41 => ⟨S4096x80, .f32⟩
  | 42 => ⟨S4096x80, .i32⟩
  | 43 => ⟨S_, .i32⟩
  | 44 => ⟨S4096x80, .i32⟩
  | 45 => ⟨S4096x80, .i1⟩
  | 46 => ⟨S_, .i32⟩
  | 47 => ⟨S4096x80, .i32⟩
  | 48 => ⟨S4096x80, .i32⟩
  | 49 => ⟨S4096x80, .i32⟩
  | 50 => ⟨S4096x80x1, .i32⟩
  | 51 => ⟨S4096x80, .f32⟩
  | 52 => ⟨S4096x1, .f32⟩
  | 53 => ⟨S4096x1x3, .f32⟩
  | 54 => ⟨S4096x16x1, .f32⟩
  | 55 => ⟨S4096x1x3, .f32⟩
  | 56 => ⟨S4096x16x3, .f32⟩
  | 57 => ⟨S4096x16x3, .f32⟩
  | 58 => ⟨S4096x16x3, .f32⟩
  | 59 => ⟨S4096x16x3, .f32⟩
  | 60 => ⟨S4096x16x3, .f32⟩
  | 61 => ⟨S4096x16x128, .f32⟩
  | 62 => ⟨S1x1x128, .f32⟩
  | 63 => ⟨S4096x16x128, .f32⟩
  | 64 => ⟨S4096x16x128, .f32⟩
  | 65 => ⟨S_, .f32⟩
  | 66 => ⟨S4096x16x128, .f32⟩
  | 67 => ⟨S4096x16x128, .f32⟩
  | 68 => ⟨S4096x16x1, .f32⟩
  | 69 => ⟨S1x1x1, .f32⟩
  | 70 => ⟨S4096x16x1, .f32⟩
  | 71 => ⟨S4096x16x1, .f32⟩
  | 72 => ⟨S4096x16, .f32⟩
  | 73 => ⟨S4096x80, .f32⟩
  | 74 => ⟨S_, .i32⟩
  | 75 => ⟨S4096x80, .i32⟩
  | 76 => ⟨S4096x80, .i1⟩
  | 77 => ⟨S_, .i32⟩
  | 78 => ⟨S4096x80, .i32⟩
  | 79 => ⟨S4096x80, .i32⟩
  | 80 => ⟨S4096x80, .i32⟩
  | 81 => ⟨S4096x80x1, .i32⟩
  | 82 => ⟨S4096x80, .f32⟩
  | 83 => ⟨S4096x79, .f32⟩
  | 84 => ⟨S4096x79, .f32⟩
  | 85 => ⟨S4096x81, .f32⟩
  | 86 => ⟨S4096x80, .f32⟩
  | 87 => ⟨S4096x80, .f32⟩
  | 88 => ⟨S4096x80, .f32⟩
  | 89 => ⟨S4096x79, .f32⟩
  | 90 => ⟨S4096x79, .f32⟩
  | 91 => ⟨S_, .f32⟩
  | 92 => ⟨S4096x79, .f32⟩
  | 93 => ⟨S4096x79, .f32⟩
  | 94 => ⟨S4096x79, .f32⟩
  | 95 => ⟨S_, .f32⟩
  | 96 => ⟨S4096x79, .f32⟩
  | 97 => ⟨S4096x79, .f32⟩
  | 98 => ⟨S4096x79, .f32⟩
  | 99 => ⟨S4096x1, .f32⟩
  | 100 => ⟨S_, .f32⟩
  | 101 => ⟨S4096x1, .f32⟩
  | 102 => ⟨S4096x78, .f32⟩
  | 103 => ⟨S4096x79, .f32⟩
  | 104 => ⟨S4096x79, .f32⟩
  | 105 => ⟨S_, .f32⟩
  | 106 => ⟨S_, .f32⟩
  | 107 => ⟨S_, .f32⟩
  | 108 => ⟨S4096x79, .f32⟩
  | 109 => ⟨S4096x79, .f32⟩
  | 110 => ⟨S_, .f32⟩
  | 111 => ⟨S4096x79, .f32⟩
  | 112 => ⟨S4096x79, .f32⟩
  | 113 => ⟨S4096x79, .f32⟩
  | 114 => ⟨S_, .f32⟩
  | 115 => ⟨S4096x79, .f32⟩
  | 116 => ⟨S4096x79, .f32⟩
  | 117 => ⟨S4096x79, .f32⟩
  | 118 => ⟨S4096x79, .f32⟩
  | 119 => ⟨S_, .f32⟩
  | 120 => ⟨S4096x79, .f32⟩
  | 121 => ⟨S4096x79, .f32⟩
  | 122 => ⟨S4096x79, .f32⟩
  | 123 => ⟨S_, .f32⟩
  | 124 => ⟨S4096x79, .f32⟩
  | 125 => ⟨S4096x79, .f32⟩
  | 126 => ⟨S4096x79, .f32⟩
  | 127 => ⟨S4096x79, .f32⟩
  | _ => ⟨S4096x3, .f32⟩

abbrev hbmTy0_3 (i : Nat) : BufTy := match i % 128 with
  | 0 => ⟨S_, .f32⟩
  | 1 => ⟨S4096x79, .f32⟩
  | 2 => ⟨S4096x79, .f32⟩
  | 3 => ⟨S_, .f32⟩
  | 4 => ⟨S4096x79, .f32⟩
  | 5 => ⟨S4096x79, .f32⟩
  | 6 => ⟨S_, .f32⟩
  | 7 => ⟨S4096x79, .f32⟩
  | 8 => ⟨S4096x79, .f32⟩
  | 9 => ⟨S4096x79, .f32⟩
  | 10 => ⟨S4096x79, .f32⟩
  | 11 => ⟨S_, .f32⟩
  | 12 => ⟨S4096x79, .f32⟩
  | 13 => ⟨S4096x79, .f32⟩
  | 14 => ⟨S_, .f32⟩
  | 15 => ⟨S4096x79, .f32⟩
  | 16 => ⟨S4096x79, .f32⟩
  | 17 => ⟨S4096x79, .f32⟩
  | 18 => ⟨S_, .f32⟩
  | 19 => ⟨S4096x79, .f32⟩
  | 20 => ⟨S4096x79, .f32⟩
  | 21 => ⟨S_, .f32⟩
  | 22 => ⟨S4096x79, .f32⟩
  | 23 => ⟨S4096x79, .f32⟩
  | 24 => ⟨S4096x79, .f32⟩
  | 25 => ⟨S4096x1, .f32⟩
  | 26 => ⟨S_, .f32⟩
  | 27 => ⟨S4096x1, .f32⟩
  | 28 => ⟨S4096x80, .f32⟩
  | 29 => ⟨S4096x1, .f32⟩
  | 30 => ⟨S_, .f32⟩
  | 31 => ⟨S4096x1, .f32⟩
  | 32 => ⟨S4096x79, .f32⟩
  | 33 => ⟨S_, .f32⟩
  | 34 => ⟨S4096x79, .f32⟩
  | 35 => ⟨S4096x79, .f32⟩
  | 36 => ⟨S4096x80, .f32⟩
  | 37 => ⟨S4096x80, .f32⟩
  | 38 => ⟨S_, .f32⟩
  | 39 => ⟨S_, .f32⟩
  | 40 => ⟨S4096x80, .f32⟩
  | 41 => ⟨S4096x80, .f32⟩
  | 42 => ⟨S4096x80, .f32⟩
  | 43 => ⟨S_, .f32⟩
  | 44 => ⟨S4096x80, .f32⟩
  | 45 => ⟨S4096x80, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x80, .f32⟩
  | 59 => ⟨S4096x80, .f32⟩
  | 60 => ⟨S4096x1, .f32⟩
  | 61 => ⟨S4096x80, .f32⟩
  | 62 => ⟨S4096x80, .f32⟩
  | 63 => ⟨S_, .f32⟩
  | 64 => ⟨S_, .f32⟩
  | 65 => ⟨S4096x80, .f32⟩
  | 66 => ⟨S_, .f32⟩
  | 67 => ⟨S4096x80, .f32⟩
  | 68 => ⟨S4096x80, .f32⟩
  | 69 => ⟨S4096x1, .f32⟩
  | 70 => ⟨S_, .f32⟩
  | 71 => ⟨S4096x1, .f32⟩
  | 72 => ⟨S4096x81, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S16, .f32⟩
  | 81 => ⟨S_, .f32⟩
  | 82 => ⟨S16, .f32⟩
  | 83 => ⟨S16, .f32⟩
  | 84 => ⟨S1, .f32⟩
  | 85 => ⟨S_, .f32⟩
  | 86 => ⟨S16, .f32⟩
  | 87 => ⟨S16, .f32⟩
  | 88 => ⟨S16, .f32⟩
  | 89 => ⟨S16, .f32⟩
  | 90 => ⟨S1, .f32⟩
  | 91 => ⟨S16, .f32⟩
  | 92 => ⟨S16, .f32⟩
  | 93 => ⟨S16, .f32⟩
  | 94 => ⟨S1, .f32⟩
  | 95 => ⟨S17, .f32⟩
  | 96 => ⟨S_, .f32⟩
  | 97 => ⟨S17, .f32⟩
  | 98 => ⟨S17, .f32⟩
  | 99 => ⟨S4096x17, .f32⟩
  | 100 => ⟨S4096x81, .f32⟩
  | 101 => ⟨S4096x1x81, .f32⟩
  | 102 => ⟨S4096x17x1, .f32⟩
  | 103 => ⟨S4096x17x81, .f32⟩
  | 104 => ⟨S4096x17x81, .f32⟩
  | 105 => ⟨S4096x17x81, .i1⟩
  | 106 => ⟨S4096x17x81, .i32⟩
  | 107 => ⟨S_, .i32⟩
  | 108 => ⟨S4096x17, .i32⟩
  | 109 => ⟨S_, .i32⟩
  | 110 => ⟨S4096x17, .i32⟩
  | 111 => ⟨S4096x17, .i32⟩
  | 112 => ⟨S_, .i32⟩
  | 113 => ⟨S_, .i32⟩
  | 114 => ⟨S_, .i32⟩
  | 115 => ⟨S4096x17, .i32⟩
  | 116 => ⟨S4096x17, .i32⟩
  | 117 => ⟨S_, .i32⟩
  | 118 => ⟨S4096x17, .i32⟩
  | 119 => ⟨S4096x17, .i32⟩
  | 120 => ⟨S_, .i32⟩
  | 121 => ⟨S_, .i32⟩
  | 122 => ⟨S_, .i32⟩
  | 123 => ⟨S4096x17, .i32⟩
  | 124 => ⟨S4096x17, .i32⟩
  | 125 => ⟨S_, .i32⟩
  | 126 => ⟨S4096x17, .i32⟩
  | 127 => ⟨S4096x17, .i32⟩
  | _ => ⟨S4096x3, .f32⟩

abbrev hbmTy0_4 (i : Nat) : BufTy := match i % 128 with
  | 0 => ⟨S_, .i32⟩
  | 1 => ⟨S4096x17, .i32⟩
  | 2 => ⟨S4096x17, .i1⟩
  | 3 => ⟨S_, .i32⟩
  | 4 => ⟨S4096x17, .i32⟩
  | 5 => ⟨S4096x17, .i32⟩
  | 6 => ⟨S4096x17, .i32⟩
  | 7 => ⟨S4096x17x1, .i32⟩
  | 8 => ⟨S4096x17, .f32⟩
  | 9 => ⟨S_, .i32⟩
  | 10 => ⟨S4096x17, .i32⟩
  | 11 => ⟨S4096x17, .i1⟩
  | 12 => ⟨S_, .i32⟩
  | 13 => ⟨S4096x17, .i32⟩
  | 14 => ⟨S4096x17, .i32⟩
  | 15 => ⟨S4096x17, .i32⟩
  | 16 => ⟨S4096x17x1, .i32⟩
  | 17 => ⟨S4096x17, .f32⟩
  | 18 => ⟨S_, .i32⟩
  | 19 => ⟨S4096x17, .i32⟩
  | 20 => ⟨S4096x17, .i1⟩
  | 21 => ⟨S_, .i32⟩
  | 22 => ⟨S4096x17, .i32⟩
  | 23 => ⟨S4096x17, .i32⟩
  | 24 => ⟨S4096x17, .i32⟩
  | 25 => ⟨S4096x17x1, .i32⟩
  | 26 => ⟨S4096x17, .f32⟩
  | 27 => ⟨S_, .i32⟩
  | 28 => ⟨S4096x17, .i32⟩
  | 29 => ⟨S4096x17, .i1⟩
  | 30 => ⟨S_, .i32⟩
  | 31 => ⟨S4096x17, .i32⟩
  | 32 => ⟨S4096x17, .i32⟩
  | 33 => ⟨S4096x17, .i32⟩
  | 34 => ⟨S4096x17x1, .i32⟩
  | 35 => ⟨S4096x17, .f32⟩
  | 36 => ⟨S4096x17, .f32⟩
  | 37 => ⟨S4096x17, .f32⟩
  | 38 => ⟨S4096x17, .f32⟩
  | 39 => ⟨S_, .f32⟩
  | 40 => ⟨S4096x17, .i1⟩
  | 41 => ⟨S_, .f32⟩
  | 42 => ⟨S4096x17, .f32⟩
  | 43 => ⟨S4096x17, .f32⟩
  | 44 => ⟨S_, .f32⟩
  | 45 => ⟨S4096x17, .f32⟩
  | 46 => ⟨S4096x17, .i1⟩
  | 47 => ⟨S_, .f32⟩
  | 48 => ⟨S4096x17, .f32⟩
  | 49 => ⟨S4096x17, .f32⟩
  | 50 => ⟨S_, .f32⟩
  | 51 => ⟨S4096x17, .f32⟩
  | 52 => ⟨S4096x17, .i1⟩
  | 53 => ⟨S_, .f32⟩
  | 54 => ⟨S4096x17, .f32⟩
  | 55 => ⟨S4096x17, .f32⟩
  | 56 => ⟨S_, .f32⟩
  | 57 => ⟨S_, .f32⟩
  | 58 => ⟨S_, .f32⟩
  | 59 => ⟨S4096x17, .f32⟩
  | 60 => ⟨S4096x17, .f32⟩
  | 61 => ⟨S_, .f32⟩
  | 62 => ⟨S4096x17, .f32⟩
  | 63 => ⟨S4096x17, .f32⟩
  | 64 => ⟨S4096x17, .f32⟩
  | 65 => ⟨S4096x17, .f32⟩
  | 66 => ⟨S4096x17, .f32⟩
  | 67 => ⟨S4096x16, .f32⟩
  | 68 => ⟨S4096x1, .f32⟩
  | 69 => ⟨S4096x96, .f32⟩
  | 70 => ⟨S4096x96, .i32⟩
  | 71 => ⟨S4096x96, .f32⟩
  | 72 => ⟨S4096x96, .i32⟩
  | 73 => ⟨S_, .i32⟩
  | 74 => ⟨S4096x96, .i32⟩
  | 75 => ⟨S4096x96, .i1⟩
  | 76 => ⟨S_, .i32⟩
  | 77 => ⟨S4096x96, .i32⟩
  | 78 => ⟨S4096x96, .i32⟩
  | 79 => ⟨S4096x96, .i32⟩
  | 80 => ⟨S4096x96x1, .i32⟩
  | 81 => ⟨S4096x96, .f32⟩
  | 82 => ⟨S4096x1, .f32⟩
  | 83 => ⟨S4096x1x3, .f32⟩
  | 84 => ⟨S4096x16x1, .f32⟩
  | 85 => ⟨S4096x1x3, .f32⟩
  | 86 => ⟨S4096x16x3, .f32⟩
  | 87 => ⟨S4096x16x3, .f32⟩
  | 88 => ⟨S4096x16x3, .f32⟩
  | 89 => ⟨S4096x16x3, .f32⟩
  | 90 => ⟨S4096x16x3, .f32⟩
  | 91 => ⟨S4096x16x128, .f32⟩
  | 92 => ⟨S1x1x128, .f32⟩
  | 93 => ⟨S4096x16x128, .f32⟩
  | 94 => ⟨S4096x16x128, .f32⟩
  | 95 => ⟨S_, .f32⟩
  | 96 => ⟨S4096x16x128, .f32⟩
  | 97 => ⟨S4096x16x128, .f32⟩
  | 98 => ⟨S4096x16x1, .f32⟩
  | 99 => ⟨S1x1x1, .f32⟩
  | 100 => ⟨S4096x16x1, .f32⟩
  | 101 => ⟨S4096x16x1, .f32⟩
  | 102 => ⟨S4096x16, .f32⟩
  | 103 => ⟨S4096x96, .f32⟩
  | 104 => ⟨S_, .i32⟩
  | 105 => ⟨S4096x96, .i32⟩
  | 106 => ⟨S4096x96, .i1⟩
  | 107 => ⟨S_, .i32⟩
  | 108 => ⟨S4096x96, .i32⟩
  | 109 => ⟨S4096x96, .i32⟩
  | 110 => ⟨S4096x96, .i32⟩
  | 111 => ⟨S4096x96x1, .i32⟩
  | 112 => ⟨S4096x96, .f32⟩
  | 113 => ⟨S4096x95, .f32⟩
  | 114 => ⟨S4096x95, .f32⟩
  | 115 => ⟨S4096x97, .f32⟩
  | 116 => ⟨S4096x96, .f32⟩
  | 117 => ⟨S4096x96, .f32⟩
  | 118 => ⟨S4096x96, .f32⟩
  | 119 => ⟨S4096x95, .f32⟩
  | 120 => ⟨S4096x95, .f32⟩
  | 121 => ⟨S_, .f32⟩
  | 122 => ⟨S4096x95, .f32⟩
  | 123 => ⟨S4096x95, .f32⟩
  | 124 => ⟨S4096x95, .f32⟩
  | 125 => ⟨S_, .f32⟩
  | 126 => ⟨S4096x95, .f32⟩
  | 127 => ⟨S4096x95, .f32⟩
  | _ => ⟨S4096x3, .f32⟩

abbrev hbmTy0_5 (i : Nat) : BufTy := match i % 128 with
  | 0 => ⟨S4096x95, .f32⟩
  | 1 => ⟨S4096x1, .f32⟩
  | 2 => ⟨S_, .f32⟩
  | 3 => ⟨S4096x1, .f32⟩
  | 4 => ⟨S4096x94, .f32⟩
  | 5 => ⟨S4096x95, .f32⟩
  | 6 => ⟨S4096x95, .f32⟩
  | 7 => ⟨S_, .f32⟩
  | 8 => ⟨S_, .f32⟩
  | 9 => ⟨S_, .f32⟩
  | 10 => ⟨S4096x95, .f32⟩
  | 11 => ⟨S4096x95, .f32⟩
  | 12 => ⟨S_, .f32⟩
  | 13 => ⟨S4096x95, .f32⟩
  | 14 => ⟨S4096x95, .f32⟩
  | 15 => ⟨S4096x95, .f32⟩
  | 16 => ⟨S_, .f32⟩
  | 17 => ⟨S4096x95, .f32⟩
  | 18 => ⟨S4096x95, .f32⟩
  | 19 => ⟨S4096x95, .f32⟩
  | 20 => ⟨S4096x95, .f32⟩
  | 21 => ⟨S_, .f32⟩
  | 22 => ⟨S4096x95, .f32⟩
  | 23 => ⟨S4096x95, .f32⟩
  | 24 => ⟨S4096x95, .f32⟩
  | 25 => ⟨S_, .f32⟩
  | 26 => ⟨S4096x95, .f32⟩
  | 27 => ⟨S4096x95, .f32⟩
  | 28 => ⟨S4096x95, .f32⟩
  | 29 => ⟨S4096x95, .f32⟩
  | 30 => ⟨S_, .f32⟩
  | 31 => ⟨S4096x95, .f32⟩
  | 32 => ⟨S4096x95, .f32⟩
  | 33 => ⟨S_, .f32⟩
  | 34 => ⟨S4096x95, .f32⟩
  | 35 => ⟨S4096x95, .f32⟩
  | 36 => ⟨S_, .f32⟩
  | 37 => ⟨S4096x95, .f32⟩
  | 38 => ⟨S4096x95, .f32⟩
  | 39 => ⟨S4096x95, .f32⟩
  | 40 => ⟨S4096x95, .f32⟩
  | 41 => ⟨S_, .f32⟩
  | 42 => ⟨S4096x95, .f32⟩
  | 43 => ⟨S4096x95, .f32⟩
  | 44 => ⟨S_, .f32⟩
  | 45 => ⟨S4096x95, .f32⟩
  | 46 => ⟨S4096x95, .f32⟩
  | 47 => ⟨S4096x95, .f32⟩
  | 48 => ⟨S_, .f32⟩
  | 49 => ⟨S4096x95, .f32⟩
  | 50 => ⟨S4096x95, .f32⟩
  | 51 => ⟨S_, .f32⟩
  | 52 => ⟨S4096x95, .f32⟩
  | 53 => ⟨S4096x95, .f32⟩
  | 54 => ⟨S4096x95, .f32⟩
  | 55 => ⟨S4096x1, .f32⟩
  | 56 => ⟨S_, .f32⟩
  | 57 => ⟨S4096x1, .f32⟩
  | 58 => ⟨S4096x96, .f32⟩
  | 59 => ⟨S4096x1, .f32⟩
  | 60 => ⟨S_, .f32⟩
  | 61 => ⟨S4096x1, .f32⟩
  | 62 => ⟨S4096x95, .f32⟩
  | 63 => ⟨S_, .f32⟩
  | 64 => ⟨S4096x95, .f32⟩
  | 65 => ⟨S4096x95, .f32⟩
  | 66 => ⟨S4096x96, .f32⟩
  | 67 => ⟨S4096x96, .f32⟩
  | 68 => ⟨S_, .f32⟩
  | 69 => ⟨S_, .f32⟩
  | 70 => ⟨S4096x96, .f32⟩
  | 71 => ⟨S4096x96, .f32⟩
  | 72 => ⟨S4096x96, .f32⟩
  | 73 => ⟨S_, .f32⟩
  | 74 => ⟨S4096x96, .f32⟩
  | 75 => ⟨S4096x96, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S_, .f32⟩
  | 86 => ⟨S4096x1, .f32⟩
  | 87 => ⟨S4096x1, .f32⟩
  | 88 => ⟨S4096x96, .f32⟩
  | 89 => ⟨S4096x96, .f32⟩
  | 90 => ⟨S4096x1, .f32⟩
  | 91 => ⟨S4096x96, .f32⟩
  | 92 => ⟨S4096x96, .f32⟩
  | 93 => ⟨S_, .f32⟩
  | 94 => ⟨S_, .f32⟩
  | 95 => ⟨S4096x96, .f32⟩
  | 96 => ⟨S_, .f32⟩
  | 97 => ⟨S4096x96, .f32⟩
  | 98 => ⟨S4096x96, .f32⟩
  | 99 => ⟨S4096x1, .f32⟩
  | 100 => ⟨S_, .f32⟩
  | 101 => ⟨S4096x1, .f32⟩
  | 102 => ⟨S4096x97, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S16, .f32⟩
  | 111 => ⟨S_, .f32⟩
  | 112 => ⟨S16, .f32⟩
  | 113 => ⟨S16, .f32⟩
  | 114 => ⟨S1, .f32⟩
  | 115 => ⟨S_, .f32⟩
  | 116 => ⟨S16, .f32⟩
  | 117 => ⟨S16, .f32⟩
  | 118 => ⟨S16, .f32⟩
  | 119 => ⟨S16, .f32⟩
  | 120 => ⟨S1, .f32⟩
  | 121 => ⟨S16, .f32⟩
  | 122 => ⟨S16, .f32⟩
  | 123 => ⟨S16, .f32⟩
  | 124 => ⟨S1, .f32⟩
  | 125 => ⟨S17, .f32⟩
  | 126 => ⟨S_, .f32⟩
  | 127 => ⟨S17, .f32⟩
  | _ => ⟨S4096x3, .f32⟩

abbrev hbmTy0_6 (i : Nat) : BufTy := match i % 128 with
  | 0 => ⟨S17, .f32⟩
  | 1 => ⟨S4096x17, .f32⟩
  | 2 => ⟨S4096x97, .f32⟩
  | 3 => ⟨S4096x1x97, .f32⟩
  | 4 => ⟨S4096x17x1, .f32⟩
  | 5 => ⟨S4096x17x97, .f32⟩
  | 6 => ⟨S4096x17x97, .f32⟩
  | 7 => ⟨S4096x17x97, .i1⟩
  | 8 => ⟨S4096x17x97, .i32⟩
  | 9 => ⟨S_, .i32⟩
  | 10 => ⟨S4096x17, .i32⟩
  | 11 => ⟨S_, .i32⟩
  | 12 => ⟨S4096x17, .i32⟩
  | 13 => ⟨S4096x17, .i32⟩
  | 14 => ⟨S_, .i32⟩
  | 15 => ⟨S_, .i32⟩
  | 16 => ⟨S_, .i32⟩
  | 17 => ⟨S4096x17, .i32⟩
  | 18 => ⟨S4096x17, .i32⟩
  | 19 => ⟨S_, .i32⟩
  | 20 => ⟨S4096x17, .i32⟩
  | 21 => ⟨S4096x17, .i32⟩
  | 22 => ⟨S_, .i32⟩
  | 23 => ⟨S_, .i32⟩
  | 24 => ⟨S_, .i32⟩
  | 25 => ⟨S4096x17, .i32⟩
  | 26 => ⟨S4096x17, .i32⟩
  | 27 => ⟨S_, .i32⟩
  | 28 => ⟨S4096x17, .i32⟩
  | 29 => ⟨S4096x17, .i32⟩
  | 30 => ⟨S_, .i32⟩
  | 31 => ⟨S4096x17, .i32⟩
  | 32 => ⟨S4096x17, .i1⟩
  | 33 => ⟨S_, .i32⟩
  | 34 => ⟨S4096x17, .i32⟩
  | 35 => ⟨S4096x17, .i32⟩
  | 36 => ⟨S4096x17, .i32⟩
  | 37 => ⟨S4096x17x1, .i32⟩
  | 38 => ⟨S4096x17, .f32⟩
  | 39 => ⟨S_, .i32⟩
  | 40 => ⟨S4096x17, .i32⟩
  | 41 => ⟨S4096x17, .i1⟩
  | 42 => ⟨S_, .i32⟩
  | 43 => ⟨S4096x17, .i32⟩
  | 44 => ⟨S4096x17, .i32⟩
  | 45 => ⟨S4096x17, .i32⟩
  | 46 => ⟨S4096x17x1, .i32⟩
  | 47 => ⟨S4096x17, .f32⟩
  | 48 => ⟨S_, .i32⟩
  | 49 => ⟨S4096x17, .i32⟩
  | 50 => ⟨S4096x17, .i1⟩
  | 51 => ⟨S_, .i32⟩
  | 52 => ⟨S4096x17, .i32⟩
  | 53 => ⟨S4096x17, .i32⟩
  | 54 => ⟨S4096x17, .i32⟩
  | 55 => ⟨S4096x17x1, .i32⟩
  | 56 => ⟨S4096x17, .f32⟩
  | 57 => ⟨S_, .i32⟩
  | 58 => ⟨S4096x17, .i32⟩
  | 59 => ⟨S4096x17, .i1⟩
  | 60 => ⟨S_, .i32⟩
  | 61 => ⟨S4096x17, .i32⟩
  | 62 => ⟨S4096x17, .i32⟩
  | 63 => ⟨S4096x17, .i32⟩
  | 64 => ⟨S4096x17x1, .i32⟩
  | 65 => ⟨S4096x17, .f32⟩
  | 66 => ⟨S4096x17, .f32⟩
  | 67 => ⟨S4096x17, .f32⟩
  | 68 => ⟨S4096x17, .f32⟩
  | 69 => ⟨S_, .f32⟩
  | 70 => ⟨S4096x17, .i1⟩
  | 71 => ⟨S_, .f32⟩
  | 72 => ⟨S4096x17, .f32⟩
  | 73 => ⟨S4096x17, .f32⟩
  | 74 => ⟨S_, .f32⟩
  | 75 => ⟨S4096x17, .f32⟩
  | 76 => ⟨S4096x17, .i1⟩
  | 77 => ⟨S_, .f32⟩
  | 78 => ⟨S4096x17, .f32⟩
  | 79 => ⟨S4096x17, .f32⟩
  | 80 => ⟨S_, .f32⟩
  | 81 => ⟨S4096x17, .f32⟩
  | 82 => ⟨S4096x17, .i1⟩
  | 83 => ⟨S_, .f32⟩
  | 84 => ⟨S4096x17, .f32⟩
  | 85 => ⟨S4096x17, .f32⟩
  | 86 => ⟨S_, .f32⟩
  | 87 => ⟨S_, .f32⟩
  | 88 => ⟨S_, .f32⟩
  | 89 => ⟨S4096x17, .f32⟩
  | 90 => ⟨S4096x17, .f32⟩
  | 91 => ⟨S_, .f32⟩
  | 92 => ⟨S4096x17, .f32⟩
  | 93 => ⟨S4096x17, .f32⟩
  | 94 => ⟨S4096x17, .f32⟩
  | 95 => ⟨S4096x17, .f32⟩
  | 96 => ⟨S4096x17, .f32⟩
  | 97 => ⟨S4096x16, .f32⟩
  | 98 => ⟨S4096x1, .f32⟩
  | 99 => ⟨S4096x112, .f32⟩
  | 100 => ⟨S4096x112, .i32⟩
  | 101 => ⟨S4096x112, .f32⟩
  | 102 => ⟨S4096x112, .i32⟩
  | 103 => ⟨S_, .i32⟩
  | 104 => ⟨S4096x112, .i32⟩
  | 105 => ⟨S4096x112, .i1⟩
  | 106 => ⟨S_, .i32⟩
  | 107 => ⟨S4096x112, .i32⟩
  | 108 => ⟨S4096x112, .i32⟩
  | 109 => ⟨S4096x112, .i32⟩
  | 110 => ⟨S4096x112x1, .i32⟩
  | 111 => ⟨S4096x112, .f32⟩
  | 112 => ⟨S4096x1, .f32⟩
  | 113 => ⟨S4096x1x3, .f32⟩
  | 114 => ⟨S4096x16x1, .f32⟩
  | 115 => ⟨S4096x1x3, .f32⟩
  | 116 => ⟨S4096x16x3, .f32⟩
  | 117 => ⟨S4096x16x3, .f32⟩
  | 118 => ⟨S4096x16x3, .f32⟩
  | 119 => ⟨S4096x16x3, .f32⟩
  | 120 => ⟨S4096x16x3, .f32⟩
  | 121 => ⟨S4096x16x128, .f32⟩
  | 122 => ⟨S1x1x128, .f32⟩
  | 123 => ⟨S4096x16x128, .f32⟩
  | 124 => ⟨S4096x16x128, .f32⟩
  | 125 => ⟨S_, .f32⟩
  | 126 => ⟨S4096x16x128, .f32⟩
  | 127 => ⟨S4096x16x128, .f32⟩
  | _ => ⟨S4096x3, .f32⟩

abbrev hbmTy0_7 (i : Nat) : BufTy := match i % 128 with
  | 0 => ⟨S4096x16x1, .f32⟩
  | 1 => ⟨S1x1x1, .f32⟩
  | 2 => ⟨S4096x16x1, .f32⟩
  | 3 => ⟨S4096x16x1, .f32⟩
  | 4 => ⟨S4096x16, .f32⟩
  | 5 => ⟨S4096x112, .f32⟩
  | 6 => ⟨S_, .i32⟩
  | 7 => ⟨S4096x112, .i32⟩
  | 8 => ⟨S4096x112, .i1⟩
  | 9 => ⟨S_, .i32⟩
  | 10 => ⟨S4096x112, .i32⟩
  | 11 => ⟨S4096x112, .i32⟩
  | 12 => ⟨S4096x112, .i32⟩
  | 13 => ⟨S4096x112x1, .i32⟩
  | 14 => ⟨S4096x112, .f32⟩
  | 15 => ⟨S4096x111, .f32⟩
  | 16 => ⟨S4096x111, .f32⟩
  | 17 => ⟨S4096x113, .f32⟩
  | 18 => ⟨S4096x112, .f32⟩
  | 19 => ⟨S4096x112, .f32⟩
  | 20 => ⟨S4096x112, .f32⟩
  | 21 => ⟨S4096x111, .f32⟩
  | 22 => ⟨S4096x111, .f32⟩
  | 23 => ⟨S_, .f32⟩
  | 24 => ⟨S4096x111, .f32⟩
  | 25 => ⟨S4096x111, .f32⟩
  | 26 => ⟨S4096x111, .f32⟩
  | 27 => ⟨S_, .f32⟩
  | 28 => ⟨S4096x111, .f32⟩
  | 29 => ⟨S4096x111, .f32⟩
  | 30 => ⟨S4096x111, .f32⟩
  | 31 => ⟨S4096x1, .f32⟩
  | 32 => ⟨S_, .f32⟩
  | 33 => ⟨S4096x1, .f32⟩
  | 34 => ⟨S4096x110, .f32⟩
  | 35 => ⟨S4096x111, .f32⟩
  | 36 => ⟨S4096x111, .f32⟩
  | 37 => ⟨S_, .f32⟩
  | 38 => ⟨S_, .f32⟩
  | 39 => ⟨S_, .f32⟩
  | 40 => ⟨S4096x111, .f32⟩
  | 41 => ⟨S4096x111, .f32⟩
  | 42 => ⟨S_, .f32⟩
  | 43 => ⟨S4096x111, .f32⟩
  | 44 => ⟨S4096x111, .f32⟩
  | 45 => ⟨S4096x111, .f32⟩
  | 46 => ⟨S_, .f32⟩
  | 47 => ⟨S4096x111, .f32⟩
  | 48 => ⟨S4096x111, .f32⟩
  | 49 => ⟨S4096x111, .f32⟩
  | 50 => ⟨S4096x111, .f32⟩
  | 51 => ⟨S_, .f32⟩
  | 52 => ⟨S4096x111, .f32⟩
  | 53 => ⟨S4096x111, .f32⟩
  | 54 => ⟨S4096x111, .f32⟩
  | 55 => ⟨S_, .f32⟩
  | 56 => ⟨S4096x111, .f32⟩
  | 57 => ⟨S4096x111, .f32⟩
  | 58 => ⟨S4096x111, .f32⟩
  | 59 => ⟨S4096x111, .f32⟩
  | 60 => ⟨S_, .f32⟩
  | 61 => ⟨S4096x111, .f32⟩
  | 62 => ⟨S4096x111, .f32⟩
  | 63 => ⟨S_, .f32⟩
  | 64 => ⟨S4096x111, .f32⟩
  | 65 => ⟨S4096x111, .f32⟩
  | 66 => ⟨S_, .f32⟩
  | 67 => ⟨S4096x111, .f32⟩
  | 68 => ⟨S4096x111, .f32⟩
  | 69 => ⟨S4096x111, .f32⟩
  | 70 => ⟨S4096x111, .f32⟩
  | 71 => ⟨S_, .f32⟩
  | 72 => ⟨S4096x111, .f32⟩
  | 73 => ⟨S4096x111, .f32⟩
  | 74 => ⟨S_, .f32⟩
  | 75 => ⟨S4096x111, .f32⟩
  | 76 => ⟨S4096x111, .f32⟩
  | 77 => ⟨S4096x111, .f32⟩
  | 78 => ⟨S_, .f32⟩
  | 79 => ⟨S4096x111, .f32⟩
  | 80 => ⟨S4096x111, .f32⟩
  | 81 => ⟨S_, .f32⟩
  | 82 => ⟨S4096x111, .f32⟩
  | 83 => ⟨S4096x111, .f32⟩
  | 84 => ⟨S4096x111, .f32⟩
  | 85 => ⟨S4096x1, .f32⟩
  | 86 => ⟨S_, .f32⟩
  | 87 => ⟨S4096x1, .f32⟩
  | 88 => ⟨S4096x112, .f32⟩
  | 89 => ⟨S4096x1, .f32⟩
  | 90 => ⟨S_, .f32⟩
  | 91 => ⟨S4096x1, .f32⟩
  | 92 => ⟨S4096x111, .f32⟩
  | 93 => ⟨S_, .f32⟩
  | 94 => ⟨S4096x111, .f32⟩
  | 95 => ⟨S4096x111, .f32⟩
  | 96 => ⟨S4096x112, .f32⟩
  | 97 => ⟨S4096x112, .f32⟩
  | 98 => ⟨S_, .f32⟩
  | 99 => ⟨S_, .f32⟩
  | 100 => ⟨S4096x112, .f32⟩
  | 101 => ⟨S4096x112, .f32⟩
  | 102 => ⟨S4096x112, .f32⟩
  | 103 => ⟨S_, .f32⟩
  | 104 => ⟨S4096x112, .f32⟩
  | 105 => ⟨S4096x112, .f32⟩
  | 106 => ⟨S_, .f32⟩
  | 107 => ⟨S4096, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096x1, .f32⟩
  | 117 => ⟨S4096x1, .f32⟩
  | 118 => ⟨S4096x112, .f32⟩
  | 119 => ⟨S4096x112, .f32⟩
  | 120 => ⟨S4096x1, .f32⟩
  | 121 => ⟨S4096x112, .f32⟩
  | 122 => ⟨S4096x112, .f32⟩
  | 123 => ⟨S_, .f32⟩
  | 124 => ⟨S_, .f32⟩
  | 125 => ⟨S4096x112, .f32⟩
  | 126 => ⟨S_, .f32⟩
  | 127 => ⟨S4096x112, .f32⟩
  | _ => ⟨S4096x3, .f32⟩

abbrev hbmTy0_8 (i : Nat) : BufTy := match i % 128 with
  | 0 => ⟨S4096x112, .f32⟩
  | 1 => ⟨S4096x1, .f32⟩
  | 2 => ⟨S_, .f32⟩
  | 3 => ⟨S4096x1, .f32⟩
  | 4 => ⟨S4096x113, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S16, .f32⟩
  | 13 => ⟨S_, .f32⟩
  | 14 => ⟨S16, .f32⟩
  | 15 => ⟨S16, .f32⟩
  | 16 => ⟨S1, .f32⟩
  | 17 => ⟨S_, .f32⟩
  | 18 => ⟨S16, .f32⟩
  | 19 => ⟨S16, .f32⟩
  | 20 => ⟨S16, .f32⟩
  | 21 => ⟨S16, .f32⟩
  | 22 => ⟨S1, .f32⟩
  | 23 => ⟨S16, .f32⟩
  | 24 => ⟨S16, .f32⟩
  | 25 => ⟨S16, .f32⟩
  | 26 => ⟨S1, .f32⟩
  | 27 => ⟨S17, .f32⟩
  | 28 => ⟨S_, .f32⟩
  | 29 => ⟨S17, .f32⟩
  | 30 => ⟨S17, .f32⟩
  | 31 => ⟨S4096x17, .f32⟩
  | 32 => ⟨S4096x113, .f32⟩
  | 33 => ⟨S4096x1x113, .f32⟩
  | 34 => ⟨S4096x17x1, .f32⟩
  | 35 => ⟨S4096x17x113, .f32⟩
  | 36 => ⟨S4096x17x113, .f32⟩
  | 37 => ⟨S4096x17x113, .i1⟩
  | 38 => ⟨S4096x17x113, .i32⟩
  | 39 => ⟨S_, .i32⟩
  | 40 => ⟨S4096x17, .i32⟩
  | 41 => ⟨S_, .i32⟩
  | 42 => ⟨S4096x17, .i32⟩
  | 43 => ⟨S4096x17, .i32⟩
  | 44 => ⟨S_, .i32⟩
  | 45 => ⟨S_, .i32⟩
  | 46 => ⟨S_, .i32⟩
  | 47 => ⟨S4096x17, .i32⟩
  | 48 => ⟨S4096x17, .i32⟩
  | 49 => ⟨S_, .i32⟩
  | 50 => ⟨S4096x17, .i32⟩
  | 51 => ⟨S4096x17, .i32⟩
  | 52 => ⟨S_, .i32⟩
  | 53 => ⟨S_, .i32⟩
  | 54 => ⟨S_, .i32⟩
  | 55 => ⟨S4096x17, .i32⟩
  | 56 => ⟨S4096x17, .i32⟩
  | 57 => ⟨S_, .i32⟩
  | 58 => ⟨S4096x17, .i32⟩
  | 59 => ⟨S4096x17, .i32⟩
  | 60 => ⟨S_, .i32⟩
  | 61 => ⟨S4096x17, .i32⟩
  | 62 => ⟨S4096x17, .i1⟩
  | 63 => ⟨S_, .i32⟩
  | 64 => ⟨S4096x17, .i32⟩
  | 65 => ⟨S4096x17, .i32⟩
  | 66 => ⟨S4096x17, .i32⟩
  | 67 => ⟨S4096x17x1, .i32⟩
  | 68 => ⟨S4096x17, .f32⟩
  | 69 => ⟨S_, .i32⟩
  | 70 => ⟨S4096x17, .i32⟩
  | 71 => ⟨S4096x17, .i1⟩
  | 72 => ⟨S_, .i32⟩
  | 73 => ⟨S4096x17, .i32⟩
  | 74 => ⟨S4096x17, .i32⟩
  | 75 => ⟨S4096x17, .i32⟩
  | 76 => ⟨S4096x17x1, .i32⟩
  | 77 => ⟨S4096x17, .f32⟩
  | 78 => ⟨S_, .i32⟩
  | 79 => ⟨S4096x17, .i32⟩
  | 80 => ⟨S4096x17, .i1⟩
  | 81 => ⟨S_, .i32⟩
  | 82 => ⟨S4096x17, .i32⟩
  | 83 => ⟨S4096x17, .i32⟩
  | 84 => ⟨S4096x17, .i32⟩
  | 85 => ⟨S4096x17x1, .i32⟩
  | 86 => ⟨S4096x17, .f32⟩
  | 87 => ⟨S_, .i32⟩
  | 88 => ⟨S4096x17, .i32⟩
  | 89 => ⟨S4096x17, .i1⟩
  | 90 => ⟨S_, .i32⟩
  | 91 => ⟨S4096x17, .i32⟩
  | 92 => ⟨S4096x17, .i32⟩
  | 93 => ⟨S4096x17, .i32⟩
  | 94 => ⟨S4096x17x1, .i32⟩
  | 95 => ⟨S4096x17, .f32⟩
  | 96 => ⟨S4096x17, .f32⟩
  | 97 => ⟨S4096x17, .f32⟩
  | 98 => ⟨S4096x17, .f32⟩
  | 99 => ⟨S_, .f32⟩
  | 100 => ⟨S4096x17, .i1⟩
  | 101 => ⟨S_, .f32⟩
  | 102 => ⟨S4096x17, .f32⟩
  | 103 => ⟨S4096x17, .f32⟩
  | 104 => ⟨S_, .f32⟩
  | 105 => ⟨S4096x17, .f32⟩
  | 106 => ⟨S4096x17, .i1⟩
  | 107 => ⟨S_, .f32⟩
  | 108 => ⟨S4096x17, .f32⟩
  | 109 => ⟨S4096x17, .f32⟩
  | 110 => ⟨S_, .f32⟩
  | 111 => ⟨S4096x17, .f32⟩
  | 112 => ⟨S4096x17, .i1⟩
  | 113 => ⟨S_, .f32⟩
  | 114 => ⟨S4096x17, .f32⟩
  | 115 => ⟨S4096x17, .f32⟩
  | 116 => ⟨S_, .f32⟩
  | 117 => ⟨S_, .f32⟩
  | 118 => ⟨S_, .f32⟩
  | 119 => ⟨S4096x17, .f32⟩
  | 120 => ⟨S4096x17, .f32⟩
  | 121 => ⟨S_, .f32⟩
  | 122 => ⟨S4096x17, .f32⟩
  | 123 => ⟨S4096x17, .f32⟩
  | 124 => ⟨S4096x17, .f32⟩
  | 125 => ⟨S4096x17, .f32⟩
  | 126 => ⟨S4096x17, .f32⟩
  | 127 => ⟨S4096x16, .f32⟩
  | _ => ⟨S4096x3, .f32⟩

abbrev hbmTy0_9 (i : Nat) : BufTy := match i % 128 with
  | 0 => ⟨S4096x1, .f32⟩
  | 1 => ⟨S4096x128, .f32⟩
  | 2 => ⟨S4096x128, .i32⟩
  | 3 => ⟨S4096x128, .f32⟩
  | 4 => ⟨S4096x128, .i32⟩
  | 5 => ⟨S_, .i32⟩
  | 6 => ⟨S4096x128, .i32⟩
  | 7 => ⟨S4096x128, .i1⟩
  | 8 => ⟨S_, .i32⟩
  | 9 => ⟨S4096x128, .i32⟩
  | 10 => ⟨S4096x128, .i32⟩
  | 11 => ⟨S4096x128, .i32⟩
  | 12 => ⟨S4096x128x1, .i32⟩
  | 13 => ⟨S4096x128, .f32⟩
  | 14 => ⟨S4096x1, .f32⟩
  | _ => ⟨S4096x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_call1_cst : Ref sig .tc := ⟨.hbm, 45, rfl⟩
abbrev main_call1_v0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_1 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_2 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_3 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_4 : Ref sig .tc := ⟨.hbm, 75, rfl⟩
abbrev main_cst_5 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v42 : Ref sig .tc := ⟨.hbm, 82, rfl⟩
abbrev main_v43 : Ref sig .tc := ⟨.hbm, 83, rfl⟩
abbrev main_cst_6 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_7 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_8 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_9 : Ref sig .tc := ⟨.hbm, 98, rfl⟩
abbrev main_v55 : Ref sig .tc := ⟨.hbm, 99, rfl⟩
abbrev main_v56 : Ref sig .tc := ⟨.hbm, 100, rfl⟩
abbrev main_cst_10 : Ref sig .tc := ⟨.hbm, 101, rfl⟩
abbrev main_v57 : Ref sig .tc := ⟨.hbm, 102, rfl⟩
abbrev main_v58 : Ref sig .tc := ⟨.hbm, 103, rfl⟩
abbrev main_cst_11 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_12 : Ref sig .tc := ⟨.hbm, 109, rfl⟩
abbrev main_v63 : Ref sig .tc := ⟨.hbm, 110, rfl⟩
abbrev main_v64 : Ref sig .tc := ⟨.hbm, 111, rfl⟩
abbrev main_cst_13 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_14 : Ref sig .tc := ⟨.hbm, 116, rfl⟩
abbrev main_v68 : Ref sig .tc := ⟨.hbm, 117, rfl⟩
abbrev main_v69 : Ref sig .tc := ⟨.hbm, 118, rfl⟩
abbrev main_cst_15 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_16 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_17 : Ref sig .tc := ⟨.hbm, 128, rfl⟩
abbrev main_v77 : Ref sig .tc := ⟨.hbm, 129, rfl⟩
abbrev main_v78 : Ref sig .tc := ⟨.hbm, 130, rfl⟩
abbrev main_cst_18 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_call3_call0_cst : Ref sig .tc := ⟨.hbm, 136, rfl⟩
abbrev main_call3_call0_v0 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_19 : Ref sig .tc := ⟨.hbm, 141, rfl⟩
abbrev main_v86 : Ref sig .tc := ⟨.hbm, 142, rfl⟩
abbrev main_v87 : Ref sig .tc := ⟨.hbm, 143, rfl⟩
abbrev main_cst_20 : Ref sig .tc := ⟨.hbm, 144, rfl⟩
abbrev main_v88 : Ref sig .tc := ⟨.hbm, 145, rfl⟩
abbrev main_v89 : Ref sig .tc := ⟨.hbm, 146, rfl⟩
abbrev main_cst_21 : Ref sig .tc := ⟨.hbm, 147, rfl⟩
abbrev main_v90 : Ref sig .tc := ⟨.hbm, 148, rfl⟩
abbrev main_v91 : Ref sig .tc := ⟨.hbm, 149, rfl⟩
abbrev main_call4_cst : Ref sig .tc := ⟨.hbm, 150, rfl⟩
abbrev main_call4_v0 : Ref sig .tc := ⟨.hbm, 151, rfl⟩
abbrev main_v92 : Ref sig .tc := ⟨.hbm, 152, rfl⟩
abbrev main_cst_22 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_call5_call0_cst : Ref sig .tc := ⟨.hbm, 161, rfl⟩
abbrev main_call5_call0_v0 : Ref sig .tc := ⟨.hbm, 162, rfl⟩
abbrev main_v100 : Ref sig .tc := ⟨.hbm, 163, rfl⟩
abbrev main_cst_23 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_24 : Ref sig .tc := ⟨.hbm, 168, rfl⟩
abbrev main_v104 : Ref sig .tc := ⟨.hbm, 169, rfl⟩
abbrev main_v105 : Ref sig .tc := ⟨.hbm, 170, rfl⟩
abbrev main_cst_25 : Ref sig .tc := ⟨.hbm, 171, rfl⟩
abbrev main_cst_26 : Ref sig .tc := ⟨.hbm, 172, rfl⟩
abbrev main_call6_v0 : Ref sig .tc := ⟨.hbm, 173, rfl⟩
abbrev main_call6_v1 : Ref sig .tc := ⟨.hbm, 174, rfl⟩
abbrev main_call6_v2 : Ref sig .tc := ⟨.hbm, 175, rfl⟩
abbrev main_call6_cst : Ref sig .tc := ⟨.hbm, 176, rfl⟩
abbrev main_call6_v3 : Ref sig .tc := ⟨.hbm, 177, rfl⟩
abbrev main_call6_v4 : Ref sig .tc := ⟨.hbm, 178, rfl⟩
abbrev main_call6_cst_0 : Ref sig .tc := ⟨.hbm, 179, rfl⟩
abbrev main_call6_v5 : Ref sig .tc := ⟨.hbm, 180, rfl⟩
abbrev main_call6_v6 : Ref sig .tc := ⟨.hbm, 181, rfl⟩
abbrev main_call6_v7 : Ref sig .tc := ⟨.hbm, 182, rfl⟩
abbrev main_call6_cst_1 : Ref sig .tc := ⟨.hbm, 183, rfl⟩
abbrev main_call6_v8 : Ref sig .tc := ⟨.hbm, 184, rfl⟩
abbrev main_call6_v9 : Ref sig .tc := ⟨.hbm, 185, rfl⟩
abbrev main_call6_v10 : Ref sig .tc := ⟨.hbm, 186, rfl⟩
abbrev main_call6_v11 : Ref sig .tc := ⟨.hbm, 187, rfl⟩
abbrev main_call6_v12 : Ref sig .tc := ⟨.hbm, 188, rfl⟩
abbrev main_call6_v13 : Ref sig .tc := ⟨.hbm, 189, rfl⟩
abbrev main_call6_v14 : Ref sig .tc := ⟨.hbm, 190, rfl⟩
abbrev main_call6_v15 : Ref sig .tc := ⟨.hbm, 191, rfl⟩
abbrev main_call6_v16 : Ref sig .tc := ⟨.hbm, 192, rfl⟩
abbrev main_v106 : Ref sig .tc := ⟨.hbm, 193, rfl⟩
abbrev main_cst_27 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_c : Ref sig .tc := ⟨.hbm, 205, rfl⟩
abbrev main_v117 : Ref sig .tc := ⟨.hbm, 206, rfl⟩
abbrev main_c_28 : Ref sig .tc := ⟨.hbm, 207, rfl⟩
abbrev main_v118 : Ref sig .tc := ⟨.hbm, 208, rfl⟩
abbrev main_v119 : Ref sig .tc := ⟨.hbm, 209, rfl⟩
abbrev main_c_29 : Ref sig .tc := ⟨.hbm, 210, rfl⟩
abbrev main_c_30 : Ref sig .tc := ⟨.hbm, 211, rfl⟩
abbrev main_call7_v0 : Ref sig .tc := ⟨.hbm, 212, rfl⟩
abbrev main_call7_v1 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_v120 : Ref sig .tc := ⟨.hbm, 217, rfl⟩
abbrev main_c_31 : Ref sig .tc := ⟨.hbm, 218, rfl⟩
abbrev main_c_32 : Ref sig .tc := ⟨.hbm, 219, rfl⟩
abbrev main_call8_v0 : Ref sig .tc := ⟨.hbm, 220, rfl⟩
abbrev main_call8_v1 : Ref sig .tc := ⟨.hbm, 221, rfl⟩
abbrev main_call8_v2 : Ref sig .tc := ⟨.hbm, 222, rfl⟩
abbrev main_call8_v3 : Ref sig .tc := ⟨.hbm, 223, rfl⟩
abbrev main_call8_v4 : Ref sig .tc := ⟨.hbm, 224, rfl⟩
abbrev main_v121 : Ref sig .tc := ⟨.hbm, 225, rfl⟩
abbrev main_call9_c : Ref sig .tc := ⟨.hbm, 226, rfl⟩
abbrev main_call9_v0 : Ref sig .tc := ⟨.hbm, 227, rfl⟩
abbrev main_call9_v1 : Ref sig .tc := ⟨.hbm, 228, rfl⟩
abbrev main_call9_c_0 : Ref sig .tc := ⟨.hbm, 229, rfl⟩
abbrev main_call9_v2 : Ref sig .tc := ⟨.hbm, 230, rfl⟩
abbrev main_call9_v3 : Ref sig .tc := ⟨.hbm, 231, rfl⟩
abbrev main_call9_v4 : Ref sig .tc := ⟨.hbm, 232, rfl⟩
abbrev main_call9_v5 : Ref sig .tc := ⟨.hbm, 233, rfl⟩
abbrev main_v122 : Ref sig .tc := ⟨.hbm, 234, rfl⟩
abbrev main_call10_c : Ref sig .tc := ⟨.hbm, 235, rfl⟩
abbrev main_call10_v0 : Ref sig .tc := ⟨.hbm, 236, rfl⟩
abbrev main_call10_v1 : Ref sig .tc := ⟨.hbm, 237, rfl⟩
abbrev main_call10_c_0 : Ref sig .tc := ⟨.hbm, 238, rfl⟩
abbrev main_call10_v2 : Ref sig .tc := ⟨.hbm, 239, rfl⟩
abbrev main_call10_v3 : Ref sig .tc := ⟨.hbm, 240, rfl⟩
abbrev main_call10_v4 : Ref sig .tc := ⟨.hbm, 241, rfl⟩
abbrev main_call10_v5 : Ref sig .tc := ⟨.hbm, 242, rfl⟩
abbrev main_v123 : Ref sig .tc := ⟨.hbm, 243, rfl⟩
abbrev main_call11_c : Ref sig .tc := ⟨.hbm, 244, rfl⟩
abbrev main_call11_v0 : Ref sig .tc := ⟨.hbm, 245, rfl⟩
abbrev main_call11_v1 : Ref sig .tc := ⟨.hbm, 246, rfl⟩
abbrev main_call11_c_0 : Ref sig .tc := ⟨.hbm, 247, rfl⟩
abbrev main_call11_v2 : Ref sig .tc := ⟨.hbm, 248, rfl⟩
abbrev main_call11_v3 : Ref sig .tc := ⟨.hbm, 249, rfl⟩
abbrev main_call11_v4 : Ref sig .tc := ⟨.hbm, 250, rfl⟩
abbrev main_call11_v5 : Ref sig .tc := ⟨.hbm, 251, rfl⟩
abbrev main_v124 : Ref sig .tc := ⟨.hbm, 252, rfl⟩
abbrev main_call12_c : Ref sig .tc := ⟨.hbm, 253, rfl⟩
abbrev main_call12_v0 : Ref sig .tc := ⟨.hbm, 254, rfl⟩
abbrev main_call12_v1 : Ref sig .tc := ⟨.hbm, 255, rfl⟩
abbrev main_call12_c_0 : Ref sig .tc := ⟨.hbm, 256, rfl⟩
abbrev main_call12_v2 : Ref sig .tc := ⟨.hbm, 257, rfl⟩
abbrev main_call12_v3 : Ref sig .tc := ⟨.hbm, 258, rfl⟩
abbrev main_call12_v4 : Ref sig .tc := ⟨.hbm, 259, rfl⟩
abbrev main_call12_v5 : Ref sig .tc := ⟨.hbm, 260, rfl⟩
abbrev main_v125 : Ref sig .tc := ⟨.hbm, 261, rfl⟩
abbrev main_v126 : Ref sig .tc := ⟨.hbm, 262, rfl⟩
abbrev main_v127 : Ref sig .tc := ⟨.hbm, 263, rfl⟩
abbrev main_v128 : Ref sig .tc := ⟨.hbm, 264, rfl⟩
abbrev main_cst_33 : Ref sig .tc := ⟨.hbm, 265, rfl⟩
abbrev main_call13_v0 : Ref sig .tc := ⟨.hbm, 266, rfl⟩
abbrev main_call13_v1 : Ref sig .tc := ⟨.hbm, 267, rfl⟩
abbrev main_call13_call0_v0 : Ref sig .tc := ⟨.hbm, 268, rfl⟩
abbrev main_call13_v2 : Ref sig .tc := ⟨.hbm, 269, rfl⟩
abbrev main_call13_cst : Ref sig .tc := ⟨.hbm, 270, rfl⟩
abbrev main_call13_v3 : Ref sig .tc := ⟨.hbm, 271, rfl⟩
abbrev main_call13_v4 : Ref sig .tc := ⟨.hbm, 272, rfl⟩
abbrev main_call13_cst_0 : Ref sig .tc := ⟨.hbm, 273, rfl⟩
abbrev main_call13_call1_v0 : Ref sig .tc := ⟨.hbm, 274, rfl⟩
abbrev main_call13_v5 : Ref sig .tc := ⟨.hbm, 275, rfl⟩
abbrev main_call13_cst_1 : Ref sig .tc := ⟨.hbm, 276, rfl⟩
abbrev main_call13_v6 : Ref sig .tc := ⟨.hbm, 277, rfl⟩
abbrev main_call13_v7 : Ref sig .tc := ⟨.hbm, 278, rfl⟩
abbrev main_call13_cst_2 : Ref sig .tc := ⟨.hbm, 279, rfl⟩
abbrev main_call13_call2_v0 : Ref sig .tc := ⟨.hbm, 280, rfl⟩
abbrev main_v129 : Ref sig .tc := ⟨.hbm, 281, rfl⟩
abbrev main_cst_34 : Ref sig .tc := ⟨.hbm, 282, rfl⟩
abbrev main_cst_35 : Ref sig .tc := ⟨.hbm, 283, rfl⟩
abbrev main_call14_v0 : Ref sig .tc := ⟨.hbm, 284, rfl⟩
abbrev main_call14_v1 : Ref sig .tc := ⟨.hbm, 285, rfl⟩
abbrev main_call14_v2 : Ref sig .tc := ⟨.hbm, 286, rfl⟩
abbrev main_call14_v3 : Ref sig .tc := ⟨.hbm, 287, rfl⟩
abbrev main_call14_v4 : Ref sig .tc := ⟨.hbm, 288, rfl⟩
abbrev main_v130 : Ref sig .tc := ⟨.hbm, 289, rfl⟩
abbrev main_v131 : Ref sig .tc := ⟨.hbm, 290, rfl⟩
abbrev main_v132 : Ref sig .tc := ⟨.hbm, 291, rfl⟩
abbrev main_v133 : Ref sig .tc := ⟨.hbm, 292, rfl⟩
abbrev main_v134 : Ref sig .tc := ⟨.hbm, 293, rfl⟩
abbrev main_v135 : Ref sig .tc := ⟨.hbm, 294, rfl⟩
abbrev main_v136 : Ref sig .tc := ⟨.hbm, 295, rfl⟩
abbrev main_call15_v0 : Ref sig .tc := ⟨.hbm, 296, rfl⟩
abbrev main_call15_v1_0 : Ref sig .tc := ⟨.hbm, 297, rfl⟩
abbrev main_v137 : Ref sig .tc := ⟨.hbm, 298, rfl⟩
abbrev main_call16_c : Ref sig .tc := ⟨.hbm, 299, rfl⟩
abbrev main_call16_v0 : Ref sig .tc := ⟨.hbm, 300, rfl⟩
abbrev main_call16_v1 : Ref sig .tc := ⟨.hbm, 301, rfl⟩
abbrev main_call16_c_0 : Ref sig .tc := ⟨.hbm, 302, rfl⟩
abbrev main_call16_v2 : Ref sig .tc := ⟨.hbm, 303, rfl⟩
abbrev main_call16_v3 : Ref sig .tc := ⟨.hbm, 304, rfl⟩
abbrev main_call16_v4 : Ref sig .tc := ⟨.hbm, 305, rfl⟩
abbrev main_call16_v5 : Ref sig .tc := ⟨.hbm, 306, rfl⟩
abbrev main_v138 : Ref sig .tc := ⟨.hbm, 307, rfl⟩
abbrev main_v139 : Ref sig .tc := ⟨.hbm, 308, rfl⟩
abbrev main_v140 : Ref sig .tc := ⟨.hbm, 309, rfl⟩
abbrev main_v141 : Ref sig .tc := ⟨.hbm, 310, rfl⟩
abbrev main_v142 : Ref sig .tc := ⟨.hbm, 311, rfl⟩
abbrev main_v143 : Ref sig .tc := ⟨.hbm, 312, rfl⟩
abbrev main_v144 : Ref sig .tc := ⟨.hbm, 313, rfl⟩
abbrev main_v145 : Ref sig .tc := ⟨.hbm, 314, rfl⟩
abbrev main_v146 : Ref sig .tc := ⟨.hbm, 315, rfl⟩
abbrev main_v147 : Ref sig .tc := ⟨.hbm, 316, rfl⟩
abbrev main_v148 : Ref sig .tc := ⟨.hbm, 317, rfl⟩
abbrev main_v149 : Ref sig .tc := ⟨.hbm, 318, rfl⟩
abbrev main_v150 : Ref sig .tc := ⟨.hbm, 319, rfl⟩
abbrev main_v151 : Ref sig .tc := ⟨.hbm, 320, rfl⟩
abbrev main_call17_cst : Ref sig .tc := ⟨.hbm, 321, rfl⟩
abbrev main_call17_v0 : Ref sig .tc := ⟨.hbm, 322, rfl⟩
abbrev main_v152 : Ref sig .tc := ⟨.hbm, 323, rfl⟩
abbrev main_v153 : Ref sig .tc := ⟨.hbm, 324, rfl⟩
abbrev main_v154 : Ref sig .tc := ⟨.hbm, 325, rfl⟩
abbrev main_v155 : Ref sig .tc := ⟨.hbm, 326, rfl⟩
abbrev main_v156 : Ref sig .tc := ⟨.hbm, 327, rfl⟩
abbrev main_v157 : Ref sig .tc := ⟨.hbm, 328, rfl⟩
abbrev main_v158 : Ref sig .tc := ⟨.hbm, 329, rfl⟩
abbrev main_call18_c : Ref sig .tc := ⟨.hbm, 330, rfl⟩
abbrev main_call18_v0 : Ref sig .tc := ⟨.hbm, 331, rfl⟩
abbrev main_call18_v1 : Ref sig .tc := ⟨.hbm, 332, rfl⟩
abbrev main_call18_c_0 : Ref sig .tc := ⟨.hbm, 333, rfl⟩
abbrev main_call18_v2 : Ref sig .tc := ⟨.hbm, 334, rfl⟩
abbrev main_call18_v3 : Ref sig .tc := ⟨.hbm, 335, rfl⟩
abbrev main_call18_v4 : Ref sig .tc := ⟨.hbm, 336, rfl⟩
abbrev main_call18_v5 : Ref sig .tc := ⟨.hbm, 337, rfl⟩
abbrev main_v159 : Ref sig .tc := ⟨.hbm, 338, rfl⟩
abbrev main_v160 : Ref sig .tc := ⟨.hbm, 339, rfl⟩
abbrev main_v161 : Ref sig .tc := ⟨.hbm, 340, rfl⟩
abbrev main_v162 : Ref sig .tc := ⟨.hbm, 341, rfl⟩
abbrev main_v163 : Ref sig .tc := ⟨.hbm, 342, rfl⟩
abbrev main_v164 : Ref sig .tc := ⟨.hbm, 343, rfl⟩
abbrev main_v165 : Ref sig .tc := ⟨.hbm, 344, rfl⟩
abbrev main_v166 : Ref sig .tc := ⟨.hbm, 345, rfl⟩
abbrev main_v167 : Ref sig .tc := ⟨.hbm, 346, rfl⟩
abbrev main_cst_36 : Ref sig .tc := ⟨.hbm, 347, rfl⟩
abbrev main_v168 : Ref sig .tc := ⟨.hbm, 348, rfl⟩
abbrev main_v169 : Ref sig .tc := ⟨.hbm, 349, rfl⟩
abbrev main_v170 : Ref sig .tc := ⟨.hbm, 350, rfl⟩
abbrev main_cst_37 : Ref sig .tc := ⟨.hbm, 351, rfl⟩
abbrev main_v171 : Ref sig .tc := ⟨.hbm, 352, rfl⟩
abbrev main_v172 : Ref sig .tc := ⟨.hbm, 353, rfl⟩
abbrev main_v173 : Ref sig .tc := ⟨.hbm, 354, rfl⟩
abbrev main_v174 : Ref sig .tc := ⟨.hbm, 355, rfl⟩
abbrev main_cst_38 : Ref sig .tc := ⟨.hbm, 356, rfl⟩
abbrev main_v175 : Ref sig .tc := ⟨.hbm, 357, rfl⟩
abbrev main_v176 : Ref sig .tc := ⟨.hbm, 358, rfl⟩
abbrev main_v177 : Ref sig .tc := ⟨.hbm, 359, rfl⟩
abbrev main_v178 : Ref sig .tc := ⟨.hbm, 360, rfl⟩
abbrev main_cst_39 : Ref sig .tc := ⟨.hbm, 361, rfl⟩
abbrev main_cst_40 : Ref sig .tc := ⟨.hbm, 362, rfl⟩
abbrev main_call19_v0 : Ref sig .tc := ⟨.hbm, 363, rfl⟩
abbrev main_call19_v1 : Ref sig .tc := ⟨.hbm, 364, rfl⟩
abbrev main_call19_v2 : Ref sig .tc := ⟨.hbm, 365, rfl⟩
abbrev main_call19_v3 : Ref sig .tc := ⟨.hbm, 366, rfl⟩
abbrev main_call19_v4 : Ref sig .tc := ⟨.hbm, 367, rfl⟩
abbrev main_v179 : Ref sig .tc := ⟨.hbm, 368, rfl⟩
abbrev main_v180 : Ref sig .tc := ⟨.hbm, 369, rfl⟩
abbrev main_cst_41 : Ref sig .tc := ⟨.hbm, 370, rfl⟩
abbrev main_v181 : Ref sig .tc := ⟨.hbm, 371, rfl⟩
abbrev main_v182 : Ref sig .tc := ⟨.hbm, 372, rfl⟩
abbrev main_v183 : Ref sig .tc := ⟨.hbm, 373, rfl⟩
abbrev main_v184 : Ref sig .tc := ⟨.hbm, 374, rfl⟩
abbrev main_cst_42 : Ref sig .tc := ⟨.hbm, 375, rfl⟩
abbrev main_v185 : Ref sig .tc := ⟨.hbm, 376, rfl⟩
abbrev main_v186 : Ref sig .tc := ⟨.hbm, 377, rfl⟩
abbrev main_v187 : Ref sig .tc := ⟨.hbm, 378, rfl⟩
abbrev main_cst_43 : Ref sig .tc := ⟨.hbm, 379, rfl⟩
abbrev main_v188 : Ref sig .tc := ⟨.hbm, 380, rfl⟩
abbrev main_v189 : Ref sig .tc := ⟨.hbm, 381, rfl⟩
abbrev main_v190 : Ref sig .tc := ⟨.hbm, 382, rfl⟩
abbrev main_v191 : Ref sig .tc := ⟨.hbm, 383, rfl⟩
abbrev main_cst_44 : Ref sig .tc := ⟨.hbm, 384, rfl⟩
abbrev main_v192 : Ref sig .tc := ⟨.hbm, 385, rfl⟩
abbrev main_v193 : Ref sig .tc := ⟨.hbm, 386, rfl⟩
abbrev main_cst_45 : Ref sig .tc := ⟨.hbm, 387, rfl⟩
abbrev main_v194 : Ref sig .tc := ⟨.hbm, 388, rfl⟩
abbrev main_v195 : Ref sig .tc := ⟨.hbm, 389, rfl⟩
abbrev main_cst_46 : Ref sig .tc := ⟨.hbm, 390, rfl⟩
abbrev main_v196 : Ref sig .tc := ⟨.hbm, 391, rfl⟩
abbrev main_v197 : Ref sig .tc := ⟨.hbm, 392, rfl⟩
abbrev main_v198 : Ref sig .tc := ⟨.hbm, 393, rfl⟩
abbrev main_v199 : Ref sig .tc := ⟨.hbm, 394, rfl⟩
abbrev main_cst_47 : Ref sig .tc := ⟨.hbm, 395, rfl⟩
abbrev main_v200 : Ref sig .tc := ⟨.hbm, 396, rfl⟩
abbrev main_v201 : Ref sig .tc := ⟨.hbm, 397, rfl⟩
abbrev main_cst_48 : Ref sig .tc := ⟨.hbm, 398, rfl⟩
abbrev main_v202 : Ref sig .tc := ⟨.hbm, 399, rfl⟩
abbrev main_v203 : Ref sig .tc := ⟨.hbm, 400, rfl⟩
abbrev main_v204 : Ref sig .tc := ⟨.hbm, 401, rfl⟩
abbrev main_cst_49 : Ref sig .tc := ⟨.hbm, 402, rfl⟩
abbrev main_v205 : Ref sig .tc := ⟨.hbm, 403, rfl⟩
abbrev main_v206 : Ref sig .tc := ⟨.hbm, 404, rfl⟩
abbrev main_cst_50 : Ref sig .tc := ⟨.hbm, 405, rfl⟩
abbrev main_v207 : Ref sig .tc := ⟨.hbm, 406, rfl⟩
abbrev main_v208 : Ref sig .tc := ⟨.hbm, 407, rfl⟩
abbrev main_v209 : Ref sig .tc := ⟨.hbm, 408, rfl⟩
abbrev main_v210 : Ref sig .tc := ⟨.hbm, 409, rfl⟩
abbrev main_cst_51 : Ref sig .tc := ⟨.hbm, 410, rfl⟩
abbrev main_v211 : Ref sig .tc := ⟨.hbm, 411, rfl⟩
abbrev main_v212 : Ref sig .tc := ⟨.hbm, 412, rfl⟩
abbrev main_v213 : Ref sig .tc := ⟨.hbm, 413, rfl⟩
abbrev main_cst_52 : Ref sig .tc := ⟨.hbm, 414, rfl⟩
abbrev main_v214 : Ref sig .tc := ⟨.hbm, 415, rfl⟩
abbrev main_v215 : Ref sig .tc := ⟨.hbm, 416, rfl⟩
abbrev main_cst_53 : Ref sig .tc := ⟨.hbm, 417, rfl⟩
abbrev main_v216 : Ref sig .tc := ⟨.hbm, 418, rfl⟩
abbrev main_v217 : Ref sig .tc := ⟨.hbm, 419, rfl⟩
abbrev main_v218 : Ref sig .tc := ⟨.hbm, 420, rfl⟩
abbrev main_v219 : Ref sig .tc := ⟨.hbm, 421, rfl⟩
abbrev main_call20_call0_cst : Ref sig .tc := ⟨.hbm, 422, rfl⟩
abbrev main_call20_call0_v0 : Ref sig .tc := ⟨.hbm, 423, rfl⟩
abbrev main_v220 : Ref sig .tc := ⟨.hbm, 424, rfl⟩
abbrev main_v221 : Ref sig .tc := ⟨.hbm, 425, rfl⟩
abbrev main_v222 : Ref sig .tc := ⟨.hbm, 426, rfl⟩
abbrev main_cst_54 : Ref sig .tc := ⟨.hbm, 427, rfl⟩
abbrev main_v223 : Ref sig .tc := ⟨.hbm, 428, rfl⟩
abbrev main_v224 : Ref sig .tc := ⟨.hbm, 429, rfl⟩
abbrev main_cst_55 : Ref sig .tc := ⟨.hbm, 430, rfl⟩
abbrev main_v225 : Ref sig .tc := ⟨.hbm, 431, rfl⟩
abbrev main_v226 : Ref sig .tc := ⟨.hbm, 432, rfl⟩
abbrev main_cst_56 : Ref sig .tc := ⟨.hbm, 433, rfl⟩
abbrev main_v227 : Ref sig .tc := ⟨.hbm, 434, rfl⟩
abbrev main_v228 : Ref sig .tc := ⟨.hbm, 435, rfl⟩
abbrev main_call21_cst : Ref sig .tc := ⟨.hbm, 436, rfl⟩
abbrev main_call21_v0 : Ref sig .tc := ⟨.hbm, 437, rfl⟩
abbrev main_v229 : Ref sig .tc := ⟨.hbm, 438, rfl⟩
abbrev main_cst_57 : Ref sig .tc := ⟨.hbm, 439, rfl⟩
abbrev main_v230 : Ref sig .tc := ⟨.hbm, 440, rfl⟩
abbrev main_v231 : Ref sig .tc := ⟨.hbm, 441, rfl⟩
abbrev main_v232 : Ref sig .tc := ⟨.hbm, 442, rfl⟩
abbrev main_v233 : Ref sig .tc := ⟨.hbm, 443, rfl⟩
abbrev main_v234 : Ref sig .tc := ⟨.hbm, 444, rfl⟩
abbrev main_v235 : Ref sig .tc := ⟨.hbm, 445, rfl⟩
abbrev main_v236 : Ref sig .tc := ⟨.hbm, 446, rfl⟩
abbrev main_call22_call0_cst : Ref sig .tc := ⟨.hbm, 447, rfl⟩
abbrev main_call22_call0_v0 : Ref sig .tc := ⟨.hbm, 448, rfl⟩
abbrev main_v237 : Ref sig .tc := ⟨.hbm, 449, rfl⟩
abbrev main_cst_58 : Ref sig .tc := ⟨.hbm, 450, rfl⟩
abbrev main_v238 : Ref sig .tc := ⟨.hbm, 451, rfl⟩
abbrev main_v239 : Ref sig .tc := ⟨.hbm, 452, rfl⟩
abbrev main_v240 : Ref sig .tc := ⟨.hbm, 453, rfl⟩
abbrev main_cst_59 : Ref sig .tc := ⟨.hbm, 454, rfl⟩
abbrev main_v241 : Ref sig .tc := ⟨.hbm, 455, rfl⟩
abbrev main_v242 : Ref sig .tc := ⟨.hbm, 456, rfl⟩
abbrev main_cst_60 : Ref sig .tc := ⟨.hbm, 457, rfl⟩
abbrev main_cst_61 : Ref sig .tc := ⟨.hbm, 458, rfl⟩
abbrev main_call23_v0 : Ref sig .tc := ⟨.hbm, 459, rfl⟩
abbrev main_call23_v1 : Ref sig .tc := ⟨.hbm, 460, rfl⟩
abbrev main_call23_v2 : Ref sig .tc := ⟨.hbm, 461, rfl⟩
abbrev main_call23_cst : Ref sig .tc := ⟨.hbm, 462, rfl⟩
abbrev main_call23_v3 : Ref sig .tc := ⟨.hbm, 463, rfl⟩
abbrev main_call23_v4 : Ref sig .tc := ⟨.hbm, 464, rfl⟩
abbrev main_call23_cst_0 : Ref sig .tc := ⟨.hbm, 465, rfl⟩
abbrev main_call23_v5 : Ref sig .tc := ⟨.hbm, 466, rfl⟩
abbrev main_call23_v6 : Ref sig .tc := ⟨.hbm, 467, rfl⟩
abbrev main_call23_v7 : Ref sig .tc := ⟨.hbm, 468, rfl⟩
abbrev main_call23_cst_1 : Ref sig .tc := ⟨.hbm, 469, rfl⟩
abbrev main_call23_v8 : Ref sig .tc := ⟨.hbm, 470, rfl⟩
abbrev main_call23_v9 : Ref sig .tc := ⟨.hbm, 471, rfl⟩
abbrev main_call23_v10 : Ref sig .tc := ⟨.hbm, 472, rfl⟩
abbrev main_call23_v11 : Ref sig .tc := ⟨.hbm, 473, rfl⟩
abbrev main_call23_v12 : Ref sig .tc := ⟨.hbm, 474, rfl⟩
abbrev main_call23_v13 : Ref sig .tc := ⟨.hbm, 475, rfl⟩
abbrev main_call23_v14 : Ref sig .tc := ⟨.hbm, 476, rfl⟩
abbrev main_call23_v15 : Ref sig .tc := ⟨.hbm, 477, rfl⟩
abbrev main_call23_v16 : Ref sig .tc := ⟨.hbm, 478, rfl⟩
abbrev main_v243 : Ref sig .tc := ⟨.hbm, 479, rfl⟩
abbrev main_cst_62 : Ref sig .tc := ⟨.hbm, 480, rfl⟩
abbrev main_v244 : Ref sig .tc := ⟨.hbm, 481, rfl⟩
abbrev main_v245 : Ref sig .tc := ⟨.hbm, 482, rfl⟩
abbrev main_v246 : Ref sig .tc := ⟨.hbm, 483, rfl⟩
abbrev main_v247 : Ref sig .tc := ⟨.hbm, 484, rfl⟩
abbrev main_v248 : Ref sig .tc := ⟨.hbm, 485, rfl⟩
abbrev main_v249 : Ref sig .tc := ⟨.hbm, 486, rfl⟩
abbrev main_v250 : Ref sig .tc := ⟨.hbm, 487, rfl⟩
abbrev main_v251 : Ref sig .tc := ⟨.hbm, 488, rfl⟩
abbrev main_v252 : Ref sig .tc := ⟨.hbm, 489, rfl⟩
abbrev main_v253 : Ref sig .tc := ⟨.hbm, 490, rfl⟩
abbrev main_c_63 : Ref sig .tc := ⟨.hbm, 491, rfl⟩
abbrev main_v254 : Ref sig .tc := ⟨.hbm, 492, rfl⟩
abbrev main_c_64 : Ref sig .tc := ⟨.hbm, 493, rfl⟩
abbrev main_v255 : Ref sig .tc := ⟨.hbm, 494, rfl⟩
abbrev main_v256 : Ref sig .tc := ⟨.hbm, 495, rfl⟩
abbrev main_c_65 : Ref sig .tc := ⟨.hbm, 496, rfl⟩
abbrev main_c_66 : Ref sig .tc := ⟨.hbm, 497, rfl⟩
abbrev main_call24_v0 : Ref sig .tc := ⟨.hbm, 498, rfl⟩
abbrev main_call24_v1 : Ref sig .tc := ⟨.hbm, 499, rfl⟩
abbrev main_call24_v2 : Ref sig .tc := ⟨.hbm, 500, rfl⟩
abbrev main_call24_v3 : Ref sig .tc := ⟨.hbm, 501, rfl⟩
abbrev main_call24_v4 : Ref sig .tc := ⟨.hbm, 502, rfl⟩
abbrev main_v257 : Ref sig .tc := ⟨.hbm, 503, rfl⟩
abbrev main_c_67 : Ref sig .tc := ⟨.hbm, 504, rfl⟩
abbrev main_c_68 : Ref sig .tc := ⟨.hbm, 505, rfl⟩
abbrev main_call25_v0 : Ref sig .tc := ⟨.hbm, 506, rfl⟩
abbrev main_call25_v1 : Ref sig .tc := ⟨.hbm, 507, rfl⟩
abbrev main_call25_v2 : Ref sig .tc := ⟨.hbm, 508, rfl⟩
abbrev main_call25_v3 : Ref sig .tc := ⟨.hbm, 509, rfl⟩
abbrev main_call25_v4 : Ref sig .tc := ⟨.hbm, 510, rfl⟩
abbrev main_v258 : Ref sig .tc := ⟨.hbm, 511, rfl⟩
abbrev main_call26_c : Ref sig .tc := ⟨.hbm, 512, rfl⟩
abbrev main_call26_v0 : Ref sig .tc := ⟨.hbm, 513, rfl⟩
abbrev main_call26_v1 : Ref sig .tc := ⟨.hbm, 514, rfl⟩
abbrev main_call26_c_0 : Ref sig .tc := ⟨.hbm, 515, rfl⟩
abbrev main_call26_v2 : Ref sig .tc := ⟨.hbm, 516, rfl⟩
abbrev main_call26_v3 : Ref sig .tc := ⟨.hbm, 517, rfl⟩
abbrev main_call26_v4 : Ref sig .tc := ⟨.hbm, 518, rfl⟩
abbrev main_call26_v5 : Ref sig .tc := ⟨.hbm, 519, rfl⟩
abbrev main_v259 : Ref sig .tc := ⟨.hbm, 520, rfl⟩
abbrev main_call27_c : Ref sig .tc := ⟨.hbm, 521, rfl⟩
abbrev main_call27_v0 : Ref sig .tc := ⟨.hbm, 522, rfl⟩
abbrev main_call27_v1 : Ref sig .tc := ⟨.hbm, 523, rfl⟩
abbrev main_call27_c_0 : Ref sig .tc := ⟨.hbm, 524, rfl⟩
abbrev main_call27_v2 : Ref sig .tc := ⟨.hbm, 525, rfl⟩
abbrev main_call27_v3 : Ref sig .tc := ⟨.hbm, 526, rfl⟩
abbrev main_call27_v4 : Ref sig .tc := ⟨.hbm, 527, rfl⟩
abbrev main_call27_v5 : Ref sig .tc := ⟨.hbm, 528, rfl⟩
abbrev main_v260 : Ref sig .tc := ⟨.hbm, 529, rfl⟩
abbrev main_call28_c : Ref sig .tc := ⟨.hbm, 530, rfl⟩
abbrev main_call28_v0 : Ref sig .tc := ⟨.hbm, 531, rfl⟩
abbrev main_call28_v1 : Ref sig .tc := ⟨.hbm, 532, rfl⟩
abbrev main_call28_c_0 : Ref sig .tc := ⟨.hbm, 533, rfl⟩
abbrev main_call28_v2 : Ref sig .tc := ⟨.hbm, 534, rfl⟩
abbrev main_call28_v3 : Ref sig .tc := ⟨.hbm, 535, rfl⟩
abbrev main_call28_v4 : Ref sig .tc := ⟨.hbm, 536, rfl⟩
abbrev main_call28_v5 : Ref sig .tc := ⟨.hbm, 537, rfl⟩
abbrev main_v261 : Ref sig .tc := ⟨.hbm, 538, rfl⟩
abbrev main_call29_c : Ref sig .tc := ⟨.hbm, 539, rfl⟩
abbrev main_call29_v0 : Ref sig .tc := ⟨.hbm, 540, rfl⟩
abbrev main_call29_v1 : Ref sig .tc := ⟨.hbm, 541, rfl⟩
abbrev main_call29_c_0 : Ref sig .tc := ⟨.hbm, 542, rfl⟩
abbrev main_call29_v2 : Ref sig .tc := ⟨.hbm, 543, rfl⟩
abbrev main_call29_v3 : Ref sig .tc := ⟨.hbm, 544, rfl⟩
abbrev main_call29_v4 : Ref sig .tc := ⟨.hbm, 545, rfl⟩
abbrev main_call29_v5 : Ref sig .tc := ⟨.hbm, 546, rfl⟩
abbrev main_v262 : Ref sig .tc := ⟨.hbm, 547, rfl⟩
abbrev main_v263 : Ref sig .tc := ⟨.hbm, 548, rfl⟩
abbrev main_v264 : Ref sig .tc := ⟨.hbm, 549, rfl⟩
abbrev main_v265 : Ref sig .tc := ⟨.hbm, 550, rfl⟩
abbrev main_cst_69 : Ref sig .tc := ⟨.hbm, 551, rfl⟩
abbrev main_call30_v0 : Ref sig .tc := ⟨.hbm, 552, rfl⟩
abbrev main_call30_v1 : Ref sig .tc := ⟨.hbm, 553, rfl⟩
abbrev main_call30_call0_v0 : Ref sig .tc := ⟨.hbm, 554, rfl⟩
abbrev main_call30_v2 : Ref sig .tc := ⟨.hbm, 555, rfl⟩
abbrev main_call30_cst : Ref sig .tc := ⟨.hbm, 556, rfl⟩
abbrev main_call30_v3 : Ref sig .tc := ⟨.hbm, 557, rfl⟩
abbrev main_call30_v4 : Ref sig .tc := ⟨.hbm, 558, rfl⟩
abbrev main_call30_cst_0 : Ref sig .tc := ⟨.hbm, 559, rfl⟩
abbrev main_call30_call1_v0 : Ref sig .tc := ⟨.hbm, 560, rfl⟩
abbrev main_call30_v5 : Ref sig .tc := ⟨.hbm, 561, rfl⟩
abbrev main_call30_cst_1 : Ref sig .tc := ⟨.hbm, 562, rfl⟩
abbrev main_call30_v6 : Ref sig .tc := ⟨.hbm, 563, rfl⟩
abbrev main_call30_v7 : Ref sig .tc := ⟨.hbm, 564, rfl⟩
abbrev main_call30_cst_2 : Ref sig .tc := ⟨.hbm, 565, rfl⟩
abbrev main_call30_call2_v0 : Ref sig .tc := ⟨.hbm, 566, rfl⟩
abbrev main_v266 : Ref sig .tc := ⟨.hbm, 567, rfl⟩
abbrev main_cst_70 : Ref sig .tc := ⟨.hbm, 568, rfl⟩
abbrev main_cst_71 : Ref sig .tc := ⟨.hbm, 569, rfl⟩
abbrev main_call31_v0 : Ref sig .tc := ⟨.hbm, 570, rfl⟩
abbrev main_call31_v1 : Ref sig .tc := ⟨.hbm, 571, rfl⟩
abbrev main_call31_v2 : Ref sig .tc := ⟨.hbm, 572, rfl⟩
abbrev main_call31_v3 : Ref sig .tc := ⟨.hbm, 573, rfl⟩
abbrev main_call31_v4 : Ref sig .tc := ⟨.hbm, 574, rfl⟩
abbrev main_v267 : Ref sig .tc := ⟨.hbm, 575, rfl⟩
abbrev main_v268 : Ref sig .tc := ⟨.hbm, 576, rfl⟩
abbrev main_v269 : Ref sig .tc := ⟨.hbm, 577, rfl⟩
abbrev main_v270 : Ref sig .tc := ⟨.hbm, 578, rfl⟩
abbrev main_v271 : Ref sig .tc := ⟨.hbm, 579, rfl⟩
abbrev main_v272 : Ref sig .tc := ⟨.hbm, 580, rfl⟩
abbrev main_v273 : Ref sig .tc := ⟨.hbm, 581, rfl⟩
abbrev main_call32_v0 : Ref sig .tc := ⟨.hbm, 582, rfl⟩
abbrev main_call32_v1_0 : Ref sig .tc := ⟨.hbm, 583, rfl⟩
abbrev main_v274 : Ref sig .tc := ⟨.hbm, 584, rfl⟩
abbrev main_call33_c : Ref sig .tc := ⟨.hbm, 585, rfl⟩
abbrev main_call33_v0 : Ref sig .tc := ⟨.hbm, 586, rfl⟩
abbrev main_call33_v1 : Ref sig .tc := ⟨.hbm, 587, rfl⟩
abbrev main_call33_c_0 : Ref sig .tc := ⟨.hbm, 588, rfl⟩
abbrev main_call33_v2 : Ref sig .tc := ⟨.hbm, 589, rfl⟩
abbrev main_call33_v3 : Ref sig .tc := ⟨.hbm, 590, rfl⟩
abbrev main_call33_v4 : Ref sig .tc := ⟨.hbm, 591, rfl⟩
abbrev main_call33_v5 : Ref sig .tc := ⟨.hbm, 592, rfl⟩
abbrev main_v275 : Ref sig .tc := ⟨.hbm, 593, rfl⟩
abbrev main_v276 : Ref sig .tc := ⟨.hbm, 594, rfl⟩
abbrev main_v277 : Ref sig .tc := ⟨.hbm, 595, rfl⟩
abbrev main_v278 : Ref sig .tc := ⟨.hbm, 596, rfl⟩
abbrev main_v279 : Ref sig .tc := ⟨.hbm, 597, rfl⟩
abbrev main_v280 : Ref sig .tc := ⟨.hbm, 598, rfl⟩
abbrev main_v281 : Ref sig .tc := ⟨.hbm, 599, rfl⟩
abbrev main_v282 : Ref sig .tc := ⟨.hbm, 600, rfl⟩
abbrev main_v283 : Ref sig .tc := ⟨.hbm, 601, rfl⟩
abbrev main_v284 : Ref sig .tc := ⟨.hbm, 602, rfl⟩
abbrev main_v285 : Ref sig .tc := ⟨.hbm, 603, rfl⟩
abbrev main_v286 : Ref sig .tc := ⟨.hbm, 604, rfl⟩
abbrev main_v287 : Ref sig .tc := ⟨.hbm, 605, rfl⟩
abbrev main_v288 : Ref sig .tc := ⟨.hbm, 606, rfl⟩
abbrev main_call34_cst : Ref sig .tc := ⟨.hbm, 607, rfl⟩
abbrev main_call34_v0 : Ref sig .tc := ⟨.hbm, 608, rfl⟩
abbrev main_v289 : Ref sig .tc := ⟨.hbm, 609, rfl⟩
abbrev main_v290 : Ref sig .tc := ⟨.hbm, 610, rfl⟩
abbrev main_v291 : Ref sig .tc := ⟨.hbm, 611, rfl⟩
abbrev main_v292 : Ref sig .tc := ⟨.hbm, 612, rfl⟩
abbrev main_v293 : Ref sig .tc := ⟨.hbm, 613, rfl⟩
abbrev main_v294 : Ref sig .tc := ⟨.hbm, 614, rfl⟩
abbrev main_v295 : Ref sig .tc := ⟨.hbm, 615, rfl⟩
abbrev main_call35_c : Ref sig .tc := ⟨.hbm, 616, rfl⟩
abbrev main_call35_v0 : Ref sig .tc := ⟨.hbm, 617, rfl⟩
abbrev main_call35_v1 : Ref sig .tc := ⟨.hbm, 618, rfl⟩
abbrev main_call35_c_0 : Ref sig .tc := ⟨.hbm, 619, rfl⟩
abbrev main_call35_v2 : Ref sig .tc := ⟨.hbm, 620, rfl⟩
abbrev main_call35_v3 : Ref sig .tc := ⟨.hbm, 621, rfl⟩
abbrev main_call35_v4 : Ref sig .tc := ⟨.hbm, 622, rfl⟩
abbrev main_call35_v5 : Ref sig .tc := ⟨.hbm, 623, rfl⟩
abbrev main_v296 : Ref sig .tc := ⟨.hbm, 624, rfl⟩
abbrev main_v297 : Ref sig .tc := ⟨.hbm, 625, rfl⟩
abbrev main_v298 : Ref sig .tc := ⟨.hbm, 626, rfl⟩
abbrev main_v299 : Ref sig .tc := ⟨.hbm, 627, rfl⟩
abbrev main_v300 : Ref sig .tc := ⟨.hbm, 628, rfl⟩
abbrev main_v301 : Ref sig .tc := ⟨.hbm, 629, rfl⟩
abbrev main_v302 : Ref sig .tc := ⟨.hbm, 630, rfl⟩
abbrev main_v303 : Ref sig .tc := ⟨.hbm, 631, rfl⟩
abbrev main_v304 : Ref sig .tc := ⟨.hbm, 632, rfl⟩
abbrev main_cst_72 : Ref sig .tc := ⟨.hbm, 633, rfl⟩
abbrev main_v305 : Ref sig .tc := ⟨.hbm, 634, rfl⟩
abbrev main_v306 : Ref sig .tc := ⟨.hbm, 635, rfl⟩
abbrev main_v307 : Ref sig .tc := ⟨.hbm, 636, rfl⟩
abbrev main_cst_73 : Ref sig .tc := ⟨.hbm, 637, rfl⟩
abbrev main_v308 : Ref sig .tc := ⟨.hbm, 638, rfl⟩
abbrev main_v309 : Ref sig .tc := ⟨.hbm, 639, rfl⟩
abbrev main_v310 : Ref sig .tc := ⟨.hbm, 640, rfl⟩
abbrev main_v311 : Ref sig .tc := ⟨.hbm, 641, rfl⟩
abbrev main_cst_74 : Ref sig .tc := ⟨.hbm, 642, rfl⟩
abbrev main_v312 : Ref sig .tc := ⟨.hbm, 643, rfl⟩
abbrev main_v313 : Ref sig .tc := ⟨.hbm, 644, rfl⟩
abbrev main_v314 : Ref sig .tc := ⟨.hbm, 645, rfl⟩
abbrev main_v315 : Ref sig .tc := ⟨.hbm, 646, rfl⟩
abbrev main_cst_75 : Ref sig .tc := ⟨.hbm, 647, rfl⟩
abbrev main_cst_76 : Ref sig .tc := ⟨.hbm, 648, rfl⟩
abbrev main_call36_v0 : Ref sig .tc := ⟨.hbm, 649, rfl⟩
abbrev main_call36_v1 : Ref sig .tc := ⟨.hbm, 650, rfl⟩
abbrev main_call36_v2 : Ref sig .tc := ⟨.hbm, 651, rfl⟩
abbrev main_call36_v3 : Ref sig .tc := ⟨.hbm, 652, rfl⟩
abbrev main_call36_v4 : Ref sig .tc := ⟨.hbm, 653, rfl⟩
abbrev main_v316 : Ref sig .tc := ⟨.hbm, 654, rfl⟩
abbrev main_v317 : Ref sig .tc := ⟨.hbm, 655, rfl⟩
abbrev main_cst_77 : Ref sig .tc := ⟨.hbm, 656, rfl⟩
abbrev main_v318 : Ref sig .tc := ⟨.hbm, 657, rfl⟩
abbrev main_v319 : Ref sig .tc := ⟨.hbm, 658, rfl⟩
abbrev main_v320 : Ref sig .tc := ⟨.hbm, 659, rfl⟩
abbrev main_v321 : Ref sig .tc := ⟨.hbm, 660, rfl⟩
abbrev main_cst_78 : Ref sig .tc := ⟨.hbm, 661, rfl⟩
abbrev main_v322 : Ref sig .tc := ⟨.hbm, 662, rfl⟩
abbrev main_v323 : Ref sig .tc := ⟨.hbm, 663, rfl⟩
abbrev main_v324 : Ref sig .tc := ⟨.hbm, 664, rfl⟩
abbrev main_cst_79 : Ref sig .tc := ⟨.hbm, 665, rfl⟩
abbrev main_v325 : Ref sig .tc := ⟨.hbm, 666, rfl⟩
abbrev main_v326 : Ref sig .tc := ⟨.hbm, 667, rfl⟩
abbrev main_v327 : Ref sig .tc := ⟨.hbm, 668, rfl⟩
abbrev main_v328 : Ref sig .tc := ⟨.hbm, 669, rfl⟩
abbrev main_cst_80 : Ref sig .tc := ⟨.hbm, 670, rfl⟩
abbrev main_v329 : Ref sig .tc := ⟨.hbm, 671, rfl⟩
abbrev main_v330 : Ref sig .tc := ⟨.hbm, 672, rfl⟩
abbrev main_cst_81 : Ref sig .tc := ⟨.hbm, 673, rfl⟩
abbrev main_v331 : Ref sig .tc := ⟨.hbm, 674, rfl⟩
abbrev main_v332 : Ref sig .tc := ⟨.hbm, 675, rfl⟩
abbrev main_cst_82 : Ref sig .tc := ⟨.hbm, 676, rfl⟩
abbrev main_v333 : Ref sig .tc := ⟨.hbm, 677, rfl⟩
abbrev main_v334 : Ref sig .tc := ⟨.hbm, 678, rfl⟩
abbrev main_v335 : Ref sig .tc := ⟨.hbm, 679, rfl⟩
abbrev main_v336 : Ref sig .tc := ⟨.hbm, 680, rfl⟩
abbrev main_cst_83 : Ref sig .tc := ⟨.hbm, 681, rfl⟩
abbrev main_v337 : Ref sig .tc := ⟨.hbm, 682, rfl⟩
abbrev main_v338 : Ref sig .tc := ⟨.hbm, 683, rfl⟩
abbrev main_cst_84 : Ref sig .tc := ⟨.hbm, 684, rfl⟩
abbrev main_v339 : Ref sig .tc := ⟨.hbm, 685, rfl⟩
abbrev main_v340 : Ref sig .tc := ⟨.hbm, 686, rfl⟩
abbrev main_v341 : Ref sig .tc := ⟨.hbm, 687, rfl⟩
abbrev main_cst_85 : Ref sig .tc := ⟨.hbm, 688, rfl⟩
abbrev main_v342 : Ref sig .tc := ⟨.hbm, 689, rfl⟩
abbrev main_v343 : Ref sig .tc := ⟨.hbm, 690, rfl⟩
abbrev main_cst_86 : Ref sig .tc := ⟨.hbm, 691, rfl⟩
abbrev main_v344 : Ref sig .tc := ⟨.hbm, 692, rfl⟩
abbrev main_v345 : Ref sig .tc := ⟨.hbm, 693, rfl⟩
abbrev main_v346 : Ref sig .tc := ⟨.hbm, 694, rfl⟩
abbrev main_v347 : Ref sig .tc := ⟨.hbm, 695, rfl⟩
abbrev main_cst_87 : Ref sig .tc := ⟨.hbm, 696, rfl⟩
abbrev main_v348 : Ref sig .tc := ⟨.hbm, 697, rfl⟩
abbrev main_v349 : Ref sig .tc := ⟨.hbm, 698, rfl⟩
abbrev main_v350 : Ref sig .tc := ⟨.hbm, 699, rfl⟩
abbrev main_cst_88 : Ref sig .tc := ⟨.hbm, 700, rfl⟩
abbrev main_v351 : Ref sig .tc := ⟨.hbm, 701, rfl⟩
abbrev main_v352 : Ref sig .tc := ⟨.hbm, 702, rfl⟩
abbrev main_cst_89 : Ref sig .tc := ⟨.hbm, 703, rfl⟩
abbrev main_v353 : Ref sig .tc := ⟨.hbm, 704, rfl⟩
abbrev main_v354 : Ref sig .tc := ⟨.hbm, 705, rfl⟩
abbrev main_v355 : Ref sig .tc := ⟨.hbm, 706, rfl⟩
abbrev main_v356 : Ref sig .tc := ⟨.hbm, 707, rfl⟩
abbrev main_call37_call0_cst : Ref sig .tc := ⟨.hbm, 708, rfl⟩
abbrev main_call37_call0_v0 : Ref sig .tc := ⟨.hbm, 709, rfl⟩
abbrev main_v357 : Ref sig .tc := ⟨.hbm, 710, rfl⟩
abbrev main_v358 : Ref sig .tc := ⟨.hbm, 711, rfl⟩
abbrev main_v359 : Ref sig .tc := ⟨.hbm, 712, rfl⟩
abbrev main_cst_90 : Ref sig .tc := ⟨.hbm, 713, rfl⟩
abbrev main_v360 : Ref sig .tc := ⟨.hbm, 714, rfl⟩
abbrev main_v361 : Ref sig .tc := ⟨.hbm, 715, rfl⟩
abbrev main_cst_91 : Ref sig .tc := ⟨.hbm, 716, rfl⟩
abbrev main_v362 : Ref sig .tc := ⟨.hbm, 717, rfl⟩
abbrev main_v363 : Ref sig .tc := ⟨.hbm, 718, rfl⟩
abbrev main_cst_92 : Ref sig .tc := ⟨.hbm, 719, rfl⟩
abbrev main_v364 : Ref sig .tc := ⟨.hbm, 720, rfl⟩
abbrev main_v365 : Ref sig .tc := ⟨.hbm, 721, rfl⟩
abbrev main_call38_cst : Ref sig .tc := ⟨.hbm, 722, rfl⟩
abbrev main_call38_v0 : Ref sig .tc := ⟨.hbm, 723, rfl⟩
abbrev main_v366 : Ref sig .tc := ⟨.hbm, 724, rfl⟩
abbrev main_cst_93 : Ref sig .tc := ⟨.hbm, 725, rfl⟩
abbrev main_v367 : Ref sig .tc := ⟨.hbm, 726, rfl⟩
abbrev main_v368 : Ref sig .tc := ⟨.hbm, 727, rfl⟩
abbrev main_v369 : Ref sig .tc := ⟨.hbm, 728, rfl⟩
abbrev main_v370 : Ref sig .tc := ⟨.hbm, 729, rfl⟩
abbrev main_v371 : Ref sig .tc := ⟨.hbm, 730, rfl⟩
abbrev main_v372 : Ref sig .tc := ⟨.hbm, 731, rfl⟩
abbrev main_v373 : Ref sig .tc := ⟨.hbm, 732, rfl⟩
abbrev main_call39_call0_cst : Ref sig .tc := ⟨.hbm, 733, rfl⟩
abbrev main_call39_call0_v0 : Ref sig .tc := ⟨.hbm, 734, rfl⟩
abbrev main_v374 : Ref sig .tc := ⟨.hbm, 735, rfl⟩
abbrev main_cst_94 : Ref sig .tc := ⟨.hbm, 736, rfl⟩
abbrev main_v375 : Ref sig .tc := ⟨.hbm, 737, rfl⟩
abbrev main_v376 : Ref sig .tc := ⟨.hbm, 738, rfl⟩
abbrev main_v377 : Ref sig .tc := ⟨.hbm, 739, rfl⟩
abbrev main_cst_95 : Ref sig .tc := ⟨.hbm, 740, rfl⟩
abbrev main_v378 : Ref sig .tc := ⟨.hbm, 741, rfl⟩
abbrev main_v379 : Ref sig .tc := ⟨.hbm, 742, rfl⟩
abbrev main_cst_96 : Ref sig .tc := ⟨.hbm, 743, rfl⟩
abbrev main_cst_97 : Ref sig .tc := ⟨.hbm, 744, rfl⟩
abbrev main_call40_v0 : Ref sig .tc := ⟨.hbm, 745, rfl⟩
abbrev main_call40_v1 : Ref sig .tc := ⟨.hbm, 746, rfl⟩
abbrev main_call40_v2 : Ref sig .tc := ⟨.hbm, 747, rfl⟩
abbrev main_call40_cst : Ref sig .tc := ⟨.hbm, 748, rfl⟩
abbrev main_call40_v3 : Ref sig .tc := ⟨.hbm, 749, rfl⟩
abbrev main_call40_v4 : Ref sig .tc := ⟨.hbm, 750, rfl⟩
abbrev main_call40_cst_0 : Ref sig .tc := ⟨.hbm, 751, rfl⟩
abbrev main_call40_v5 : Ref sig .tc := ⟨.hbm, 752, rfl⟩
abbrev main_call40_v6 : Ref sig .tc := ⟨.hbm, 753, rfl⟩
abbrev main_call40_v7 : Ref sig .tc := ⟨.hbm, 754, rfl⟩
abbrev main_call40_cst_1 : Ref sig .tc := ⟨.hbm, 755, rfl⟩
abbrev main_call40_v8 : Ref sig .tc := ⟨.hbm, 756, rfl⟩
abbrev main_call40_v9 : Ref sig .tc := ⟨.hbm, 757, rfl⟩
abbrev main_call40_v10 : Ref sig .tc := ⟨.hbm, 758, rfl⟩
abbrev main_call40_v11 : Ref sig .tc := ⟨.hbm, 759, rfl⟩
abbrev main_call40_v12 : Ref sig .tc := ⟨.hbm, 760, rfl⟩
abbrev main_call40_v13 : Ref sig .tc := ⟨.hbm, 761, rfl⟩
abbrev main_call40_v14 : Ref sig .tc := ⟨.hbm, 762, rfl⟩
abbrev main_call40_v15 : Ref sig .tc := ⟨.hbm, 763, rfl⟩
abbrev main_call40_v16 : Ref sig .tc := ⟨.hbm, 764, rfl⟩
abbrev main_v380 : Ref sig .tc := ⟨.hbm, 765, rfl⟩
abbrev main_cst_98 : Ref sig .tc := ⟨.hbm, 766, rfl⟩
abbrev main_v381 : Ref sig .tc := ⟨.hbm, 767, rfl⟩
abbrev main_v382 : Ref sig .tc := ⟨.hbm, 768, rfl⟩
abbrev main_v383 : Ref sig .tc := ⟨.hbm, 769, rfl⟩
abbrev main_v384 : Ref sig .tc := ⟨.hbm, 770, rfl⟩
abbrev main_v385 : Ref sig .tc := ⟨.hbm, 771, rfl⟩
abbrev main_v386 : Ref sig .tc := ⟨.hbm, 772, rfl⟩
abbrev main_v387 : Ref sig .tc := ⟨.hbm, 773, rfl⟩
abbrev main_v388 : Ref sig .tc := ⟨.hbm, 774, rfl⟩
abbrev main_v389 : Ref sig .tc := ⟨.hbm, 775, rfl⟩
abbrev main_v390 : Ref sig .tc := ⟨.hbm, 776, rfl⟩
abbrev main_c_99 : Ref sig .tc := ⟨.hbm, 777, rfl⟩
abbrev main_v391 : Ref sig .tc := ⟨.hbm, 778, rfl⟩
abbrev main_c_100 : Ref sig .tc := ⟨.hbm, 779, rfl⟩
abbrev main_v392 : Ref sig .tc := ⟨.hbm, 780, rfl⟩
abbrev main_v393 : Ref sig .tc := ⟨.hbm, 781, rfl⟩
abbrev main_c_101 : Ref sig .tc := ⟨.hbm, 782, rfl⟩
abbrev main_c_102 : Ref sig .tc := ⟨.hbm, 783, rfl⟩
abbrev main_call41_v0 : Ref sig .tc := ⟨.hbm, 784, rfl⟩
abbrev main_call41_v1 : Ref sig .tc := ⟨.hbm, 785, rfl⟩
abbrev main_call41_v2 : Ref sig .tc := ⟨.hbm, 786, rfl⟩
abbrev main_call41_v3 : Ref sig .tc := ⟨.hbm, 787, rfl⟩
abbrev main_call41_v4 : Ref sig .tc := ⟨.hbm, 788, rfl⟩
abbrev main_v394 : Ref sig .tc := ⟨.hbm, 789, rfl⟩
abbrev main_c_103 : Ref sig .tc := ⟨.hbm, 790, rfl⟩
abbrev main_c_104 : Ref sig .tc := ⟨.hbm, 791, rfl⟩
abbrev main_call42_v0 : Ref sig .tc := ⟨.hbm, 792, rfl⟩
abbrev main_call42_v1 : Ref sig .tc := ⟨.hbm, 793, rfl⟩
abbrev main_call42_v2 : Ref sig .tc := ⟨.hbm, 794, rfl⟩
abbrev main_call42_v3 : Ref sig .tc := ⟨.hbm, 795, rfl⟩
abbrev main_call42_v4 : Ref sig .tc := ⟨.hbm, 796, rfl⟩
abbrev main_v395 : Ref sig .tc := ⟨.hbm, 797, rfl⟩
abbrev main_call43_c : Ref sig .tc := ⟨.hbm, 798, rfl⟩
abbrev main_call43_v0 : Ref sig .tc := ⟨.hbm, 799, rfl⟩
abbrev main_call43_v1 : Ref sig .tc := ⟨.hbm, 800, rfl⟩
abbrev main_call43_c_0 : Ref sig .tc := ⟨.hbm, 801, rfl⟩
abbrev main_call43_v2 : Ref sig .tc := ⟨.hbm, 802, rfl⟩
abbrev main_call43_v3 : Ref sig .tc := ⟨.hbm, 803, rfl⟩
abbrev main_call43_v4 : Ref sig .tc := ⟨.hbm, 804, rfl⟩
abbrev main_call43_v5 : Ref sig .tc := ⟨.hbm, 805, rfl⟩
abbrev main_v396 : Ref sig .tc := ⟨.hbm, 806, rfl⟩
abbrev main_call44_c : Ref sig .tc := ⟨.hbm, 807, rfl⟩
abbrev main_call44_v0 : Ref sig .tc := ⟨.hbm, 808, rfl⟩
abbrev main_call44_v1 : Ref sig .tc := ⟨.hbm, 809, rfl⟩
abbrev main_call44_c_0 : Ref sig .tc := ⟨.hbm, 810, rfl⟩
abbrev main_call44_v2 : Ref sig .tc := ⟨.hbm, 811, rfl⟩
abbrev main_call44_v3 : Ref sig .tc := ⟨.hbm, 812, rfl⟩
abbrev main_call44_v4 : Ref sig .tc := ⟨.hbm, 813, rfl⟩
abbrev main_call44_v5 : Ref sig .tc := ⟨.hbm, 814, rfl⟩
abbrev main_v397 : Ref sig .tc := ⟨.hbm, 815, rfl⟩
abbrev main_call45_c : Ref sig .tc := ⟨.hbm, 816, rfl⟩
abbrev main_call45_v0 : Ref sig .tc := ⟨.hbm, 817, rfl⟩
abbrev main_call45_v1 : Ref sig .tc := ⟨.hbm, 818, rfl⟩
abbrev main_call45_c_0 : Ref sig .tc := ⟨.hbm, 819, rfl⟩
abbrev main_call45_v2 : Ref sig .tc := ⟨.hbm, 820, rfl⟩
abbrev main_call45_v3 : Ref sig .tc := ⟨.hbm, 821, rfl⟩
abbrev main_call45_v4 : Ref sig .tc := ⟨.hbm, 822, rfl⟩
abbrev main_call45_v5 : Ref sig .tc := ⟨.hbm, 823, rfl⟩
abbrev main_v398 : Ref sig .tc := ⟨.hbm, 824, rfl⟩
abbrev main_call46_c : Ref sig .tc := ⟨.hbm, 825, rfl⟩
abbrev main_call46_v0 : Ref sig .tc := ⟨.hbm, 826, rfl⟩
abbrev main_call46_v1 : Ref sig .tc := ⟨.hbm, 827, rfl⟩
abbrev main_call46_c_0 : Ref sig .tc := ⟨.hbm, 828, rfl⟩
abbrev main_call46_v2 : Ref sig .tc := ⟨.hbm, 829, rfl⟩
abbrev main_call46_v3 : Ref sig .tc := ⟨.hbm, 830, rfl⟩
abbrev main_call46_v4 : Ref sig .tc := ⟨.hbm, 831, rfl⟩
abbrev main_call46_v5 : Ref sig .tc := ⟨.hbm, 832, rfl⟩
abbrev main_v399 : Ref sig .tc := ⟨.hbm, 833, rfl⟩
abbrev main_v400 : Ref sig .tc := ⟨.hbm, 834, rfl⟩
abbrev main_v401 : Ref sig .tc := ⟨.hbm, 835, rfl⟩
abbrev main_v402 : Ref sig .tc := ⟨.hbm, 836, rfl⟩
abbrev main_cst_105 : Ref sig .tc := ⟨.hbm, 837, rfl⟩
abbrev main_call47_v0 : Ref sig .tc := ⟨.hbm, 838, rfl⟩
abbrev main_call47_v1 : Ref sig .tc := ⟨.hbm, 839, rfl⟩
abbrev main_call47_call0_v0 : Ref sig .tc := ⟨.hbm, 840, rfl⟩
abbrev main_call47_v2 : Ref sig .tc := ⟨.hbm, 841, rfl⟩
abbrev main_call47_cst : Ref sig .tc := ⟨.hbm, 842, rfl⟩
abbrev main_call47_v3 : Ref sig .tc := ⟨.hbm, 843, rfl⟩
abbrev main_call47_v4 : Ref sig .tc := ⟨.hbm, 844, rfl⟩
abbrev main_call47_cst_0 : Ref sig .tc := ⟨.hbm, 845, rfl⟩
abbrev main_call47_call1_v0 : Ref sig .tc := ⟨.hbm, 846, rfl⟩
abbrev main_call47_v5 : Ref sig .tc := ⟨.hbm, 847, rfl⟩
abbrev main_call47_cst_1 : Ref sig .tc := ⟨.hbm, 848, rfl⟩
abbrev main_call47_v6 : Ref sig .tc := ⟨.hbm, 849, rfl⟩
abbrev main_call47_v7 : Ref sig .tc := ⟨.hbm, 850, rfl⟩
abbrev main_call47_cst_2 : Ref sig .tc := ⟨.hbm, 851, rfl⟩
abbrev main_call47_call2_v0 : Ref sig .tc := ⟨.hbm, 852, rfl⟩
abbrev main_v403 : Ref sig .tc := ⟨.hbm, 853, rfl⟩
abbrev main_cst_106 : Ref sig .tc := ⟨.hbm, 854, rfl⟩
abbrev main_cst_107 : Ref sig .tc := ⟨.hbm, 855, rfl⟩
abbrev main_call48_v0 : Ref sig .tc := ⟨.hbm, 856, rfl⟩
abbrev main_call48_v1 : Ref sig .tc := ⟨.hbm, 857, rfl⟩
abbrev main_call48_v2 : Ref sig .tc := ⟨.hbm, 858, rfl⟩
abbrev main_call48_v3 : Ref sig .tc := ⟨.hbm, 859, rfl⟩
abbrev main_call48_v4 : Ref sig .tc := ⟨.hbm, 860, rfl⟩
abbrev main_v404 : Ref sig .tc := ⟨.hbm, 861, rfl⟩
abbrev main_v405 : Ref sig .tc := ⟨.hbm, 862, rfl⟩
abbrev main_v406 : Ref sig .tc := ⟨.hbm, 863, rfl⟩
abbrev main_v407 : Ref sig .tc := ⟨.hbm, 864, rfl⟩
abbrev main_v408 : Ref sig .tc := ⟨.hbm, 865, rfl⟩
abbrev main_v409 : Ref sig .tc := ⟨.hbm, 866, rfl⟩
abbrev main_v410 : Ref sig .tc := ⟨.hbm, 867, rfl⟩
abbrev main_call49_v0 : Ref sig .tc := ⟨.hbm, 868, rfl⟩
abbrev main_call49_v1_0 : Ref sig .tc := ⟨.hbm, 869, rfl⟩
abbrev main_v411 : Ref sig .tc := ⟨.hbm, 870, rfl⟩
abbrev main_call50_c : Ref sig .tc := ⟨.hbm, 871, rfl⟩
abbrev main_call50_v0 : Ref sig .tc := ⟨.hbm, 872, rfl⟩
abbrev main_call50_v1 : Ref sig .tc := ⟨.hbm, 873, rfl⟩
abbrev main_call50_c_0 : Ref sig .tc := ⟨.hbm, 874, rfl⟩
abbrev main_call50_v2 : Ref sig .tc := ⟨.hbm, 875, rfl⟩
abbrev main_call50_v3 : Ref sig .tc := ⟨.hbm, 876, rfl⟩
abbrev main_call50_v4 : Ref sig .tc := ⟨.hbm, 877, rfl⟩
abbrev main_call50_v5 : Ref sig .tc := ⟨.hbm, 878, rfl⟩
abbrev main_v412 : Ref sig .tc := ⟨.hbm, 879, rfl⟩
abbrev main_v413 : Ref sig .tc := ⟨.hbm, 880, rfl⟩
abbrev main_v414 : Ref sig .tc := ⟨.hbm, 881, rfl⟩
abbrev main_v415 : Ref sig .tc := ⟨.hbm, 882, rfl⟩
abbrev main_v416 : Ref sig .tc := ⟨.hbm, 883, rfl⟩
abbrev main_v417 : Ref sig .tc := ⟨.hbm, 884, rfl⟩
abbrev main_v418 : Ref sig .tc := ⟨.hbm, 885, rfl⟩
abbrev main_v419 : Ref sig .tc := ⟨.hbm, 886, rfl⟩
abbrev main_v420 : Ref sig .tc := ⟨.hbm, 887, rfl⟩
abbrev main_v421 : Ref sig .tc := ⟨.hbm, 888, rfl⟩
abbrev main_v422 : Ref sig .tc := ⟨.hbm, 889, rfl⟩
abbrev main_v423 : Ref sig .tc := ⟨.hbm, 890, rfl⟩
abbrev main_v424 : Ref sig .tc := ⟨.hbm, 891, rfl⟩
abbrev main_v425 : Ref sig .tc := ⟨.hbm, 892, rfl⟩
abbrev main_call51_cst : Ref sig .tc := ⟨.hbm, 893, rfl⟩
abbrev main_call51_v0 : Ref sig .tc := ⟨.hbm, 894, rfl⟩
abbrev main_v426 : Ref sig .tc := ⟨.hbm, 895, rfl⟩
abbrev main_v427 : Ref sig .tc := ⟨.hbm, 896, rfl⟩
abbrev main_v428 : Ref sig .tc := ⟨.hbm, 897, rfl⟩
abbrev main_v429 : Ref sig .tc := ⟨.hbm, 898, rfl⟩
abbrev main_v430 : Ref sig .tc := ⟨.hbm, 899, rfl⟩
abbrev main_v431 : Ref sig .tc := ⟨.hbm, 900, rfl⟩
abbrev main_v432 : Ref sig .tc := ⟨.hbm, 901, rfl⟩
abbrev main_call52_c : Ref sig .tc := ⟨.hbm, 902, rfl⟩
abbrev main_call52_v0 : Ref sig .tc := ⟨.hbm, 903, rfl⟩
abbrev main_call52_v1 : Ref sig .tc := ⟨.hbm, 904, rfl⟩
abbrev main_call52_c_0 : Ref sig .tc := ⟨.hbm, 905, rfl⟩
abbrev main_call52_v2 : Ref sig .tc := ⟨.hbm, 906, rfl⟩
abbrev main_call52_v3 : Ref sig .tc := ⟨.hbm, 907, rfl⟩
abbrev main_call52_v4 : Ref sig .tc := ⟨.hbm, 908, rfl⟩
abbrev main_call52_v5 : Ref sig .tc := ⟨.hbm, 909, rfl⟩
abbrev main_v433 : Ref sig .tc := ⟨.hbm, 910, rfl⟩
abbrev main_v434 : Ref sig .tc := ⟨.hbm, 911, rfl⟩
abbrev main_v435 : Ref sig .tc := ⟨.hbm, 912, rfl⟩
abbrev main_v436 : Ref sig .tc := ⟨.hbm, 913, rfl⟩
abbrev main_v437 : Ref sig .tc := ⟨.hbm, 914, rfl⟩
abbrev main_v438 : Ref sig .tc := ⟨.hbm, 915, rfl⟩
abbrev main_v439 : Ref sig .tc := ⟨.hbm, 916, rfl⟩
abbrev main_v440 : Ref sig .tc := ⟨.hbm, 917, rfl⟩
abbrev main_v441 : Ref sig .tc := ⟨.hbm, 918, rfl⟩
abbrev main_cst_108 : Ref sig .tc := ⟨.hbm, 919, rfl⟩
abbrev main_v442 : Ref sig .tc := ⟨.hbm, 920, rfl⟩
abbrev main_v443 : Ref sig .tc := ⟨.hbm, 921, rfl⟩
abbrev main_v444 : Ref sig .tc := ⟨.hbm, 922, rfl⟩
abbrev main_cst_109 : Ref sig .tc := ⟨.hbm, 923, rfl⟩
abbrev main_v445 : Ref sig .tc := ⟨.hbm, 924, rfl⟩
abbrev main_v446 : Ref sig .tc := ⟨.hbm, 925, rfl⟩
abbrev main_v447 : Ref sig .tc := ⟨.hbm, 926, rfl⟩
abbrev main_v448 : Ref sig .tc := ⟨.hbm, 927, rfl⟩
abbrev main_cst_110 : Ref sig .tc := ⟨.hbm, 928, rfl⟩
abbrev main_v449 : Ref sig .tc := ⟨.hbm, 929, rfl⟩
abbrev main_v450 : Ref sig .tc := ⟨.hbm, 930, rfl⟩
abbrev main_v451 : Ref sig .tc := ⟨.hbm, 931, rfl⟩
abbrev main_v452 : Ref sig .tc := ⟨.hbm, 932, rfl⟩
abbrev main_cst_111 : Ref sig .tc := ⟨.hbm, 933, rfl⟩
abbrev main_cst_112 : Ref sig .tc := ⟨.hbm, 934, rfl⟩
abbrev main_call53_v0 : Ref sig .tc := ⟨.hbm, 935, rfl⟩
abbrev main_call53_v1 : Ref sig .tc := ⟨.hbm, 936, rfl⟩
abbrev main_call53_v2 : Ref sig .tc := ⟨.hbm, 937, rfl⟩
abbrev main_call53_v3 : Ref sig .tc := ⟨.hbm, 938, rfl⟩
abbrev main_call53_v4 : Ref sig .tc := ⟨.hbm, 939, rfl⟩
abbrev main_v453 : Ref sig .tc := ⟨.hbm, 940, rfl⟩
abbrev main_v454 : Ref sig .tc := ⟨.hbm, 941, rfl⟩
abbrev main_cst_113 : Ref sig .tc := ⟨.hbm, 942, rfl⟩
abbrev main_v455 : Ref sig .tc := ⟨.hbm, 943, rfl⟩
abbrev main_v456 : Ref sig .tc := ⟨.hbm, 944, rfl⟩
abbrev main_v457 : Ref sig .tc := ⟨.hbm, 945, rfl⟩
abbrev main_v458 : Ref sig .tc := ⟨.hbm, 946, rfl⟩
abbrev main_cst_114 : Ref sig .tc := ⟨.hbm, 947, rfl⟩
abbrev main_v459 : Ref sig .tc := ⟨.hbm, 948, rfl⟩
abbrev main_v460 : Ref sig .tc := ⟨.hbm, 949, rfl⟩
abbrev main_v461 : Ref sig .tc := ⟨.hbm, 950, rfl⟩
abbrev main_cst_115 : Ref sig .tc := ⟨.hbm, 951, rfl⟩
abbrev main_v462 : Ref sig .tc := ⟨.hbm, 952, rfl⟩
abbrev main_v463 : Ref sig .tc := ⟨.hbm, 953, rfl⟩
abbrev main_v464 : Ref sig .tc := ⟨.hbm, 954, rfl⟩
abbrev main_v465 : Ref sig .tc := ⟨.hbm, 955, rfl⟩
abbrev main_cst_116 : Ref sig .tc := ⟨.hbm, 956, rfl⟩
abbrev main_v466 : Ref sig .tc := ⟨.hbm, 957, rfl⟩
abbrev main_v467 : Ref sig .tc := ⟨.hbm, 958, rfl⟩
abbrev main_cst_117 : Ref sig .tc := ⟨.hbm, 959, rfl⟩
abbrev main_v468 : Ref sig .tc := ⟨.hbm, 960, rfl⟩
abbrev main_v469 : Ref sig .tc := ⟨.hbm, 961, rfl⟩
abbrev main_cst_118 : Ref sig .tc := ⟨.hbm, 962, rfl⟩
abbrev main_v470 : Ref sig .tc := ⟨.hbm, 963, rfl⟩
abbrev main_v471 : Ref sig .tc := ⟨.hbm, 964, rfl⟩
abbrev main_v472 : Ref sig .tc := ⟨.hbm, 965, rfl⟩
abbrev main_v473 : Ref sig .tc := ⟨.hbm, 966, rfl⟩
abbrev main_cst_119 : Ref sig .tc := ⟨.hbm, 967, rfl⟩
abbrev main_v474 : Ref sig .tc := ⟨.hbm, 968, rfl⟩
abbrev main_v475 : Ref sig .tc := ⟨.hbm, 969, rfl⟩
abbrev main_cst_120 : Ref sig .tc := ⟨.hbm, 970, rfl⟩
abbrev main_v476 : Ref sig .tc := ⟨.hbm, 971, rfl⟩
abbrev main_v477 : Ref sig .tc := ⟨.hbm, 972, rfl⟩
abbrev main_v478 : Ref sig .tc := ⟨.hbm, 973, rfl⟩
abbrev main_cst_121 : Ref sig .tc := ⟨.hbm, 974, rfl⟩
abbrev main_v479 : Ref sig .tc := ⟨.hbm, 975, rfl⟩
abbrev main_v480 : Ref sig .tc := ⟨.hbm, 976, rfl⟩
abbrev main_cst_122 : Ref sig .tc := ⟨.hbm, 977, rfl⟩
abbrev main_v481 : Ref sig .tc := ⟨.hbm, 978, rfl⟩
abbrev main_v482 : Ref sig .tc := ⟨.hbm, 979, rfl⟩
abbrev main_v483 : Ref sig .tc := ⟨.hbm, 980, rfl⟩
abbrev main_v484 : Ref sig .tc := ⟨.hbm, 981, rfl⟩
abbrev main_cst_123 : Ref sig .tc := ⟨.hbm, 982, rfl⟩
abbrev main_v485 : Ref sig .tc := ⟨.hbm, 983, rfl⟩
abbrev main_v486 : Ref sig .tc := ⟨.hbm, 984, rfl⟩
abbrev main_v487 : Ref sig .tc := ⟨.hbm, 985, rfl⟩
abbrev main_cst_124 : Ref sig .tc := ⟨.hbm, 986, rfl⟩
abbrev main_v488 : Ref sig .tc := ⟨.hbm, 987, rfl⟩
abbrev main_v489 : Ref sig .tc := ⟨.hbm, 988, rfl⟩
abbrev main_cst_125 : Ref sig .tc := ⟨.hbm, 989, rfl⟩
abbrev main_v490 : Ref sig .tc := ⟨.hbm, 990, rfl⟩
abbrev main_v491 : Ref sig .tc := ⟨.hbm, 991, rfl⟩
abbrev main_v492 : Ref sig .tc := ⟨.hbm, 992, rfl⟩
abbrev main_v493 : Ref sig .tc := ⟨.hbm, 993, rfl⟩
abbrev main_call54_call0_cst : Ref sig .tc := ⟨.hbm, 994, rfl⟩
abbrev main_call54_call0_v0 : Ref sig .tc := ⟨.hbm, 995, rfl⟩
abbrev main_v494 : Ref sig .tc := ⟨.hbm, 996, rfl⟩
abbrev main_v495 : Ref sig .tc := ⟨.hbm, 997, rfl⟩
abbrev main_v496 : Ref sig .tc := ⟨.hbm, 998, rfl⟩
abbrev main_cst_126 : Ref sig .tc := ⟨.hbm, 999, rfl⟩
abbrev main_v497 : Ref sig .tc := ⟨.hbm, 1000, rfl⟩
abbrev main_v498 : Ref sig .tc := ⟨.hbm, 1001, rfl⟩
abbrev main_cst_127 : Ref sig .tc := ⟨.hbm, 1002, rfl⟩
abbrev main_v499 : Ref sig .tc := ⟨.hbm, 1003, rfl⟩
abbrev main_v500 : Ref sig .tc := ⟨.hbm, 1004, rfl⟩
abbrev main_cst_128 : Ref sig .tc := ⟨.hbm, 1005, rfl⟩
abbrev main_v501 : Ref sig .tc := ⟨.hbm, 1006, rfl⟩
abbrev main_v502 : Ref sig .tc := ⟨.hbm, 1007, rfl⟩
abbrev main_call55_cst : Ref sig .tc := ⟨.hbm, 1008, rfl⟩
abbrev main_call55_v0 : Ref sig .tc := ⟨.hbm, 1009, rfl⟩
abbrev main_v503 : Ref sig .tc := ⟨.hbm, 1010, rfl⟩
abbrev main_cst_129 : Ref sig .tc := ⟨.hbm, 1011, rfl⟩
abbrev main_v504 : Ref sig .tc := ⟨.hbm, 1012, rfl⟩
abbrev main_v505 : Ref sig .tc := ⟨.hbm, 1013, rfl⟩
abbrev main_v506 : Ref sig .tc := ⟨.hbm, 1014, rfl⟩
abbrev main_v507 : Ref sig .tc := ⟨.hbm, 1015, rfl⟩
abbrev main_v508 : Ref sig .tc := ⟨.hbm, 1016, rfl⟩
abbrev main_v509 : Ref sig .tc := ⟨.hbm, 1017, rfl⟩
abbrev main_v510 : Ref sig .tc := ⟨.hbm, 1018, rfl⟩
abbrev main_call56_call0_cst : Ref sig .tc := ⟨.hbm, 1019, rfl⟩
abbrev main_call56_call0_v0 : Ref sig .tc := ⟨.hbm, 1020, rfl⟩
abbrev main_v511 : Ref sig .tc := ⟨.hbm, 1021, rfl⟩
abbrev main_cst_130 : Ref sig .tc := ⟨.hbm, 1022, rfl⟩
abbrev main_v512 : Ref sig .tc := ⟨.hbm, 1023, rfl⟩
abbrev main_v513 : Ref sig .tc := ⟨.hbm, 1024, rfl⟩
abbrev main_v514 : Ref sig .tc := ⟨.hbm, 1025, rfl⟩
abbrev main_cst_131 : Ref sig .tc := ⟨.hbm, 1026, rfl⟩
abbrev main_v515 : Ref sig .tc := ⟨.hbm, 1027, rfl⟩
abbrev main_v516 : Ref sig .tc := ⟨.hbm, 1028, rfl⟩
abbrev main_cst_132 : Ref sig .tc := ⟨.hbm, 1029, rfl⟩
abbrev main_cst_133 : Ref sig .tc := ⟨.hbm, 1030, rfl⟩
abbrev main_call57_v0 : Ref sig .tc := ⟨.hbm, 1031, rfl⟩
abbrev main_call57_v1 : Ref sig .tc := ⟨.hbm, 1032, rfl⟩
abbrev main_call57_v2 : Ref sig .tc := ⟨.hbm, 1033, rfl⟩
abbrev main_call57_cst : Ref sig .tc := ⟨.hbm, 1034, rfl⟩
abbrev main_call57_v3 : Ref sig .tc := ⟨.hbm, 1035, rfl⟩
abbrev main_call57_v4 : Ref sig .tc := ⟨.hbm, 1036, rfl⟩
abbrev main_call57_cst_0 : Ref sig .tc := ⟨.hbm, 1037, rfl⟩
abbrev main_call57_v5 : Ref sig .tc := ⟨.hbm, 1038, rfl⟩
abbrev main_call57_v6 : Ref sig .tc := ⟨.hbm, 1039, rfl⟩
abbrev main_call57_v7 : Ref sig .tc := ⟨.hbm, 1040, rfl⟩
abbrev main_call57_cst_1 : Ref sig .tc := ⟨.hbm, 1041, rfl⟩
abbrev main_call57_v8 : Ref sig .tc := ⟨.hbm, 1042, rfl⟩
abbrev main_call57_v9 : Ref sig .tc := ⟨.hbm, 1043, rfl⟩
abbrev main_call57_v10 : Ref sig .tc := ⟨.hbm, 1044, rfl⟩
abbrev main_call57_v11 : Ref sig .tc := ⟨.hbm, 1045, rfl⟩
abbrev main_call57_v12 : Ref sig .tc := ⟨.hbm, 1046, rfl⟩
abbrev main_call57_v13 : Ref sig .tc := ⟨.hbm, 1047, rfl⟩
abbrev main_call57_v14 : Ref sig .tc := ⟨.hbm, 1048, rfl⟩
abbrev main_call57_v15 : Ref sig .tc := ⟨.hbm, 1049, rfl⟩
abbrev main_call57_v16 : Ref sig .tc := ⟨.hbm, 1050, rfl⟩
abbrev main_v517 : Ref sig .tc := ⟨.hbm, 1051, rfl⟩
abbrev main_cst_134 : Ref sig .tc := ⟨.hbm, 1052, rfl⟩
abbrev main_v518 : Ref sig .tc := ⟨.hbm, 1053, rfl⟩
abbrev main_v519 : Ref sig .tc := ⟨.hbm, 1054, rfl⟩
abbrev main_v520 : Ref sig .tc := ⟨.hbm, 1055, rfl⟩
abbrev main_v521 : Ref sig .tc := ⟨.hbm, 1056, rfl⟩
abbrev main_v522 : Ref sig .tc := ⟨.hbm, 1057, rfl⟩
abbrev main_v523 : Ref sig .tc := ⟨.hbm, 1058, rfl⟩
abbrev main_v524 : Ref sig .tc := ⟨.hbm, 1059, rfl⟩
abbrev main_v525 : Ref sig .tc := ⟨.hbm, 1060, rfl⟩
abbrev main_v526 : Ref sig .tc := ⟨.hbm, 1061, rfl⟩
abbrev main_v527 : Ref sig .tc := ⟨.hbm, 1062, rfl⟩
abbrev main_c_135 : Ref sig .tc := ⟨.hbm, 1063, rfl⟩
abbrev main_v528 : Ref sig .tc := ⟨.hbm, 1064, rfl⟩
abbrev main_c_136 : Ref sig .tc := ⟨.hbm, 1065, rfl⟩
abbrev main_v529 : Ref sig .tc := ⟨.hbm, 1066, rfl⟩
abbrev main_v530 : Ref sig .tc := ⟨.hbm, 1067, rfl⟩
abbrev main_c_137 : Ref sig .tc := ⟨.hbm, 1068, rfl⟩
abbrev main_c_138 : Ref sig .tc := ⟨.hbm, 1069, rfl⟩
abbrev main_call58_v0 : Ref sig .tc := ⟨.hbm, 1070, rfl⟩
abbrev main_call58_v1 : Ref sig .tc := ⟨.hbm, 1071, rfl⟩
abbrev main_call58_v2 : Ref sig .tc := ⟨.hbm, 1072, rfl⟩
abbrev main_call58_v3 : Ref sig .tc := ⟨.hbm, 1073, rfl⟩
abbrev main_call58_v4 : Ref sig .tc := ⟨.hbm, 1074, rfl⟩
abbrev main_v531 : Ref sig .tc := ⟨.hbm, 1075, rfl⟩
abbrev main_c_139 : Ref sig .tc := ⟨.hbm, 1076, rfl⟩
abbrev main_c_140 : Ref sig .tc := ⟨.hbm, 1077, rfl⟩
abbrev main_call59_v0 : Ref sig .tc := ⟨.hbm, 1078, rfl⟩
abbrev main_call59_v1 : Ref sig .tc := ⟨.hbm, 1079, rfl⟩
abbrev main_call59_v2 : Ref sig .tc := ⟨.hbm, 1080, rfl⟩
abbrev main_call59_v3 : Ref sig .tc := ⟨.hbm, 1081, rfl⟩
abbrev main_call59_v4 : Ref sig .tc := ⟨.hbm, 1082, rfl⟩
abbrev main_v532 : Ref sig .tc := ⟨.hbm, 1083, rfl⟩
abbrev main_call60_c : Ref sig .tc := ⟨.hbm, 1084, rfl⟩
abbrev main_call60_v0 : Ref sig .tc := ⟨.hbm, 1085, rfl⟩
abbrev main_call60_v1 : Ref sig .tc := ⟨.hbm, 1086, rfl⟩
abbrev main_call60_c_0 : Ref sig .tc := ⟨.hbm, 1087, rfl⟩
abbrev main_call60_v2 : Ref sig .tc := ⟨.hbm, 1088, rfl⟩
abbrev main_call60_v3 : Ref sig .tc := ⟨.hbm, 1089, rfl⟩
abbrev main_call60_v4 : Ref sig .tc := ⟨.hbm, 1090, rfl⟩
abbrev main_call60_v5 : Ref sig .tc := ⟨.hbm, 1091, rfl⟩
abbrev main_v533 : Ref sig .tc := ⟨.hbm, 1092, rfl⟩
abbrev main_call61_c : Ref sig .tc := ⟨.hbm, 1093, rfl⟩
abbrev main_call61_v0 : Ref sig .tc := ⟨.hbm, 1094, rfl⟩
abbrev main_call61_v1 : Ref sig .tc := ⟨.hbm, 1095, rfl⟩
abbrev main_call61_c_0 : Ref sig .tc := ⟨.hbm, 1096, rfl⟩
abbrev main_call61_v2 : Ref sig .tc := ⟨.hbm, 1097, rfl⟩
abbrev main_call61_v3 : Ref sig .tc := ⟨.hbm, 1098, rfl⟩
abbrev main_call61_v4 : Ref sig .tc := ⟨.hbm, 1099, rfl⟩
abbrev main_call61_v5 : Ref sig .tc := ⟨.hbm, 1100, rfl⟩
abbrev main_v534 : Ref sig .tc := ⟨.hbm, 1101, rfl⟩
abbrev main_call62_c : Ref sig .tc := ⟨.hbm, 1102, rfl⟩
abbrev main_call62_v0 : Ref sig .tc := ⟨.hbm, 1103, rfl⟩
abbrev main_call62_v1 : Ref sig .tc := ⟨.hbm, 1104, rfl⟩
abbrev main_call62_c_0 : Ref sig .tc := ⟨.hbm, 1105, rfl⟩
abbrev main_call62_v2 : Ref sig .tc := ⟨.hbm, 1106, rfl⟩
abbrev main_call62_v3 : Ref sig .tc := ⟨.hbm, 1107, rfl⟩
abbrev main_call62_v4 : Ref sig .tc := ⟨.hbm, 1108, rfl⟩
abbrev main_call62_v5 : Ref sig .tc := ⟨.hbm, 1109, rfl⟩
abbrev main_v535 : Ref sig .tc := ⟨.hbm, 1110, rfl⟩
abbrev main_call63_c : Ref sig .tc := ⟨.hbm, 1111, rfl⟩
abbrev main_call63_v0 : Ref sig .tc := ⟨.hbm, 1112, rfl⟩
abbrev main_call63_v1 : Ref sig .tc := ⟨.hbm, 1113, rfl⟩
abbrev main_call63_c_0 : Ref sig .tc := ⟨.hbm, 1114, rfl⟩
abbrev main_call63_v2 : Ref sig .tc := ⟨.hbm, 1115, rfl⟩
abbrev main_call63_v3 : Ref sig .tc := ⟨.hbm, 1116, rfl⟩
abbrev main_call63_v4 : Ref sig .tc := ⟨.hbm, 1117, rfl⟩
abbrev main_call63_v5 : Ref sig .tc := ⟨.hbm, 1118, rfl⟩
abbrev main_v536 : Ref sig .tc := ⟨.hbm, 1119, rfl⟩
abbrev main_v537 : Ref sig .tc := ⟨.hbm, 1120, rfl⟩
abbrev main_v538 : Ref sig .tc := ⟨.hbm, 1121, rfl⟩
abbrev main_v539 : Ref sig .tc := ⟨.hbm, 1122, rfl⟩
abbrev main_cst_141 : Ref sig .tc := ⟨.hbm, 1123, rfl⟩
abbrev main_call64_v0 : Ref sig .tc := ⟨.hbm, 1124, rfl⟩
abbrev main_call64_v1 : Ref sig .tc := ⟨.hbm, 1125, rfl⟩
abbrev main_call64_call0_v0 : Ref sig .tc := ⟨.hbm, 1126, rfl⟩
abbrev main_call64_v2 : Ref sig .tc := ⟨.hbm, 1127, rfl⟩
abbrev main_call64_cst : Ref sig .tc := ⟨.hbm, 1128, rfl⟩
abbrev main_call64_v3 : Ref sig .tc := ⟨.hbm, 1129, rfl⟩
abbrev main_call64_v4 : Ref sig .tc := ⟨.hbm, 1130, rfl⟩
abbrev main_call64_cst_0 : Ref sig .tc := ⟨.hbm, 1131, rfl⟩
abbrev main_call64_call1_v0 : Ref sig .tc := ⟨.hbm, 1132, rfl⟩
abbrev main_call64_v5 : Ref sig .tc := ⟨.hbm, 1133, rfl⟩
abbrev main_call64_cst_1 : Ref sig .tc := ⟨.hbm, 1134, rfl⟩
abbrev main_call64_v6 : Ref sig .tc := ⟨.hbm, 1135, rfl⟩
abbrev main_call64_v7 : Ref sig .tc := ⟨.hbm, 1136, rfl⟩
abbrev main_call64_cst_2 : Ref sig .tc := ⟨.hbm, 1137, rfl⟩
abbrev main_call64_call2_v0 : Ref sig .tc := ⟨.hbm, 1138, rfl⟩
abbrev main_v540 : Ref sig .tc := ⟨.hbm, 1139, rfl⟩
abbrev main_cst_142 : Ref sig .tc := ⟨.hbm, 1140, rfl⟩
abbrev main_cst_143 : Ref sig .tc := ⟨.hbm, 1141, rfl⟩
abbrev main_call65_v0 : Ref sig .tc := ⟨.hbm, 1142, rfl⟩
abbrev main_call65_v1 : Ref sig .tc := ⟨.hbm, 1143, rfl⟩
abbrev main_call65_v2 : Ref sig .tc := ⟨.hbm, 1144, rfl⟩
abbrev main_call65_v3 : Ref sig .tc := ⟨.hbm, 1145, rfl⟩
abbrev main_call65_v4 : Ref sig .tc := ⟨.hbm, 1146, rfl⟩
abbrev main_v541 : Ref sig .tc := ⟨.hbm, 1147, rfl⟩
abbrev main_v542 : Ref sig .tc := ⟨.hbm, 1148, rfl⟩
abbrev main_v543 : Ref sig .tc := ⟨.hbm, 1149, rfl⟩
abbrev main_v544 : Ref sig .tc := ⟨.hbm, 1150, rfl⟩
abbrev main_v545 : Ref sig .tc := ⟨.hbm, 1151, rfl⟩
abbrev main_v546 : Ref sig .tc := ⟨.hbm, 1152, rfl⟩
abbrev main_v547 : Ref sig .tc := ⟨.hbm, 1153, rfl⟩
abbrev main_call66_v0 : Ref sig .tc := ⟨.hbm, 1154, rfl⟩
abbrev main_call66_v1_0 : Ref sig .tc := ⟨.hbm, 1155, rfl⟩
abbrev main_v548 : Ref sig .tc := ⟨.hbm, 1156, rfl⟩
abbrev main_call67_c : Ref sig .tc := ⟨.hbm, 1157, rfl⟩
abbrev main_call67_v0 : Ref sig .tc := ⟨.hbm, 1158, rfl⟩
abbrev main_call67_v1 : Ref sig .tc := ⟨.hbm, 1159, rfl⟩
abbrev main_call67_c_0 : Ref sig .tc := ⟨.hbm, 1160, rfl⟩
abbrev main_call67_v2 : Ref sig .tc := ⟨.hbm, 1161, rfl⟩
abbrev main_call67_v3 : Ref sig .tc := ⟨.hbm, 1162, rfl⟩
abbrev main_call67_v4 : Ref sig .tc := ⟨.hbm, 1163, rfl⟩
abbrev main_call67_v5 : Ref sig .tc := ⟨.hbm, 1164, rfl⟩
abbrev main_v549 : Ref sig .tc := ⟨.hbm, 1165, rfl⟩
abbrev main_v550 : Ref sig .tc := ⟨.hbm, 1166, rfl⟩

abbrev nD : Nat := 1
abbrev τ : Topo := Topo.v7x

variable {F : FTy → Type} [FloatOps F]
-- ==== Proof.Rows.lean ====
/-
Rows of vectors as functions on the naturals, and how the vector operations of a program act on them.
-/
module

public import Idealize.ShloMosaic.Lib.Pointwise
public import Idealize.ShloMosaic.Lib.Pointwise.IndexVar

@[expose] public section

noncomputable section

namespace Cert.Rows

open Idealize.ShloMosaic

/-- The shape of a list of `B` entries. -/
abbrev S1 (B : ℕ) : Shape := ⟨1, ![B]⟩

/-- The shape of a table of `B` rows of `n` entries. -/
abbrev S2 (B n : ℕ) : Shape := ⟨2, ![B, n]⟩

/-- The shape of a box of `B` tables of `p` rows of `n` entries. -/
abbrev S3 (B p n : ℕ) : Shape := ⟨3, ![B, p, n]⟩

section shapes

theorem slices2 {B n o m : ℕ} (h : o + m ≤ n) : (S2 B n).Slices ![0, o] (S2 B m) :=
  ⟨rfl, fun a => by fin_cases a <;> simp [h]⟩
theorem conc2 {B k m n : ℕ} (h : k + m = n) : Shape.Concatenates [S2 B k, S2 B m] (S2 B n) 1 :=
  ⟨le_rfl, by intro s hs; simp at hs; rcases hs with rfl | rfl <;> exact ⟨rfl, fun b hb => by fin_cases b <;> simp_all⟩, by simp [h]⟩
theorem bcCol {B n : ℕ} : (S2 B 1).Broadcasts (S2 B n) :=
  ⟨le_rfl, fun a => by fin_cases a <;> simp⟩
theorem bcRow {B n : ℕ} : (S2 1 n).Broadcasts (S2 B n) :=
  ⟨le_rfl, fun a => by fin_cases a <;> simp⟩
theorem bcDown {B p n : ℕ} : (S3 B 1 n).Broadcasts (S3 B p n) :=
  ⟨le_rfl, fun a => by fin_cases a <;> simp⟩
theorem bcAcross {B p n : ℕ} : (S3 B p 1).Broadcasts (S3 B p n) :=
  ⟨le_rfl, fun a => by fin_cases a <;> simp⟩
theorem bcBox {B p n : ℕ} : (S3 1 p 1).Broadcasts (S3 B p n) :=
  ⟨le_rfl, fun a => by fin_cases a <;> simp⟩
theorem scBox {B n : ℕ} : (S2 B n).ShapeCasts (S3 B 1 n) := by
  simp [Shape.ShapeCasts, Shape.numel, Fin.prod_univ_succ]
theorem scCol {B n : ℕ} : (S2 B n).ShapeCasts (S3 B n 1) := by
  simp [Shape.ShapeCasts, Shape.numel, Fin.prod_univ_succ]
theorem scUncol {B n : ℕ} : (S3 B n 1).ShapeCasts (S2 B n) := by
  simp [Shape.ShapeCasts, Shape.numel, Fin.prod_univ_succ]
theorem scList {B : ℕ} : (S1 B).ShapeCasts (S2 B 1) := by
  simp [Shape.ShapeCasts, Shape.numel, Fin.prod_univ_succ]
theorem red1 {B n : ℕ} : (S2 B n).Reduces [1] (S1 B) :=
  ⟨rfl, by simp, fun b => by fin_cases b <;> rfl⟩
theorem red2 {B p n : ℕ} : (S3 B p n).Reduces [1] (S2 B n) :=
  ⟨rfl, by simp, fun b => by fin_cases b <;> rfl⟩
theorem red3 {B p n : ℕ} : (S3 B p n).Reduces [2] (S2 B p) :=
  ⟨rfl, by simp, fun b => by fin_cases b <;> rfl⟩
theorem iota2 {B n : ℕ} : (S2 B n).Iotas .tc 32 [1] := by
  simp [Shape.Iotas]

theorem slices3 {B p n : ℕ} : (S3 B p (n + 1)).Slices ![0, 0, n] (S3 B p 1) :=
  ⟨rfl, fun a => by fin_cases a <;> simp⟩
theorem iota3 {B p n : ℕ} : (S3 B p n).Iotas .tc 32 [2] := by
  simp [Shape.Iotas]
theorem scSelf {s : Shape} : s.ShapeCasts s := rfl
theorem scFlat {B n k : ℕ} : (S3 B n k).ShapeCasts (S2 (B * n) k) := by
  simp [Shape.ShapeCasts, Shape.numel, Fin.prod_univ_succ, Nat.mul_assoc]
theorem scTable {B n : ℕ} : (S2 (B * n) 1).ShapeCasts (S2 B n) := by
  simp [Shape.ShapeCasts, Shape.numel, Fin.prod_univ_succ]
theorem scRow {n : ℕ} : (S2 1 n).ShapeCasts (S1 n) := by
  simp [Shape.ShapeCasts, Shape.numel, Fin.prod_univ_succ]
theorem scRow' {n : ℕ} : (S1 n).ShapeCasts (S2 1 n) := by
  simp [Shape.ShapeCasts, Shape.numel, Fin.prod_univ_succ]

end shapes

/-- Row `b` of the table `x` lists the numbers `r 0, r 1, …`. -/
def Rd {α : Type} {B n : ℕ} (x : (S2 B n).Idx → α) (b : Fin B) (r : ℕ → α) : Prop :=
  ∀ (j : ℕ) (h : j < n), x (ix2 b ⟨j, h⟩) = r j

/-- Table `b` of the box `x` lists the numbers `r i j`. -/
def Rd3 {α : Type} {B p n : ℕ} (x : (S3 B p n).Idx → α) (b : Fin B) (r : ℕ → ℕ → α) : Prop :=
  ∀ (i : ℕ) (hi : i < p) (j : ℕ) (h : j < n), x (ix3 b ⟨i, hi⟩ ⟨j, h⟩) = r i j

/-- Two rows one after the other, the first of length `k`. -/
def cat {α : Type} (k : ℕ) (r s : ℕ → α) : ℕ → α := fun j => if j < k then r j else s (j - k)

/-- The number a pattern of 32 bits denotes. -/
abbrev cw (w : BitVec 32) : EReal := Ideal.ofBits .f32 w

/-- A coordinate of an axis of size one is zero. -/
theorem pin {B : ℕ} (b : Fin B) (h : 0 < B) : (if _h : B = 1 then ⟨0, h⟩ else b) = b := by
  split
  · exact Fin.ext (by have := b.isLt; show 0 = b.val; omega)
  · rfl

/-- A reshape reads the entry at the same place in reading order. -/
theorem shapeCast_at {α : Type} {s t : Shape} (x : s.Idx → α) (h : s.ShapeCasts t) (i : t.Idx) (j : s.Idx)
    (e : (s.rowMajor j).val = (t.rowMajor i).val) : shapeCast t x h i = x j :=
  congrArg x (Shape.reshapeEquiv_eq_of_rowMajor _ e)

section ops
variable {B n m k p q : ℕ} {b : Fin B}

theorem Rd.congr {α : Type} {x : (S2 B n).Idx → α} {r s : ℕ → α} (h : Rd x b r) (e : ∀ j, j < n → r j = s j) : Rd x b s :=
  fun j hj => (h j hj).trans (e j hj)

section elementwise
variable {x y : FVec Ideal (S2 B n) .f32} {r s : ℕ → EReal}

theorem Rd.addf (hx : Rd x b r) (hy : Rd y b s) : Rd (addf x y) b fun j => r j + s j :=
  fun j h => congrArg₂ (fun a c : EReal => a + c) (hx j h) (hy j h)

theorem Rd.subf (hx : Rd x b r) (hy : Rd y b s) : Rd (subf x y) b fun j => r j - s j :=
  fun j h => congrArg₂ (fun a c : EReal => a - c) (hx j h) (hy j h)

theorem Rd.mulf (hx : Rd x b r) (hy : Rd y b s) : Rd (mulf x y) b fun j => r j * s j :=
  fun j h => congrArg₂ (fun a c : EReal => a * c) (hx j h) (hy j h)

theorem Rd.maximumf (hx : Rd x b r) (hy : Rd y b s) : Rd (maximumf x y) b fun j => max (r j) (s j) :=
  fun j h => congrArg₂ (fun a c : EReal => max a c) (hx j h) (hy j h)

theorem Rd.minimumf (hx : Rd x b r) (hy : Rd y b s) : Rd (minimumf x y) b fun j => min (r j) (s j) :=
  fun j h => congrArg₂ (fun a c : EReal => min a c) (hx j h) (hy j h)

theorem Rd.divf (hx : Rd x b r) (hy : Rd y b s) : Rd (divf x y) b fun j => Ideal.div (r j) (s j) :=
  fun j h => congrArg₂ (fun a c : EReal => Ideal.div a c) (hx j h) (hy j h)

theorem Rd.hdivf (hx : Rd x b r) (hy : Rd y b s) : Rd (Host.divf x y) b fun j => Ideal.div (r j) (s j) :=
  fun j h => congrArg₂ (fun a c : EReal => Ideal.div a c) (hx j h) (hy j h)

theorem Rd.exp (hx : Rd x b r) : Rd (exp x) b fun j => Ideal.exp (r j) :=
  fun j h => congrArg (fun a : EReal => Ideal.exp a) (hx j h)

theorem Rd.hexp (hx : Rd x b r) : Rd (Host.exp x) b fun j => Ideal.exp (r j) :=
  fun j h => congrArg (fun a : EReal => Ideal.exp a) (hx j h)

theorem Rd.hlog (hx : Rd x b r) : Rd (Host.log x) b fun j => Ideal.log (r j) :=
  fun j h => congrArg (fun a : EReal => Ideal.log a) (hx j h)

theorem Rd.hnegf (hx : Rd x b r) : Rd (Host.negf x) b fun j => -(r j) :=
  fun j h => congrArg (fun a : EReal => -a) (hx j h)

end elementwise

theorem Rd.const {c : Ideal .f32} : Rd (broadcast (S2 B n) c) b fun _ => c := fun _ _ => rfl

theorem Rd.concat {α : Type} [Inhabited α] {x : (S2 B k).Idx → α} {y : (S2 B m).Idx → α} {r s : ℕ → α} (hx : Rd x b r) (hy : Rd y b s)
    (hc : Shape.Concatenates [S2 B k, S2 B m] (S2 B n) 1) :
    Rd (concatenate (S2 B n) 1 [⟨S2 B k, x⟩, ⟨S2 B m, y⟩] hc) b (cat k r s) := by
  intro j h
  pointwise
  unfold cat
  split
  · exact hx _ _
  · exact hy _ _

theorem Rd.slice {α : Type} {o : ℕ} {x : (S2 B n).Idx → α} {r : ℕ → α} (hx : Rd x b r)
    (hc : (S2 B n).Slices ![0, o] (S2 B m)) :
    Rd (extractStridedSlice (S2 B m) ![0, o] x hc) b (fun j => r (o + j)) := by
  intro j h
  pointwise
  exact hx _ _

theorem Rd.slice0 {α : Type} {x : (S2 B n).Idx → α} {r : ℕ → α} (hx : Rd x b r)
    (hc : (S2 B n).Slices ![0, 0] (S2 B m)) :
    Rd (extractStridedSlice (S2 B m) ![0, 0] x hc) b r :=
  (hx.slice hc).congr fun j _ => congrArg r (Nat.zero_add j)

theorem Rd.self2 {α : Type} {x : (S2 B n).Idx → α} {r : ℕ → α} (hx : Rd x b r) (hc : (S2 B n).ShapeCasts (S2 B n)) :
    Rd (shapeCast (S2 B n) x hc) b r :=
  fun j h => (shapeCast_at _ hc _ _ rfl).trans (hx j h)

/-- A column spread over the columns of a table. -/
theorem Rd.spread {α : Type} {x : (S2 B 1).Idx → α} {r : ℕ → α} (hx : Rd x b r) (hc : (S2 B 1).Broadcasts (S2 B n)) :
    Rd (broadcastTo (S2 B n) x hc) b fun _ => r 0 := by
  intro j h
  pointwise
  exact (congrArg (fun a => x (ix2 a 0)) (pin b b.pos)).trans (hx 0 Nat.one_pos)

/-- One row repeated for every row of a table. -/
theorem Rd.repeatRow {α : Type} {x : (S2 1 n).Idx → α} {r : ℕ → α} (hx : Rd x 0 r) (hc : (S2 1 n).Broadcasts (S2 B n)) :
    Rd (broadcastTo (S2 B n) x hc) b r := by
  intro j h
  pointwise
  exact (congrArg (fun a => x (ix2 0 a)) (pin ⟨j, h⟩ (by omega))).trans (hx j h)

/-- The sums of the rows of a table. -/
theorem sum_ap {x : FVec Ideal (S2 B n) .f32} {r : ℕ → EReal} (hx : Rd x b r) (hr : (S2 B n).Reduces [1] (S1 B)) (hk) :
    multiReduction .add [1] (S1 B) x 0x00000000#32 hr hk rfl (ix1 b) = ∑ i ∈ Finset.range n, r i := by
  pointwise
  rw [Finset.sum_range]
  exact Finset.sum_congr rfl fun i _ => hx i.1 i.2

/-- The sums of the rows of a table, as a column. -/
theorem Rd.rowSum {x : FVec Ideal (S2 B n) .f32} {r : ℕ → EReal} (hx : Rd x b r) (hr : (S2 B n).Reduces [1] (S1 B)) (hk) (hs : (S1 B).ShapeCasts (S2 B 1)) :
    Rd (shapeCast (S2 B 1) (multiReduction .add [1] (S1 B) x 0x00000000#32 hr hk rfl) hs) b fun _ => ∑ i ∈ Finset.range n, r i := by
  intro j h
  refine (shapeCast_at _ hs _ (ix1 b) ?_).trans (sum_ap hx hr hk)
  rw [Shape.rowMajor_val_one, Shape.rowMajor_val_two]
  show b.val = b.val * 1 + j
  omega

end ops

/-- A running operation over the first `n` numbers, written over `Fin n`. -/
theorem fold_fin {α : Type} (op : α → α → α) [Std.Commutative op] [Std.Associative op] {n : ℕ} {a : α} {f : Fin n → α} {g : ℕ → α}
    (h : ∀ i : Fin n, f i = g i.val) : Finset.univ.fold op a f = (Finset.range n).fold op a g := by
  rw [← Nat.Iio_eq_range, ← Fin.map_valEmbedding_univ, Finset.fold_map]
  exact Finset.fold_congr fun i _ => h i

section boxes
variable {B n m k p q : ℕ} {b : Fin B}

/-- The rows of a table as boxes of one row. -/
theorem Rd.box {α : Type} {x : (S2 B n).Idx → α} {r : ℕ → α} (hx : Rd x b r) (hc : (S2 B n).ShapeCasts (S3 B 1 n)) :
    Rd3 (shapeCast (S3 B 1 n) x hc) b fun _ j => r j := by
  intro i hi j h
  refine (shapeCast_at _ hc _ (ix2 b ⟨j, h⟩) ?_).trans (hx j h)
  rw [Shape.rowMajor_val_two, Shape.rowMajor_val_three]
  obtain rfl : i = 0 := by omega
  show b.val * n + j = (b.val * 1 + 0) * n + j
  rw [Nat.mul_one, Nat.add_zero]

/-- The rows of a table as boxes of one column. -/
theorem Rd.col {α : Type} {x : (S2 B p).Idx → α} {r : ℕ → α} (hx : Rd x b r) (hc : (S2 B p).ShapeCasts (S3 B p 1)) :
    Rd3 (shapeCast (S3 B p 1) x hc) b fun i _ => r i := by
  intro i hi j h
  refine (shapeCast_at _ hc _ (ix2 b ⟨i, hi⟩) ?_).trans (hx i hi)
  rw [Shape.rowMajor_val_two, Shape.rowMajor_val_three]
  show b.val * p + i = (b.val * p + i) * 1 + j
  omega

theorem Rd3.self {α : Type} {x : (S3 B p n).Idx → α} {r : ℕ → ℕ → α} (hx : Rd3 x b r) (hc : (S3 B p n).ShapeCasts (S3 B p n)) :
    Rd3 (shapeCast (S3 B p n) x hc) b r :=
  fun i hi j h => (shapeCast_at _ hc _ _ rfl).trans (hx i hi j h)

theorem Rd3.uncol {α : Type} {x : (S3 B p 1).Idx → α} {r : ℕ → ℕ → α} (hx : Rd3 x b r) (hc : (S3 B p 1).ShapeCasts (S2 B p)) :
    Rd (shapeCast (S2 B p) x hc) b fun i => r i 0 := by
  intro i h
  refine (shapeCast_at _ hc _ (ix3 b ⟨i, h⟩ ⟨0, Nat.one_pos⟩) ?_).trans (hx i h 0 Nat.one_pos)
  rw [Shape.rowMajor_val_two, Shape.rowMajor_val_three]
  show (b.val * p + i) * 1 + 0 = b.val * p + i
  omega

theorem Rd3.down {α : Type} {x : (S3 B 1 n).Idx → α} {r : ℕ → ℕ → α} (hx : Rd3 x b r) (hc : (S3 B 1 n).Broadcasts (S3 B p n)) :
    Rd3 (broadcastTo (S3 B p n) x hc) b fun _ j => r 0 j := by
  intro i hi j h
  pointwise
  exact (congrArg₂ (fun a c => x (ix3 a 0 c)) (pin b b.pos) (pin ⟨j, h⟩ (by omega))).trans (hx 0 Nat.one_pos j h)

theorem Rd3.across {α : Type} {x : (S3 B p 1).Idx → α} {r : ℕ → ℕ → α} (hx : Rd3 x b r) (hc : (S3 B p 1).Broadcasts (S3 B p n)) :
    Rd3 (broadcastTo (S3 B p n) x hc) b fun i _ => r i 0 := by
  intro i hi j h
  pointwise
  exact (congrArg₂ (fun a c => x (ix3 a c 0)) (pin b b.pos) (pin ⟨i, hi⟩ (by omega))).trans (hx i hi 0 Nat.one_pos)

theorem Rd3.sumDown {x : FVec Ideal (S3 B p n) .f32} {r : ℕ → ℕ → EReal} (hx : Rd3 x b r) (hr : (S3 B p n).Reduces [1] (S2 B n)) (hk) :
    Rd (multiReduction .add [1] (S2 B n) x 0x00000000#32 hr hk rfl) b fun j => ∑ i ∈ Finset.range p, r i j := by
  intro j h
  pointwise
  rw [Finset.sum_range]
  exact Finset.sum_congr rfl fun i _ => hx i.1 i.2 j h

theorem Rd3.sumAcross {x : FVec Ideal (S3 B p n) .f32} {r : ℕ → ℕ → EReal} (hx : Rd3 x b r) (hr : (S3 B p n).Reduces [2] (S2 B p)) (hk) :
    Rd (multiReduction .add [2] (S2 B p) x 0x00000000#32 hr hk rfl) b fun i => ∑ j ∈ Finset.range n, r i j := by
  intro j h
  pointwise
  rw [Finset.sum_range]
  exact Finset.sum_congr rfl fun i _ => hx j h i.1 i.2

theorem Rd3.maxAcross {x : FVec Ideal (S3 B p n) .f32} {r : ℕ → ℕ → EReal} (hx : Rd3 x b r) (hr : (S3 B p n).Reduces [2] (S2 B p)) (hk) :
    Rd (multiReduction .maximumf [2] (S2 B p) x 0xFF800000#32 hr hk rfl) b fun i => (Finset.range n).fold max (cw 0xFF800000#32) (r i) := by
  intro j h
  pointwise
  exact fold_fin _ (fun i => hx j h i.1 i.2)

theorem Rd3.minAcross {x : FVec Ideal (S3 B p n) .f32} {r : ℕ → ℕ → EReal} (hx : Rd3 x b r) (hr : (S3 B p n).Reduces [2] (S2 B p)) (hk) :
    Rd (multiReduction .minimumf [2] (S2 B p) x 0x7F800000#32 hr hk rfl) b fun i => (Finset.range n).fold min (cw 0x7F800000#32) (r i) := by
  intro j h
  pointwise
  exact fold_fin _ (fun i => hx j h i.1 i.2)

end boxes
end Cert.Rows
-- ==== Proof.KNet.lean ====
/-
The kernel's computation on one block of rays, as functions of vectors.
-/
module

public import Idealize.ShloMosaic.Lib.Pointwise
public import proofs.«01_k».proof.Proof.Rows

@[expose] public section

noncomputable section

namespace Cert.KNet

open Idealize.ShloMosaic Cert.Rows

variable {B n : ℕ}

/-- A vector of one number, given by its pattern of bits. -/
abbrev kc (s : Shape) (w : BitVec 32) : FVec Ideal s .f32 := broadcast s (Scalar.ofBits .f32 w : Ideal .f32)

/-- The numbers of the columns. -/
abbrev kIota (B n : ℕ) : FVec Ideal (S2 B n) .f32 := sitofp .f32 (iota .tc (S2 B n) 32 [1] iota2)

/-- A column of `w` in front of the table without its last column. -/
abbrev kShift (w : BitVec 32) (s : ℕ) (h : s ≤ n) (x : FVec Ideal (S2 B n) .f32) : FVec Ideal (S2 B n) .f32 :=
  concatenate (S2 B n) 1 [⟨S2 B s, kc _ w⟩, ⟨S2 B (n - s), extractStridedSlice (S2 B (n - s)) ![0, 0] x (slices2 (by omega))⟩]
    (conc2 (by omega))

/-- One step of a doubling scan. -/
def kStep (op : FVec Ideal (S2 B n) .f32 → FVec Ideal (S2 B n) .f32 → FVec Ideal (S2 B n) .f32) (w : BitVec 32) (s : ℕ) (h : s ≤ n)
    (x : FVec Ideal (S2 B n) .f32) : FVec Ideal (S2 B n) .f32 := op x (kShift w s h x)

/-- A scan by doubling, over at most 128 columns. -/
def kScan (op : FVec Ideal (S2 B n) .f32 → FVec Ideal (S2 B n) .f32 → FVec Ideal (S2 B n) .f32) (w : BitVec 32) (hn : 64 ≤ n)
    (x : FVec Ideal (S2 B n) .f32) : FVec Ideal (S2 B n) .f32 :=
  let y := kStep op w 32 (by omega) (kStep op w 16 (by omega) (kStep op w 8 (by omega) (kStep op w 4 (by omega)
    (kStep op w 2 (by omega) (kStep op w 1 (by omega) x)))))
  if 64 < n then kStep op w 64 hn y else y

/-- The network at the points `o + t d` of a block of rays. -/
def kSdf (o d : FVec Ideal (S2 B 3) .f32) (W1 : FVec Ideal (S2 3 128) .f32) (b1 : FVec Ideal (S2 1 128) .f32) (W2 : FVec Ideal (S2 128 1) .f32)
    (b2 : Ideal .f32) (t : FVec Ideal (S2 B n) .f32) : FVec Ideal (S2 B n) .f32 :=
  let p := shapeCast (S2 (B * n) 3) (addf (broadcastTo (S3 B n 3) (shapeCast (S3 B 1 3) o scBox) bcDown)
    (mulf (broadcastTo (S3 B n 3) (shapeCast (S3 B n 1) t scCol) bcAcross) (broadcastTo (S3 B n 3) (shapeCast (S3 B 1 3) d scBox) bcDown))) scFlat
  let h := maximumf (addf (matmul (DotDims.plain (B * n) 3 128) none p W1 (constant (S2 (B * n) 128) .f32 0x00000000#32))
    (broadcastTo (S2 (B * n) 128) (shapeCast (S2 1 128) (shapeCast (S1 128) b1 scRow) scRow') bcRow)) (kc _ 0x00000000#32)
  addf (shapeCast (S2 B n) (matmul (DotDims.plain (B * n) 128 1) none h W2 (constant (S2 (B * n) 1) .f32 0x00000000#32)) scTable) (broadcast _ b2)

/-- The logistic function. -/
def kSig (x : FVec Ideal (S2 B n) .f32) : FVec Ideal (S2 B n) .f32 :=
  divf (kc _ 0x3F800000#32) (addf (kc _ 0x3F800000#32) (exp (subf (kc _ 0x00000000#32) x)))

/-- The opacities of the sections between `n + 2` samples, the last one zero. -/
def kAlpha (wi : BitVec 32) (bins : FVec Ideal (S2 B (n + 2)) .f32) (mx : FVec Ideal (S2 B 1) .f32) (sdf : FVec Ideal (S2 B (n + 2)) .f32) :
    FVec Ideal (S2 B (n + 2)) .f32 :=
  let edges : FVec Ideal (S2 B (n + 3)) .f32 := concatenate (S2 B (n + 3)) 1 [⟨S2 B (n + 2), bins⟩, ⟨S2 B 1, mx⟩] (conc2 rfl)
  let dist := extractStridedSlice (S2 B (n + 1)) ![0, 0] (subf (extractStridedSlice (S2 B (n + 2)) ![0, 1] edges (slices2 (by omega)))
    (extractStridedSlice (S2 B (n + 2)) ![0, 0] edges (slices2 (by omega)))) (slices2 (by omega))
  let prev := extractStridedSlice (S2 B (n + 1)) ![0, 0] sdf (slices2 (by omega))
  let next := extractStridedSlice (S2 B (n + 1)) ![0, 1] sdf (slices2 (by omega))
  let mid := mulf (addf prev next) (kc _ 0x3F000000#32)
  let cos := divf (subf next prev) (addf dist (kc _ 0x3727C5AC#32))
  let clip := minimumf (kc _ 0x00000000#32) (maximumf (kc _ 0xC47A0000#32) (minimumf (kShift 0x00000000#32 1 (by omega) cos) cos))
  let half := mulf (mulf clip dist) (kc _ 0x3F000000#32)
  let pc := kSig (mulf (subf mid half) (kc _ wi))
  let nc := kSig (mulf (addf mid half) (kc _ wi))
  concatenate (S2 B (n + 2)) 1 [⟨S2 B (n + 1), divf (addf (subf pc nc) (kc _ 0x3727C5AC#32)) (addf pc (kc _ 0x3727C5AC#32))⟩,
    ⟨S2 B 1, kc _ 0x00000000#32⟩] (conc2 rfl)

/-- The weights of the samples, a little above zero. -/
def kWeights (hn : 64 ≤ n) (alpha : FVec Ideal (S2 B n) .f32) : FVec Ideal (S2 B n) .f32 :=
  addf (mulf alpha (kScan mulf 0x3F800000#32 hn (concatenate (S2 B n) 1 [⟨S2 B 1, kc _ 0x3F800000#32⟩, ⟨S2 B (n - 1), subf (kc _ 0x3F800000#32)
    (extractStridedSlice (S2 B (n - 1)) ![0, 0] alpha (slices2 (by omega)))⟩] (conc2 (by omega))))) (kc _ 0x3727C5AC#32)

/-- The weights, divided by their sum. -/
def kPdf (wn : BitVec 32) (w : FVec Ideal (S2 B n) .f32) : FVec Ideal (S2 B n) .f32 :=
  let s := shapeCast (S2 B 1) (multiReduction .add [1] (S1 B) w 0x00000000#32 red1 (.inl rfl) rfl) scList
  let pad := maximumf (subf (kc _ 0x3727C5AC#32) s) (kc _ 0x00000000#32)
  divf (addf w (broadcastTo (S2 B n) (divf pad (kc _ wn)) bcCol)) (broadcastTo (S2 B n) (addf s pad) bcCol)

/-- The distribution function of a density, from zero on. -/
def kCdf (hn : 64 ≤ n) (pdf : FVec Ideal (S2 B n) .f32) : FVec Ideal (S2 B (n + 1)) .f32 :=
  concatenate (S2 B (n + 1)) 1 [⟨S2 B 1, kc _ 0x00000000#32⟩, ⟨S2 B n, minimumf (kScan addf 0x00000000#32 hn pdf) (kc _ 0x3F800000#32)⟩]
    (conc2 (by omega))

/-- The last column of a table, repeated. -/
abbrev kLast (p : ℕ) (x : FVec Ideal (S2 B (n + 1)) .f32) : FVec Ideal (S2 B p) .f32 :=
  broadcastTo (S2 B p) (shapeCast (S2 B 1) (extractStridedSlice (S2 B 1) ![0, n] x (slices2 (by omega))) scSelf) bcCol

/-- The rows of a table as boxes, repeated downwards. -/
abbrev kDown (p : ℕ) (x : FVec Ideal (S2 B n) .f32) : FVec Ideal (S3 B p n) .f32 :=
  broadcastTo (S3 B p n) (shapeCast (S3 B 1 n) (shapeCast (S3 B 1 n) x scBox) scSelf) bcDown

/-- Where the distribution function is at most the level. -/
def kMask (p : ℕ) (u3 : FVec Ideal (S3 1 p 1) .f32) (cdf : FVec Ideal (S2 B (n + 1)) .f32) : IVec (S3 B p (n + 1)) 1 :=
  cmpf .ole (broadcastTo (S3 B p (n + 1)) (shapeCast (S3 B 1 (n + 1)) cdf scBox) bcDown) (broadcastTo (S3 B p (n + 1)) u3 bcBox)

/-- The samples at given levels of the distribution function. -/
def kSample (p : ℕ) (u3 : FVec Ideal (S3 1 p 1) .f32) (u2 : FVec Ideal (S2 1 p) .f32) (cdf ex : FVec Ideal (S2 B (n + 1)) .f32) :
    FVec Ideal (S2 B p) .f32 :=
  let M := kMask p u3 cdf
  let c0 := multiReduction .maximumf [2] (S2 B p) (select M (kDown p cdf) (kc _ 0x00000000#32)) 0xFF800000#32 red3 (.inl rfl) rfl
  let e0 := multiReduction .maximumf [2] (S2 B p) (select M (kDown p ex) (kc _ 0x00000000#32)) 0xFF800000#32 red3 (.inl rfl) rfl
  let c1 := multiReduction .minimumf [2] (S2 B p) (select M (kc _ 0x40000000#32) (kDown p cdf)) 0x7F800000#32 red3 (.inl rfl) rfl
  let e1 := multiReduction .minimumf [2] (S2 B p) (select M (kc _ 0x7149F2CA#32) (kDown p ex)) 0x7F800000#32 red3 (.inl rfl) rfl
  let all : IVec (S2 B p) 1 := shapeCast (S2 B p) (extractStridedSlice (S3 B p 1) ![0, 0, n] M slices3) scUncol
  let c1' := select all (kLast p cdf) c1
  let e1' := select all (kLast p ex) e1
  let raw := divf (subf (broadcastTo (S2 B p) u2 bcRow) c0) (subf c1' c0)
  let raw' := select (cmpf .one raw raw) (kc _ 0x00000000#32) raw
  let ts := minimumf (kc _ 0x3F800000#32) (maximumf (kc _ 0x00000000#32) raw')
  addf e0 (mulf ts (subf e1' e0))

/-- One where a new sample lies before an old one, else zero. -/
def kLess {k : ℕ} (bins : FVec Ideal (S2 B n) .f32) (new : FVec Ideal (S2 B k) .f32) : FVec Ideal (S3 B k n) .f32 :=
  sitofp .f32 (extui 32 (cmpf .olt (broadcastTo (S3 B k n) (shapeCast (S3 B k 1) new scCol) bcAcross)
    (broadcastTo (S3 B k n) (shapeCast (S3 B 1 n) bins scBox) bcDown)) (by decide))

/-- The places of the old samples in the merged list. -/
def kPosOld {k : ℕ} (bins : FVec Ideal (S2 B n) .f32) (new : FVec Ideal (S2 B k) .f32) : FVec Ideal (S2 B n) .f32 :=
  addf (kIota B n) (multiReduction .add [1] (S2 B n) (kLess bins new) 0x00000000#32 red2 (.inl rfl) rfl)

/-- The places of the new samples in the merged list. -/
def kPosNew {k : ℕ} (wn : BitVec 32) (bins : FVec Ideal (S2 B n) .f32) (new : FVec Ideal (S2 B k) .f32) : FVec Ideal (S2 B k) .f32 :=
  addf (kIota B k) (subf (kc _ wn) (multiReduction .add [2] (S2 B k) (kLess bins new) 0x00000000#32 red3 (.inl rfl) rfl))

/-- The patterns of the numbers from zero to sixteen. -/
def kWord : ℕ → BitVec 32
  | 0 => 0x00000000#32 | 1 => 0x3F800000#32 | 2 => 0x40000000#32 | 3 => 0x40400000#32 | 4 => 0x40800000#32 | 5 => 0x40A00000#32
  | 6 => 0x40C00000#32 | 7 => 0x40E00000#32 | 8 => 0x41000000#32 | 9 => 0x41100000#32 | 10 => 0x41200000#32 | 11 => 0x41300000#32
  | 12 => 0x41400000#32 | 13 => 0x41500000#32 | 14 => 0x41600000#32 | 15 => 0x41700000#32 | _ => 0x41800000#32

/-- The old values at their places: the sum of the shifts by `0, …, s`, each kept where the place asks for that shift. -/
def kShifts (old c : FVec Ideal (S2 B n) .f32) : (s : ℕ) → s ≤ n → FVec Ideal (S2 B n) .f32
  | 0, _ => addf (kc _ 0x00000000#32) (select (cmpf .oeq c (kc _ (kWord 0))) old (kc _ 0x00000000#32))
  | s + 1, h => addf (kShifts old c s (by omega)) (select (cmpf .oeq (kShift 0xBF800000#32 (s + 1) h c) (kc _ (kWord (s + 1))))
      (kShift 0x00000000#32 (s + 1) h old) (kc _ 0x00000000#32))

/-- The table continued by sixteen columns of one number. -/
abbrev kPad (w : BitVec 32) (x : FVec Ideal (S2 B n) .f32) : FVec Ideal (S2 B (n + 16)) .f32 :=
  concatenate (S2 B (n + 16)) 1 [⟨S2 B n, x⟩, ⟨S2 B 16, kc _ w⟩] (conc2 rfl)

/-- The old and the new values at their places in the merged list. -/
def kScatter (old : FVec Ideal (S2 B n) .f32) (new : FVec Ideal (S2 B 16) .f32) (po : FVec Ideal (S2 B n) .f32) (pn : FVec Ideal (S2 B 16) .f32) :
    FVec Ideal (S2 B (n + 16)) .f32 :=
  let hot : FVec Ideal (S3 B 16 (n + 16)) .f32 := sitofp .f32 (extui 32 (cmpf .oeq
    (broadcastTo (S3 B 16 (n + 16)) (shapeCast (S3 B 16 1) pn scCol) bcAcross)
    (sitofp .f32 (iota .tc (S3 B 16 (n + 16)) 32 [2] iota3))) (by decide))
  addf (kShifts (kPad 0x00000000#32 old) (kPad 0xBF800000#32 (subf po (kIota B n))) 16 (by omega))
    (multiReduction .add [1] (S2 B (n + 16)) (mulf hot (broadcastTo (S3 B 16 (n + 16)) (shapeCast (S3 B 16 1) new scCol) bcAcross))
      0x00000000#32 red2 (.inl rfl) rfl)

/-- The levels, as a box of one column. -/
def kU3 : FVec Ideal (S3 1 17 1) .f32 :=
  addf (mulf (sitofp .f32 (iota .tc (S3 1 17 1) 32 [1] (by decide))) (kc _ 0x3D70F0F1#32)) (kc _ 0x3CF0F0F1#32)

/-- The levels, as a row. -/
def kU2 : FVec Ideal (S2 1 17) .f32 :=
  addf (mulf (kIota 1 17) (kc _ 0x3D70F0F1#32)) (kc _ 0x3CF0F0F1#32)

/-- The new samples of one round, with the new end. -/
def kNew (wi wn : BitVec 32) (hn : 64 ≤ n + 2) (bins : FVec Ideal (S2 B (n + 2)) .f32) (mx : FVec Ideal (S2 B 1) .f32)
    (sdf : FVec Ideal (S2 B (n + 2)) .f32) : FVec Ideal (S2 B 17) .f32 :=
  kSample 17 kU3 kU2 (kCdf hn (kPdf wn (kWeights hn (kAlpha wi bins mx sdf))))
    (concatenate (S2 B (n + 3)) 1 [⟨S2 B (n + 2), bins⟩, ⟨S2 B 1, mx⟩] (conc2 rfl))

/-- The sixteen new samples. -/
abbrev kNew16 (x : FVec Ideal (S2 B 17) .f32) : FVec Ideal (S2 B 16) .f32 := extractStridedSlice (S2 B 16) ![0, 0] x (slices2 (by omega))

/-- The new end. -/
abbrev kEnd (mx : FVec Ideal (S2 B 1) .f32) (x : FVec Ideal (S2 B 17) .f32) : FVec Ideal (S2 B 1) .f32 :=
  maximumf mx (extractStridedSlice (S2 B 1) ![0, 16] x (slices2 (by omega)))

/-- Old and new samples merged, or values that belong to them. -/
abbrev kMerge (wn : BitVec 32) (bins : FVec Ideal (S2 B n) .f32) (new : FVec Ideal (S2 B 16) .f32) (v : FVec Ideal (S2 B n) .f32) (v' : FVec Ideal (S2 B 16) .f32) :
    FVec Ideal (S2 B (n + 16)) .f32 := kScatter v v' (kPosOld bins new) (kPosNew wn bins new)

/-- Samples, the end of the last section, and the network at the samples. -/
structure State (B n : ℕ) where
  /-- the samples -/
  t : FVec Ideal (S2 B n) .f32
  /-- the end of the last section -/
  m : FVec Ideal (S2 B 1) .f32
  /-- the network at the samples -/
  s : FVec Ideal (S2 B n) .f32

/-- One round: the new samples merged into the old ones. -/
def kNext (wi wn : BitVec 32) (hn : 64 ≤ n + 2) (net : FVec Ideal (S2 B 16) .f32 → FVec Ideal (S2 B 16) .f32) (σ : State B (n + 2)) :
    State B (n + 2 + 16) :=
  let x := kNew wi wn hn σ.t σ.m σ.s
  ⟨kMerge wn σ.t (kNew16 x) σ.t (kNew16 x), kEnd σ.m x, kMerge wn σ.t (kNew16 x) σ.s (net (kNew16 x))⟩

/-- The samples at the start. -/
abbrev kStart : FVec Ideal (S2 B 64) .f32 := mulf (kIota B 64) (kc _ 0x3C800000#32)

/-- The merged samples after four rounds. -/
def kNet (o d : FVec Ideal (S2 B 3) .f32) (W1 : FVec Ideal (S2 3 128) .f32) (b1 : FVec Ideal (S2 1 128) .f32) (W2 : FVec Ideal (S2 128 1) .f32)
    (b2 : Ideal .f32) : FVec Ideal (S2 B 128) .f32 :=
  (kNext (n := 110) 0x44000000#32 0x42E00000#32 (by omega) (kSdf o d W1 b1 W2 b2)
    (kNext (n := 94) 0x43800000#32 0x42C00000#32 (by omega) (kSdf o d W1 b1 W2 b2)
      (kNext (n := 78) 0x43000000#32 0x42A00000#32 (by omega) (kSdf o d W1 b1 W2 b2)
        (kNext (n := 62) 0x42800000#32 0x42800000#32 (by omega) (kSdf o d W1 b1 W2 b2)
          ⟨kStart, kc _ 0x3F800000#32, kSdf o d W1 b1 W2 b2 kStart⟩)))).t

end Cert.KNet
-- ==== Proof.RNet.lean ====
/-
The reference's computation on a table of rays, as functions of vectors.
-/
module

public import Idealize.ShloMosaic.Lib.Pointwise
public import proofs.«01_k».proof.Proof.KNet
public import proofs.«01_k».proof.Proof.Gen.ReferenceIdeal

@[expose] public section

noncomputable section

namespace Cert.RNet

open Idealize.ShloMosaic Cert.Rows
open Cert.KNet (State)

/-- The shape of a single number. -/
abbrev S0 : Shape := ⟨0, ![]⟩

section shapes
variable {B n k p q : ℕ} {s : Shape}

theorem bdAny : S0.BroadcastsInDim s ![] := ⟨fun a => a.elim0, fun a => a.elim0⟩
theorem bdOne : (S1 1).BroadcastsInDim (S1 n) ![0] :=
  ⟨fun a b _ => Subsingleton.elim a b, fun a => by fin_cases a; simp⟩
theorem bdRow : (S1 n).BroadcastsInDim (S2 B n) ![1] :=
  ⟨fun a b _ => Subsingleton.elim a b, fun a => by fin_cases a; simp⟩
theorem bdList : (S1 B).BroadcastsInDim (S2 B 1) ![0] :=
  ⟨fun a b _ => Subsingleton.elim a b, fun a => by fin_cases a; simp⟩
theorem bdCol : (S2 B 1).BroadcastsInDim (S2 B n) ![0, 1] :=
  ⟨fun a b h => by fin_cases a <;> fin_cases b <;> simp_all, fun a => by fin_cases a <;> simp⟩
theorem bdBox : (S2 B n).BroadcastsInDim (S3 B 1 n) ![0, 2] :=
  ⟨fun a b h => by fin_cases a <;> fin_cases b <;> simp_all, fun a => by fin_cases a <;> simp⟩
theorem bdTall : (S2 B n).BroadcastsInDim (S3 B n 1) ![0, 1] :=
  ⟨fun a b h => by fin_cases a <;> fin_cases b <;> simp_all, fun a => by fin_cases a <;> simp⟩
theorem bdDown : (S3 B 1 n).BroadcastsInDim (S3 B p n) ![0, 1, 2] :=
  ⟨fun a b h => by fin_cases a <;> fin_cases b <;> simp_all, fun a => by fin_cases a <;> simp⟩
theorem bdAcross : (S3 B n 1).BroadcastsInDim (S3 B n k) ![0, 1, 2] :=
  ⟨fun a b h => by fin_cases a <;> fin_cases b <;> simp_all, fun a => by fin_cases a <;> simp⟩
theorem bdDeep : (S1 k).BroadcastsInDim (S3 1 1 k) ![2] :=
  ⟨fun a b _ => Subsingleton.elim a b, fun a => by fin_cases a; simp⟩
theorem bdAll : (S3 1 1 k).BroadcastsInDim (S3 B n k) ![0, 1, 2] :=
  ⟨fun a b h => by fin_cases a <;> fin_cases b <;> simp_all, fun a => by fin_cases a <;> simp⟩
theorem conc1 : Shape.Concatenates [S1 k, S1 1] (S1 (k + 1)) 0 :=
  ⟨le_rfl, by intro s hs; simp at hs; rcases hs with rfl | rfl <;> exact ⟨rfl, fun b hb => by fin_cases b; simp_all⟩, by simp⟩
theorem slices1 {o m : ℕ} (h : o + m ≤ n) : (S1 n).Slices ![o] (S1 m) := ⟨rfl, fun a => by fin_cases a; simp [h]⟩
theorem scOne : S0.ShapeCasts (S1 1) := by simp [Shape.ShapeCasts, Shape.numel]
theorem toRow : (S2 B n).ReducesTo [1] (S1 B) := ⟨rfl, fun b => by fin_cases b; rfl⟩
theorem toLast : (S3 B p n).ReducesTo [2] (S2 B p) := ⟨rfl, fun b => by fin_cases b <;> rfl⟩
theorem pos0 : 0 < S0.numel := by simp [Shape.numel]
theorem windows (hB : 0 < B) : (S2 B (n + 1)).ReduceWindows (![1, n + 1] : Fin 2 → ℕ) ![1, 1] ![0, n] ![0, 0] (S2 B (n + 1)) :=
  ⟨rfl, fun a => by fin_cases a <;> simp; omega⟩

theorem gatherWf (hB : 0 < B) (hn : 0 < n) : GatherDims.WF (S2 B n) (S3 B p 1) (S2 B p) [] [1] [0] [1] [0] 2 ![1, 1] := by
  refine ⟨by simp, by simp, by simp, by simp, by simp, by simp, by simp, by simp, by simp, by simp, ?_, by simp, by simp, ?_, ?_, ?_⟩
  · intro a; fin_cases a
    · simpa using Nat.succ_le_of_lt hB
    · simpa using Nat.succ_le_of_lt hn
  · exact ⟨rfl, fun b => by fin_cases b <;> rfl⟩
  · exact ⟨rfl, fun b => by fin_cases b <;> rfl⟩
  · exact ⟨rfl, fun b => b.elim0⟩

theorem dotWf : DotDims.WF (S3 B n k) (S2 k q) (S3 B n q) [2] [0] [0, 1] [1] [] [] :=
  ⟨rfl, by simp, rfl, by simp, by simp, by simp, by simp [List.finRange], by simpa [List.finRange] using List.Perm.swap 0 1 [],
    rfl, by simp, fun b => by fin_cases b <;> rfl⟩

end shapes

variable {B n : ℕ}

/-- One index per entry of a row. -/
abbrev rowDims (hB : 0 < B) (hn : 0 < n) (p : ℕ) : GatherDims (S2 B n) (S3 B p 1) (S2 B p) where
  offsetDims := []
  collapsedSliceDims := [1]
  operandBatchingDims := [0]
  startIndicesBatchingDims := [0]
  startIndexMap := [1]
  indexVectorDim := 2
  sliceSizes := ![1, 1]
  wf := gatherWf hB hn

/-- The last axis of a box against the first of a table. -/
abbrev boxDims (B n k q : ℕ) : DotDims (S3 B n k) (S2 k q) (S3 B n q) where
  lhsContracting := [2]
  rhsContracting := [0]
  lhsNonContracting := [0, 1]
  rhsNonContracting := [1]
  lhsBatch := []
  rhsBatch := []
  wf := dotWf

/-- A vector of one number, given by its pattern of bits. -/
abbrev rc (s : Shape) (w : BitVec 32) : FVec Ideal s .f32 := broadcastInDim s ![] bdAny (constant S0 .f32 w)

/-- A vector of one integer. -/
abbrev ri (s : Shape) (w : BitVec 32) : IVec s 32 := broadcastInDim s ![] bdAny (constantI S0 32 w)

/-- The rows of a table, repeated downwards in a box. -/
abbrev rDown {α : Type} (p : ℕ) (x : (S2 B n).Idx → α) : (S3 B p n).Idx → α :=
  broadcastInDim (S3 B p n) ![0, 1, 2] bdDown (broadcastInDim (S3 B 1 n) ![0, 2] bdBox x)

/-- The entries of a table, repeated across a box. -/
abbrev rAcross {α : Type} (k : ℕ) (x : (S2 B n).Idx → α) : (S3 B n k).Idx → α :=
  broadcastInDim (S3 B n k) ![0, 1, 2] bdAcross (broadcastInDim (S3 B n 1) ![0, 1] bdTall x)

/-- A list, repeated in a box. -/
abbrev rDeep {k : ℕ} (B n : ℕ) (x : FVec Ideal (S1 k) .f32) : FVec Ideal (S3 B n k) .f32 :=
  broadcastInDim (S3 B n k) ![0, 1, 2] bdAll (broadcastInDim (S3 1 1 k) ![2] bdDeep x)

/-- `k + 1` numbers at equal distances from `a` to `b`. -/
def rLin (k : ℕ) (wk a b : BitVec 32) : FVec Ideal (S1 (k + 1)) .f32 :=
  let f : FVec Ideal (S1 k) .f32 := Host.divf (sitofp .f32 (iotaInDim (S1 k) 32 0)) (rc _ wk)
  concatenate (S1 (k + 1)) 0 [⟨S1 k, addf (mulf (broadcastInDim (S1 k) ![0] bdOne (shapeCast (S1 1) (constant S0 .f32 a : FVec Ideal S0 .f32) scOne)) (subf (rc _ 0x3F800000#32) f))
    (mulf (broadcastInDim (S1 k) ![0] bdOne (shapeCast (S1 1) (constant S0 .f32 b : FVec Ideal S0 .f32) scOne)) f)⟩, ⟨S1 1, rc (S1 1) b⟩] conc1

/-- The network at the points `o + t d`. -/
def rSdf (o d : FVec Ideal (S2 B 3) .f32) (W1 : FVec Ideal (S2 3 128) .f32) (b1 : FVec Ideal (S1 128) .f32) (W2 : FVec Ideal (S2 128 1) .f32)
    (b2 : FVec Ideal (S1 1) .f32) (t : FVec Ideal (S2 B n) .f32) : FVec Ideal (S2 B n) .f32 :=
  shapeCast (S2 B n) (addf (Host.dotGeneral (boxDims B n 128 1) none (maximumf (addf (Host.dotGeneral (boxDims B n 3 128) none
    (addf (rDown n o) (mulf (rAcross 3 t) (rDown n d))) W1) (rDeep B n b1)) (rc _ 0x00000000#32)) W2) (rDeep B n b2)) scUncol

/-- The logistic function. -/
def rSig (x : FVec Ideal (S2 B n) .f32) : FVec Ideal (S2 B n) .f32 :=
  Host.divf (rc _ 0x3F800000#32) (addf (rc _ 0x3F800000#32) (Host.exp (Host.negf x)))

/-- The opacities of the sections between `n + 2` samples, the last one zero. -/
def rAlpha (wi : BitVec 32) (bins : FVec Ideal (S2 B (n + 2)) .f32) (mx : FVec Ideal (S2 B 1) .f32) (sdf : FVec Ideal (S2 B (n + 2)) .f32) :
    FVec Ideal (S2 B (n + 2)) .f32 :=
  let prev := extractStridedSlice (S2 B (n + 1)) ![0, 0] sdf (slices2 (by omega))
  let next := extractStridedSlice (S2 B (n + 1)) ![0, 1] sdf (slices2 (by omega))
  let edges : FVec Ideal (S2 B (n + 3)) .f32 := concatenate (S2 B (n + 3)) 1 [⟨S2 B (n + 2), bins⟩, ⟨S2 B 1, mx⟩] (conc2 rfl)
  let dist := extractStridedSlice (S2 B (n + 1)) ![0, 0] (subf (extractStridedSlice (S2 B (n + 2)) ![0, 1] edges (slices2 (by omega)))
    (extractStridedSlice (S2 B (n + 2)) ![0, 0] edges (slices2 (by omega)))) (slices2 (by omega))
  let mid := mulf (addf prev next) (rc _ 0x3F000000#32)
  let cos := Host.divf (subf next prev) (addf dist (rc _ 0x3727C5AC#32))
  let clip := minimumf (rc _ 0x00000000#32) (maximumf (rc _ 0xC47A0000#32) (minimumf (concatenate (S2 B (n + 1)) 1
    [⟨S2 B 1, rc _ 0x00000000#32⟩, ⟨S2 B n, extractStridedSlice (S2 B n) ![0, 0] cos (slices2 (by omega))⟩] (conc2 (by omega))) cos))
  let half := mulf (mulf clip dist) (rc _ 0x3F000000#32)
  let pc := rSig (mulf (subf mid half) (rc _ wi))
  let nc := rSig (mulf (addf mid half) (rc _ wi))
  concatenate (S2 B (n + 2)) 1 [⟨S2 B (n + 1), Host.divf (addf (subf pc nc) (rc _ 0x3727C5AC#32)) (addf pc (rc _ 0x3727C5AC#32))⟩,
    ⟨S2 B 1, rc _ 0x00000000#32⟩] (conc2 rfl)

/-- The sums of the rows up to each entry. -/
abbrev rCum (hB : 0 < B) (x : FVec Ideal (S2 B (n + 1)) .f32) : FVec Ideal (S2 B (n + 1)) .f32 :=
  Host.reduceWindowAdd ![1, n + 1] ![1, 1] ![0, n] ![0, 0] x (rc S0 0x00000000#32) (windows hB) pos0

/-- The weights of the samples, a little above zero. -/
def rWeights (hB : 0 < B) (alpha : FVec Ideal (S2 B (n + 2)) .f32) : FVec Ideal (S2 B (n + 2)) .f32 :=
  addf (mulf alpha (Host.exp (rCum hB (Host.log (concatenate (S2 B (n + 2)) 1 [⟨S2 B 1, rc _ 0x3F800000#32⟩, ⟨S2 B (n + 1), subf (rc _ 0x3F800000#32)
    (extractStridedSlice (S2 B (n + 1)) ![0, 0] alpha (slices2 (by omega)))⟩] (conc2 (by omega))))))) (rc _ 0x3727C5AC#32)

/-- The weights, divided by their sum. -/
def rPdf (wn : BitVec 32) (w : FVec Ideal (S2 B n) .f32) : FVec Ideal (S2 B n) .f32 :=
  let s := broadcastInDim (S2 B 1) ![0] bdList (Host.reduceAdd w (constant S0 .f32 0x00000000#32) toRow pos0)
  let pad := maximumf (subf (rc _ 0x3727C5AC#32) s) (rc _ 0x00000000#32)
  Host.divf (addf w (broadcastInDim (S2 B n) ![0, 1] bdCol (Host.divf pad (rc _ wn)))) (broadcastInDim (S2 B n) ![0, 1] bdCol (addf s pad))

/-- The distribution function of a density, from zero on. -/
def rCdf (hB : 0 < B) (pdf : FVec Ideal (S2 B (n + 1)) .f32) : FVec Ideal (S2 B (n + 2)) .f32 :=
  concatenate (S2 B (n + 2)) 1 [⟨S2 B 1, rc _ 0x00000000#32⟩, ⟨S2 B (n + 1), minimumf (rCum hB pdf) (rc _ 0x3F800000#32)⟩]
    (conc2 (by omega))

/-- The levels, the same in all rows. -/
def rLevels (B : ℕ) : FVec Ideal (S2 B 17) .f32 :=
  broadcastInDim (S2 B 17) ![1] bdRow (addf (rLin 16 0x41800000#32 0x00000000#32 0x3F70F0F1#32) (rc _ 0x3CF0F0F1#32))

/-- How many entries of the row are at most the level. -/
def rCount {p : ℕ} (cdf : FVec Ideal (S2 B n) .f32) (u : FVec Ideal (S2 B p) .f32) : IVec (S2 B p) 32 :=
  Host.reduce IntOp.addi (extui 32 (cmpf .ole (rDown p cdf) (rAcross n u)) (by decide)) (constantI S0 32 0#32) toLast pos0

/-- An index, moved into the row. -/
abbrev rClip {p : ℕ} (n : ℕ) (i : IVec (S2 B p) 32) : IVec (S2 B p) 32 :=
  minsi (ri _ (BitVec.ofNat 32 n)) (maxsi (ri _ 0#32) i)

/-- The entries of the rows at given indices. -/
def rAt {p : ℕ} (hB : 0 < B) (hn : 0 < n) (x : FVec Ideal (S2 B n) .f32) (i : IVec (S2 B p) 32) : FVec Ideal (S2 B p) .f32 :=
  Host.gather (rowDims hB hn p) x (shapeCast (S3 B p 1) (select (cmpi .slt i (ri _ 0#32)) (addi i (ri _ (BitVec.ofNat 32 n))) i) scCol)

/-- Neither undefined nor infinite: such an entry is replaced by a number. -/
def rNum {s : Shape} (x : FVec Ideal s .f32) : FVec Ideal s .f32 :=
  let a := select (cmpf .une x x) (rc _ 0x00000000#32) x
  let b := select (cmpf .oeq a (rc _ 0x7F800000#32)) (rc _ 0x7F7FFFFF#32) a
  select (cmpf .oeq b (rc _ 0xFF800000#32)) (rc _ 0xFF7FFFFF#32) b

/-- The samples at given levels of the distribution function. -/
def rSample {p : ℕ} (hB : 0 < B) (u : FVec Ideal (S2 B p) .f32) (cdf ex : FVec Ideal (S2 B (n + 1)) .f32) : FVec Ideal (S2 B p) .f32 :=
  let c := rCount cdf u
  let lo := rClip n (subi c (ri _ 1#32))
  let hi := rClip n c
  let c0 := rAt hB n.succ_pos cdf lo
  let e0 := rAt hB n.succ_pos ex lo
  addf e0 (mulf (minimumf (rc _ 0x3F800000#32) (maximumf (rc _ 0x00000000#32)
    (rNum (Host.divf (subf u c0) (subf (rAt hB n.succ_pos cdf hi) c0))))) (subf (rAt hB n.succ_pos ex hi) e0))

/-- The new samples of one round, with the new end. -/
def rNew (hB : 0 < B) (wi wn : BitVec 32) (bins : FVec Ideal (S2 B (n + 2)) .f32) (mx : FVec Ideal (S2 B 1) .f32)
    (sdf : FVec Ideal (S2 B (n + 2)) .f32) : FVec Ideal (S2 B 17) .f32 :=
  rSample hB (rLevels B) (rCdf hB (rPdf wn (rWeights hB (rAlpha wi bins mx sdf))))
    (concatenate (S2 B (n + 3)) 1 [⟨S2 B (n + 2), bins⟩, ⟨S2 B 1, mx⟩] (conc2 rfl))

/-- The order of the entries of the rows. -/
def rSort (x : FVec Ideal (S2 B n) .f32) : IVec (S2 B n) 32 :=
  (Host.sort2 (S2 B n) 1 Cert.ReferenceIdeal.comparator_f32_i32_d1 x (iotaInDim (S2 B n) 32 1)).2

/-- The first table with sixteen more columns. -/
abbrev rJoin (x : FVec Ideal (S2 B n) .f32) (y : FVec Ideal (S2 B 16) .f32) : FVec Ideal (S2 B (n + 16)) .f32 :=
  concatenate (S2 B (n + 16)) 1 [⟨S2 B n, x⟩, ⟨S2 B 16, y⟩] (conc2 rfl)

/-- The first sixteen of seventeen columns. -/
abbrev rNew16 (x : FVec Ideal (S2 B 17) .f32) : FVec Ideal (S2 B 16) .f32 := extractStridedSlice (S2 B 16) ![0, 0] x (slices2 (by omega))

/-- One round: the new samples sorted into the old ones. -/
def rNext (hB : 0 < B) (wi wn : BitVec 32) (net : FVec Ideal (S2 B 16) .f32 → FVec Ideal (S2 B 16) .f32) (σ : State B (n + 2)) :
    State B (n + 2 + 16) :=
  let x := rNew hB wi wn σ.t σ.m σ.s
  let all := rJoin σ.t (rNew16 x)
  ⟨rAt hB (by omega) all (rSort all), maximumf σ.m (extractStridedSlice (S2 B 1) ![0, 16] x (slices2 (by omega))),
    rAt hB (by omega) (rJoin σ.s (net (rNew16 x))) (rSort all)⟩

/-- The samples at the start. -/
def rStart (B : ℕ) : FVec Ideal (S2 B 64) .f32 :=
  broadcastInDim (S2 B 64) ![1] bdRow (extractStridedSlice (S1 64) ![0] (rLin 64 0x42800000#32 0x00000000#32 0x3F800000#32) (slices1 (by omega)))

/-- The end of the last section at the start. -/
def rStartEnd (B : ℕ) : FVec Ideal (S2 B 1) .f32 :=
  broadcastInDim (S2 B 1) ![1] bdRow (extractStridedSlice (S1 1) ![64] (rLin 64 0x42800000#32 0x00000000#32 0x3F800000#32) (slices1 (by omega)))

/-- The sorted samples after four rounds. -/
def rNet (hB : 0 < B) (o d : FVec Ideal (S2 B 3) .f32) (W1 : FVec Ideal (S2 3 128) .f32) (b1 : FVec Ideal (S1 128) .f32) (W2 : FVec Ideal (S2 128 1) .f32)
    (b2 : FVec Ideal (S1 1) .f32) : FVec Ideal (S2 B 128) .f32 :=
  (rNext (n := 110) hB 0x44000000#32 0x42E00000#32 (rSdf o d W1 b1 W2 b2)
    (rNext (n := 94) hB 0x43800000#32 0x42C00000#32 (rSdf o d W1 b1 W2 b2)
      (rNext (n := 78) hB 0x43000000#32 0x42A00000#32 (rSdf o d W1 b1 W2 b2)
        (rNext (n := 62) hB 0x42800000#32 0x42800000#32 (rSdf o d W1 b1 W2 b2)
          ⟨rStart B, rStartEnd B, rSdf o d W1 b1 W2 b2 (rStart B)⟩)))).t

end Cert.RNet
-- ==== Proof.RLink.lean ====
/-
The reference's result, step by step, as a function of vectors.
-/
module

public import proofs.«01_k».proof.Proof.RNet
public import proofs.«01_k».proof.Proof.Gen.ReferenceIdeal.Run

@[expose] public section

noncomputable section

namespace Cert.RLink

open Idealize.ShloMosaic Cert.ReferenceIdeal Cert.ReferenceIdeal.Gen Cert.ReferenceIdeal.Value Cert.Rows Cert.RNet
open Cert.KNet (State)

variable (V : Valuation τ sig (Elt Ideal))

/-- The table of rays has rows. -/
theorem rays : 0 < 4096 := by omega

/-- The network on the rays of the arguments. -/
abbrev sdf {n : ℕ} : FVec Ideal (S2 4096 n) .f32 → FVec Ideal (S2 4096 n) .f32 :=
  rSdf (B := 4096) (V (Proc.devRef .tc main_arg0)) (V (Proc.devRef .tc main_arg1)) (V (Proc.devRef .tc main_arg2))
    (V (Proc.devRef .tc main_arg3)) (V (Proc.devRef .tc main_arg4)) (V (Proc.devRef .tc main_arg5))

theorem start : res_main_v2 V = rStart 4096 := rfl
theorem startEnd : res_main_v4 V = rStartEnd 4096 := rfl
theorem sdf0 : res_main_v22 V = sdf V (n := 64) (res_main_v2 V) := rfl

theorem alpha0 : (res_main_v75 V) = rAlpha (B := 4096) (n := 62) 0x42800000#32 (res_main_v2 V) (res_main_v4 V) (res_main_v22 V) := rfl
theorem weights0 : (res_main_v87 V) = rWeights (B := 4096) (n := 62) rays (res_main_v75 V) := rfl
theorem cdf0 : (res_main_v105 V) = rCdf (B := 4096) (n := 63) rays (rPdf 0x42800000#32 (res_main_v87 V)) := rfl
theorem levels0 : (res_main_v109 V) = rLevels 4096 := rfl
theorem count0 : (res_main_v117 V) = rCount (B := 4096) (n := 65) (p := 17) (res_main_v105 V) (res_main_v109 V) := rfl
theorem new0 : (res_main_v133 V) = rSample (B := 4096) (n := 64) rays (res_main_v109 V) (res_main_v105 V)
    (concatenate (S2 4096 65) 1 [⟨S2 4096 64, (res_main_v2 V)⟩, ⟨S2 4096 1, (res_main_v4 V)⟩] (conc2 rfl)) := rfl
theorem order0 : (res_main_v137 V) = rSort (B := 4096) (n := 80) (rJoin (n := 64) (res_main_v2 V) (rNew16 (res_main_v133 V))) := rfl
theorem bins1 : (res_main_v138 V) = rAt (B := 4096) (n := 80) rays (by omega) (rJoin (n := 64) (res_main_v2 V) (rNew16 (res_main_v133 V))) (res_main_v137 V) := rfl
theorem max1 : (res_main_v139 V) = maximumf (res_main_v4 V) (extractStridedSlice (S2 4096 1) ![0, 16] (res_main_v133 V) (slices2 (by omega))) := rfl
theorem sdf1 : (res_main_v159 V) = rAt (B := 4096) (n := 80) rays (by omega) (rJoin (n := 64) (res_main_v22 V) (sdf V (rNew16 (res_main_v133 V)))) (res_main_v137 V) := rfl

theorem round1 : rNext (B := 4096) (n := 62) rays 0x42800000#32 0x42800000#32 (sdf V) ⟨(res_main_v2 V), (res_main_v4 V), (res_main_v22 V)⟩ =
    (⟨(res_main_v138 V), (res_main_v139 V), (res_main_v159 V)⟩ : State 4096 80) := by
  have e : rNew (B := 4096) (n := 62) rays 0x42800000#32 0x42800000#32 (res_main_v2 V) (res_main_v4 V) (res_main_v22 V) = (res_main_v133 V) := by
    rw [new0, levels0, cdf0, weights0, alpha0]; rfl
  unfold rNext
  dsimp only
  rw [e, bins1, max1, sdf1, order0]

theorem alpha1 : (res_main_v212 V) = rAlpha (B := 4096) (n := 78) 0x43000000#32 (res_main_v138 V) (res_main_v139 V) (res_main_v159 V) := rfl
theorem weights1 : (res_main_v224 V) = rWeights (B := 4096) (n := 78) rays (res_main_v212 V) := rfl
theorem cdf1 : (res_main_v242 V) = rCdf (B := 4096) (n := 79) rays (rPdf 0x42A00000#32 (res_main_v224 V)) := rfl
theorem levels1 : (res_main_v246 V) = rLevels 4096 := rfl
theorem count1 : (res_main_v254 V) = rCount (B := 4096) (n := 81) (p := 17) (res_main_v242 V) (res_main_v246 V) := rfl
theorem new1 : (res_main_v270 V) = rSample (B := 4096) (n := 80) rays (res_main_v246 V) (res_main_v242 V)
    (concatenate (S2 4096 81) 1 [⟨S2 4096 80, (res_main_v138 V)⟩, ⟨S2 4096 1, (res_main_v139 V)⟩] (conc2 rfl)) := rfl
theorem order1 : (res_main_v274 V) = rSort (B := 4096) (n := 96) (rJoin (n := 80) (res_main_v138 V) (rNew16 (res_main_v270 V))) := rfl
theorem bins2 : (res_main_v275 V) = rAt (B := 4096) (n := 96) rays (by omega) (rJoin (n := 80) (res_main_v138 V) (rNew16 (res_main_v270 V))) (res_main_v274 V) := rfl
theorem max2 : (res_main_v276 V) = maximumf (res_main_v139 V) (extractStridedSlice (S2 4096 1) ![0, 16] (res_main_v270 V) (slices2 (by omega))) := rfl
theorem sdf2 : (res_main_v296 V) = rAt (B := 4096) (n := 96) rays (by omega) (rJoin (n := 80) (res_main_v159 V) (sdf V (rNew16 (res_main_v270 V)))) (res_main_v274 V) := rfl

theorem round2 : rNext (B := 4096) (n := 78) rays 0x43000000#32 0x42A00000#32 (sdf V) ⟨(res_main_v138 V), (res_main_v139 V), (res_main_v159 V)⟩ =
    (⟨(res_main_v275 V), (res_main_v276 V), (res_main_v296 V)⟩ : State 4096 96) := by
  have e : rNew (B := 4096) (n := 78) rays 0x43000000#32 0x42A00000#32 (res_main_v138 V) (res_main_v139 V) (res_main_v159 V) = (res_main_v270 V) := by
    rw [new1, levels1, cdf1, weights1, alpha1]; rfl
  unfold rNext
  dsimp only
  rw [e, bins2, max2, sdf2, order1]

theorem alpha2 : (res_main_v349 V) = rAlpha (B := 4096) (n := 94) 0x43800000#32 (res_main_v275 V) (res_main_v276 V) (res_main_v296 V) := rfl
theorem weights2 : (res_main_v361 V) = rWeights (B := 4096) (n := 94) rays (res_main_v349 V) := rfl
theorem cdf2 : (res_main_v379 V) = rCdf (B := 4096) (n := 95) rays (rPdf 0x42C00000#32 (res_main_v361 V)) := rfl
theorem levels2 : (res_main_v383 V) = rLevels 4096 := rfl
theorem count2 : (res_main_v391 V) = rCount (B := 4096) (n := 97) (p := 17) (res_main_v379 V) (res_main_v383 V) := rfl
theorem new2 : (res_main_v407 V) = rSample (B := 4096) (n := 96) rays (res_main_v383 V) (res_main_v379 V)
    (concatenate (S2 4096 97) 1 [⟨S2 4096 96, (res_main_v275 V)⟩, ⟨S2 4096 1, (res_main_v276 V)⟩] (conc2 rfl)) := rfl
theorem order2 : (res_main_v411 V) = rSort (B := 4096) (n := 112) (rJoin (n := 96) (res_main_v275 V) (rNew16 (res_main_v407 V))) := rfl
theorem bins3 : (res_main_v412 V) = rAt (B := 4096) (n := 112) rays (by omega) (rJoin (n := 96) (res_main_v275 V) (rNew16 (res_main_v407 V))) (res_main_v411 V) := rfl
theorem max3 : (res_main_v413 V) = maximumf (res_main_v276 V) (extractStridedSlice (S2 4096 1) ![0, 16] (res_main_v407 V) (slices2 (by omega))) := rfl
theorem sdf3 : (res_main_v433 V) = rAt (B := 4096) (n := 112) rays (by omega) (rJoin (n := 96) (res_main_v296 V) (sdf V (rNew16 (res_main_v407 V)))) (res_main_v411 V) := rfl

theorem round3 : rNext (B := 4096) (n := 94) rays 0x43800000#32 0x42C00000#32 (sdf V) ⟨(res_main_v275 V), (res_main_v276 V), (res_main_v296 V)⟩ =
    (⟨(res_main_v412 V), (res_main_v413 V), (res_main_v433 V)⟩ : State 4096 112) := by
  have e : rNew (B := 4096) (n := 94) rays 0x43800000#32 0x42C00000#32 (res_main_v275 V) (res_main_v276 V) (res_main_v296 V) = (res_main_v407 V) := by
    rw [new2, levels2, cdf2, weights2, alpha2]; rfl
  unfold rNext
  dsimp only
  rw [e, bins3, max3, sdf3, order2]

theorem alpha3 : (res_main_v486 V) = rAlpha (B := 4096) (n := 110) 0x44000000#32 (res_main_v412 V) (res_main_v413 V) (res_main_v433 V) := rfl
theorem weights3 : (res_main_v498 V) = rWeights (B := 4096) (n := 110) rays (res_main_v486 V) := rfl
theorem cdf3 : (res_main_v516 V) = rCdf (B := 4096) (n := 111) rays (rPdf 0x42E00000#32 (res_main_v498 V)) := rfl
theorem levels3 : (res_main_v520 V) = rLevels 4096 := rfl
theorem count3 : (res_main_v528 V) = rCount (B := 4096) (n := 113) (p := 17) (res_main_v516 V) (res_main_v520 V) := rfl
theorem new3 : (res_main_v544 V) = rSample (B := 4096) (n := 112) rays (res_main_v520 V) (res_main_v516 V)
    (concatenate (S2 4096 113) 1 [⟨S2 4096 112, (res_main_v412 V)⟩, ⟨S2 4096 1, (res_main_v413 V)⟩] (conc2 rfl)) := rfl
theorem joined : (res_main_v547 V) = rJoin (n := 112) (res_main_v412 V) (rNew16 (res_main_v544 V)) := rfl
theorem order3 : (res_main_v548 V) = rSort (B := 4096) (n := 128) (res_main_v547 V) := rfl

/-- The reference's result. -/
abbrev res : FVec Ideal (S2 4096 128) .f32 :=
  Host.gather gather_S4096x128_S4096x128x1_S4096x128_n_1_0_0_1_2_11 (res_main_v547 V) (shapeCast _ (select (cmpi .slt (res_main_v548 V) (broadcastInDim S4096x128 ![] bcast_S_S4096x128 (constantI S_ 32 0#32))) (addi (res_main_v548 V) (broadcastInDim S4096x128 ![] bcast_S_S4096x128 (constantI S_ 32 128#32))) (res_main_v548 V)) shapeCasts_S4096x128_S4096x128x1)

theorem result : res V = rAt (B := 4096) (n := 128) rays (by omega) (res_main_v547 V) (res_main_v548 V) := rfl

theorem round4 : (rNext (B := 4096) (n := 110) rays 0x44000000#32 0x42E00000#32 (sdf V) ⟨(res_main_v412 V), (res_main_v413 V), (res_main_v433 V)⟩).t = res V := by
  have e : rNew (B := 4096) (n := 110) rays 0x44000000#32 0x42E00000#32 (res_main_v412 V) (res_main_v413 V) (res_main_v433 V) = (res_main_v544 V) := by
    rw [new3, levels3, cdf3, weights3, alpha3]; rfl
  unfold rNext
  dsimp only
  rw [e, result, order3, joined]

/-- The result is the sorted samples after four rounds. -/
theorem net : res V = rNet rays (V (Proc.devRef .tc main_arg0)) (V (Proc.devRef .tc main_arg1)) (V (Proc.devRef .tc main_arg2))
    (V (Proc.devRef .tc main_arg3)) (V (Proc.devRef .tc main_arg4)) (V (Proc.devRef .tc main_arg5)) := by
  have h : (⟨rStart 4096, rStartEnd 4096, sdf V (rStart 4096)⟩ : State 4096 64) = ⟨res_main_v2 V, res_main_v4 V, res_main_v22 V⟩ := by
    rw [sdf0, start, startEnd]
  have e : res V = (rNext (n := 110) rays 0x44000000#32 0x42E00000#32 (sdf V) (rNext (n := 94) rays 0x43800000#32 0x42C00000#32 (sdf V)
      (rNext (n := 78) rays 0x43000000#32 0x42A00000#32 (sdf V) (rNext (n := 62) rays 0x42800000#32 0x42800000#32 (sdf V)
        ⟨rStart 4096, rStartEnd 4096, sdf V (rStart 4096)⟩)))).t := by
    rw [h, round1, round2, round3, round4]
  exact e

end Cert.RLink
-- ==== Proof.KLink.lean ====
/-
The block that the kernel's body stores is the network of rounds of KNet on the blocks that it reads.
-/
module
public import proofs.«01_k».proof.Proof.KNet
public import proofs.«01_k».proof.Proof.Gen.KernelIdeal.Value
@[expose] public section
noncomputable section
namespace Cert.KLink
open Idealize.ShloMosaic Cert.KernelIdeal Cert.KernelIdeal.Gen Cert.KernelIdeal.Gen.kernelRun0_A.sl Cert.Rows Cert.KNet

variable (c : Dev nD) (arg1 : Memref sig .tc .vmem S128x3 .f32) (harg1 : arg1.IsWhole) (arg2 : Memref sig .tc .vmem S128x3 .f32) (harg2 : arg2.IsWhole)
  (arg3 : Memref sig .tc .vmem S3x128 .f32) (harg3 : arg3.IsWhole) (arg4 : Memref sig .tc .vmem S1x128 .f32) (harg4 : arg4.IsWhole)
  (arg5 : Memref sig .tc .vmem S128x1 .f32) (harg5 : arg5.IsWhole) (arg6 : Memref sig .tc .smem S1x1 .f32) (harg6 : arg6.IsWhole)
  (x0 : Vec Ideal S128x3 .f32) (x1 : Vec Ideal S128x3 .f32) (x2 : Vec Ideal S3x128 .f32) (x3 : Vec Ideal S1x128 .f32)
  (x4 : Vec Ideal S128x1 .f32) (x5 : Vec Ideal S1x1 .f32)

/-- The first layer's offsets, as the body reads them. -/
abbrev row (c : Dev nD) (arg4 : Memref sig .tc .vmem S1x128 .f32) (harg4 : arg4.IsWhole) (x3 : Vec Ideal S1x128 .f32) : FVec Ideal (S2 1 128) .f32 :=
  View.readAt (Elt Ideal) arg4.view (Rect.unit ![0, 0] S1x128.size inb_S1x128_S1x128_0_0).toLoadRect (harg4.unread x3)

section words

theorem sdf0 : (r_7 c arg1 harg1 arg2 harg2 arg3 harg3 arg4 harg4 arg5 harg5 arg6 harg6 x0 x1 x2 x3 x4 x5) = kSdf (B := 128) (n := 64) (r_1 c arg1 harg1 x0) (r_2 c arg2 harg2 x1) (r_3 c arg3 harg3 x2) (row c arg4 harg4 x3) (r_5 c arg5 harg5 x4) (r c arg6 harg6 x5) k0_pay4 := rfl
theorem wts0 : (r_10 c arg1 harg1 arg2 harg2 arg3 harg3 arg4 harg4 arg5 harg5 arg6 harg6 x0 x1 x2 x3 x4 x5) = kWeights (B := 128) (n := 64) (by omega) (kAlpha (n := 62) 0x42800000#32 k0_pay4 k0_pay5 (r_7 c arg1 harg1 arg2 harg2 arg3 harg3 arg4 harg4 arg5 harg5 arg6 harg6 x0 x1 x2 x3 x4 x5)) := rfl
theorem cdf0 : (r_11 c arg1 harg1 arg2 harg2 arg3 harg3 arg4 harg4 arg5 harg5 arg6 harg6 x0 x1 x2 x3 x4 x5) = kCdf (B := 128) (by omega) (kPdf 0x42800000#32 (r_10 c arg1 harg1 arg2 harg2 arg3 harg3 arg4 harg4 arg5 harg5 arg6 harg6 x0 x1 x2 x3 x4 x5)) := rfl
theorem new0 : (r_16 c arg1 harg1 arg2 harg2 arg3 harg3 arg4 harg4 arg5 harg5 arg6 harg6 x0 x1 x2 x3 x4 x5) = kNew16 (kSample (B := 128) (n := 64) 17 kU3 kU2 (r_11 c arg1 harg1 arg2 harg2 arg3 harg3 arg4 harg4 arg5 harg5 arg6 harg6 x0 x1 x2 x3 x4 x5) r_12) := rfl
theorem end0 : (r_17 c arg1 harg1 arg2 harg2 arg3 harg3 arg4 harg4 arg5 harg5 arg6 harg6 x0 x1 x2 x3 x4 x5) = extractStridedSlice (S2 128 1) ![0, 16] (kSample (B := 128) (n := 64) 17 kU3 kU2 (r_11 c arg1 harg1 arg2 harg2 arg3 harg3 arg4 harg4 arg5 harg5 arg6 harg6 x0 x1 x2 x3 x4 x5) r_12) (slices2 (by omega)) := rfl
theorem max1 : (r_37 c arg1 harg1 arg2 harg2 arg3 harg3 arg4 harg4 arg5 harg5 arg6 harg6 x0 x1 x2 x3 x4 x5) = maximumf k0_pay5 (r_17 c arg1 harg1 arg2 harg2 arg3 harg3 arg4 harg4 arg5 harg5 arg6 harg6 x0 x1 x2 x3 x4 x5) := rfl
theorem old0 : (r_20 c arg1 harg1 arg2 harg2 arg3 harg3 arg4 harg4 arg5 harg5 arg6 harg6 x0 x1 x2 x3 x4 x5) = kPosOld (B := 128) k0_pay4 (r_16 c arg1 harg1 arg2 harg2 arg3 harg3 arg4 harg4 arg5 harg5 arg6 harg6 x0 x1 x2 x3 x4 x5) := rfl
theorem pos0 : (r_21 c arg1 harg1 arg2 harg2 arg3 harg3 arg4 harg4 arg5 harg5 arg6 harg6 x0 x1 x2 x3 x4 x5) = kPosNew (B := 128) 0x42800000#32 k0_pay4 (r_16 c arg1 harg1 arg2 harg2 arg3 harg3 arg4 harg4 arg5 harg5 arg6 harg6 x0 x1 x2 x3 x4 x5) := rfl
theorem bins1 : (r_36 c arg1 harg1 arg2 harg2 arg3 harg3 arg4 harg4 arg5 harg5 arg6 harg6 x0 x1 x2 x3 x4 x5) = kScatter (B := 128) k0_pay4 (r_16 c arg1 harg1 arg2 harg2 arg3 harg3 arg4 harg4 arg5 harg5 arg6 harg6 x0 x1 x2 x3 x4 x5) (r_20 c arg1 harg1 arg2 harg2 arg3 harg3 arg4 harg4 arg5 harg5 arg6 harg6 x0 x1 x2 x3 x4 x5) (r_21 c arg1 harg1 arg2 harg2 arg3 harg3 arg4 harg4 arg5 harg5 arg6 harg6 x0 x1 x2 x3 x4 x5) := rfl
theorem sdf1 : (r_46 c arg1 harg1 arg2 harg2 arg3 harg3 arg4 harg4 arg5 harg5 arg6 harg6 x0 x1 x2 x3 x4 x5) = kScatter (B := 128) (r_7 c arg1 harg1 arg2 harg2 arg3 harg3 arg4 harg4 arg5 harg5 arg6 harg6 x0 x1 x2 x3 x4 x5) (kSdf (B := 128) (r_1 c arg1 harg1 x0) (r_2 c arg2 harg2 x1) (r_3 c arg3 harg3 x2) (row c arg4 harg4 x3) (r_5 c arg5 harg5 x4) (r c arg6 harg6 x5) (r_16 c arg1 harg1 arg2 harg2 arg3 harg3 arg4 harg4 arg5 harg5 arg6 harg6 x0 x1 x2 x3 x4 x5)) (r_20 c arg1 harg1 arg2 harg2 arg3 harg3 arg4 harg4 arg5 harg5 arg6 harg6 x0 x1 x2 x3 x4 x5) (r_21 c arg1 harg1 arg2 harg2 arg3 harg3 arg4 harg4 arg5 harg5 arg6 harg6 x0 x1 x2 x3 x4 x5) := rfl
theorem alp1 : (r_50 c arg1 harg1 arg2 harg2 arg3 harg3 arg4 harg4 arg5 harg5 arg6 harg6 x0 x1 x2 x3 x4 x5) = kAlpha (B := 128) (n := 78) 0x43000000#32 (r_36 c arg1 harg1 arg2 harg2 arg3 harg3 arg4 harg4 arg5 harg5 arg6 harg6 x0 x1 x2 x3 x4 x5) (r_37 c arg1 harg1 arg2 harg2 arg3 harg3 arg4 harg4 arg5 harg5 arg6 harg6 x0 x1 x2 x3 x4 x5) (r_46 c arg1 harg1 arg2 harg2 arg3 harg3 arg4 harg4 arg5 harg5 arg6 harg6 x0 x1 x2 x3 x4 x5) := rfl
theorem pdf1 : (r_52 c arg1 harg1 arg2 harg2 arg3 harg3 arg4 harg4 arg5 harg5 arg6 harg6 x0 x1 x2 x3 x4 x5) = kPdf 0x42A00000#32 (kWeights (B := 128) (n := 80) (by omega) (r_50 c arg1 harg1 arg2 harg2 arg3 harg3 arg4 harg4 arg5 harg5 arg6 harg6 x0 x1 x2 x3 x4 x5)) := rfl
theorem cdf1 : (r_53 c arg1 harg1 arg2 harg2 arg3 harg3 arg4 harg4 arg5 harg5 arg6 harg6 x0 x1 x2 x3 x4 x5) = kCdf (B := 128) (n := 80) (by omega) (r_52 c arg1 harg1 arg2 harg2 arg3 harg3 arg4 harg4 arg5 harg5 arg6 harg6 x0 x1 x2 x3 x4 x5) := rfl
theorem new1 : (r_60 c arg1 harg1 arg2 harg2 arg3 harg3 arg4 harg4 arg5 harg5 arg6 harg6 x0 x1 x2 x3 x4 x5) = kNew16 (kSample (B := 128) (n := 80) 17 kU3 kU2 (r_53 c arg1 harg1 arg2 harg2 arg3 harg3 arg4 harg4 arg5 harg5 arg6 harg6 x0 x1 x2 x3 x4 x5) (r_54 c arg1 harg1 arg2 harg2 arg3 harg3 arg4 harg4 arg5 harg5 arg6 harg6 x0 x1 x2 x3 x4 x5)) := rfl
theorem end1 : (r_61 c arg1 harg1 arg2 harg2 arg3 harg3 arg4 harg4 arg5 harg5 arg6 harg6 x0 x1 x2 x3 x4 x5) = extractStridedSlice (S2 128 1) ![0, 16] (kSample (B := 128) (n := 80) 17 kU3 kU2 (r_53 c arg1 harg1 arg2 harg2 arg3 harg3 arg4 harg4 arg5 harg5 arg6 harg6 x0 x1 x2 x3 x4 x5) (r_54 c arg1 harg1 arg2 harg2 arg3 harg3 arg4 harg4 arg5 harg5 arg6 harg6 x0 x1 x2 x3 x4 x5)) (slices2 (by omega)) := rfl
theorem max2 : (r_80 c arg1 harg1 arg2 harg2 arg3 harg3 arg4 harg4 arg5 harg5 arg6 harg6 x0 x1 x2 x3 x4 x5) = maximumf (r_37 c arg1 harg1 arg2 harg2 arg3 harg3 arg4 harg4 arg5 harg5 arg6 harg6 x0 x1 x2 x3 x4 x5) (r_61 c arg1 harg1 arg2 harg2 arg3 harg3 arg4 harg4 arg5 harg5 arg6 harg6 x0 x1 x2 x3 x4 x5) := rfl
theorem old1 : (r_62 c arg1 harg1 arg2 harg2 arg3 harg3 arg4 harg4 arg5 harg5 arg6 harg6 x0 x1 x2 x3 x4 x5) = kPosOld (B := 128) (r_36 c arg1 harg1 arg2 harg2 arg3 harg3 arg4 harg4 arg5 harg5 arg6 harg6 x0 x1 x2 x3 x4 x5) (r_60 c arg1 harg1 arg2 harg2 arg3 harg3 arg4 harg4 arg5 harg5 arg6 harg6 x0 x1 x2 x3 x4 x5) := rfl
theorem pos1 : (r_64 c arg1 harg1 arg2 harg2 arg3 harg3 arg4 harg4 arg5 harg5 arg6 harg6 x0 x1 x2 x3 x4 x5) = kPosNew (B := 128) 0x42A00000#32 (r_36 c arg1 harg1 arg2 harg2 arg3 harg3 arg4 harg4 arg5 harg5 arg6 harg6 x0 x1 x2 x3 x4 x5) (r_60 c arg1 harg1 arg2 harg2 arg3 harg3 arg4 harg4 arg5 harg5 arg6 harg6 x0 x1 x2 x3 x4 x5) := rfl
theorem bins2 : (r_79 c arg1 harg1 arg2 harg2 arg3 harg3 arg4 harg4 arg5 harg5 arg6 harg6 x0 x1 x2 x3 x4 x5) = kScatter (B := 128) (r_36 c arg1 harg1 arg2 harg2 arg3 harg3 arg4 harg4 arg5 harg5 arg6 harg6 x0 x1 x2 x3 x4 x5) (r_60 c arg1 harg1 arg2 harg2 arg3 harg3 arg4 harg4 arg5 harg5 arg6 harg6 x0 x1 x2 x3 x4 x5) (r_62 c arg1 harg1 arg2 harg2 arg3 harg3 arg4 harg4 arg5 harg5 arg6 harg6 x0 x1 x2 x3 x4 x5) (r_64 c arg1 harg1 arg2 harg2 arg3 harg3 arg4 harg4 arg5 harg5 arg6 harg6 x0 x1 x2 x3 x4 x5) := rfl
theorem sdf2 : (r_92 c arg1 harg1 arg2 harg2 arg3 harg3 arg4 harg4 arg5 harg5 arg6 harg6 x0 x1 x2 x3 x4 x5) = kScatter (B := 128) (r_46 c arg1 harg1 arg2 harg2 arg3 harg3 arg4 harg4 arg5 harg5 arg6 harg6 x0 x1 x2 x3 x4 x5) (kSdf (B := 128) (r_1 c arg1 harg1 x0) (r_2 c arg2 harg2 x1) (r_3 c arg3 harg3 x2) (row c arg4 harg4 x3) (r_5 c arg5 harg5 x4) (r c arg6 harg6 x5) (r_60 c arg1 harg1 arg2 harg2 arg3 harg3 arg4 harg4 arg5 harg5 arg6 harg6 x0 x1 x2 x3 x4 x5)) (r_62 c arg1 harg1 arg2 harg2 arg3 harg3 arg4 harg4 arg5 harg5 arg6 harg6 x0 x1 x2 x3 x4 x5) (r_64 c arg1 harg1 arg2 harg2 arg3 harg3 arg4 harg4 arg5 harg5 arg6 harg6 x0 x1 x2 x3 x4 x5) := rfl
theorem alp2 : (r_97 c arg1 harg1 arg2 harg2 arg3 harg3 arg4 harg4 arg5 harg5 arg6 harg6 x0 x1 x2 x3 x4 x5) = kAlpha (B := 128) (n := 94) 0x43800000#32 (r_79 c arg1 harg1 arg2 harg2 arg3 harg3 arg4 harg4 arg5 harg5 arg6 harg6 x0 x1 x2 x3 x4 x5) (r_80 c arg1 harg1 arg2 harg2 arg3 harg3 arg4 harg4 arg5 harg5 arg6 harg6 x0 x1 x2 x3 x4 x5) (r_92 c arg1 harg1 arg2 harg2 arg3 harg3 arg4 harg4 arg5 harg5 arg6 harg6 x0 x1 x2 x3 x4 x5) := rfl
theorem cdf2 : (r_101 c arg1 harg1 arg2 harg2 arg3 harg3 arg4 harg4 arg5 harg5 arg6 harg6 x0 x1 x2 x3 x4 x5) = kCdf (B := 128) (n := 96) (by omega) (kPdf 0x42C00000#32 (kWeights (B := 128) (n := 96) (by omega) (r_97 c arg1 harg1 arg2 harg2 arg3 harg3 arg4 harg4 arg5 harg5 arg6 harg6 x0 x1 x2 x3 x4 x5))) := rfl
theorem new2 : (r_108 c arg1 harg1 arg2 harg2 arg3 harg3 arg4 harg4 arg5 harg5 arg6 harg6 x0 x1 x2 x3 x4 x5) = kNew16 (kSample (B := 128) (n := 96) 17 kU3 kU2 (r_101 c arg1 harg1 arg2 harg2 arg3 harg3 arg4 harg4 arg5 harg5 arg6 harg6 x0 x1 x2 x3 x4 x5) (r_102 c arg1 harg1 arg2 harg2 arg3 harg3 arg4 harg4 arg5 harg5 arg6 harg6 x0 x1 x2 x3 x4 x5)) := rfl
theorem end2 : (r_109 c arg1 harg1 arg2 harg2 arg3 harg3 arg4 harg4 arg5 harg5 arg6 harg6 x0 x1 x2 x3 x4 x5) = extractStridedSlice (S2 128 1) ![0, 16] (kSample (B := 128) (n := 96) 17 kU3 kU2 (r_101 c arg1 harg1 arg2 harg2 arg3 harg3 arg4 harg4 arg5 harg5 arg6 harg6 x0 x1 x2 x3 x4 x5) (r_102 c arg1 harg1 arg2 harg2 arg3 harg3 arg4 harg4 arg5 harg5 arg6 harg6 x0 x1 x2 x3 x4 x5)) (slices2 (by omega)) := rfl
theorem max3 : (r_123 c arg1 harg1 arg2 harg2 arg3 harg3 arg4 harg4 arg5 harg5 arg6 harg6 x0 x1 x2 x3 x4 x5) = maximumf (r_80 c arg1 harg1 arg2 harg2 arg3 harg3 arg4 harg4 arg5 harg5 arg6 harg6 x0 x1 x2 x3 x4 x5) (r_109 c arg1 harg1 arg2 harg2 arg3 harg3 arg4 harg4 arg5 harg5 arg6 harg6 x0 x1 x2 x3 x4 x5) := rfl
theorem old2 : (r_110 c arg1 harg1 arg2 harg2 arg3 harg3 arg4 harg4 arg5 harg5 arg6 harg6 x0 x1 x2 x3 x4 x5) = kPosOld (B := 128) (r_79 c arg1 harg1 arg2 harg2 arg3 harg3 arg4 harg4 arg5 harg5 arg6 harg6 x0 x1 x2 x3 x4 x5) (r_108 c arg1 harg1 arg2 harg2 arg3 harg3 arg4 harg4 arg5 harg5 arg6 harg6 x0 x1 x2 x3 x4 x5) := rfl
theorem pos2 : (r_111 c arg1 harg1 arg2 harg2 arg3 harg3 arg4 harg4 arg5 harg5 arg6 harg6 x0 x1 x2 x3 x4 x5) = kPosNew (B := 128) 0x42C00000#32 (r_79 c arg1 harg1 arg2 harg2 arg3 harg3 arg4 harg4 arg5 harg5 arg6 harg6 x0 x1 x2 x3 x4 x5) (r_108 c arg1 harg1 arg2 harg2 arg3 harg3 arg4 harg4 arg5 harg5 arg6 harg6 x0 x1 x2 x3 x4 x5) := rfl
theorem bins3 : (r_122 c arg1 harg1 arg2 harg2 arg3 harg3 arg4 harg4 arg5 harg5 arg6 harg6 x0 x1 x2 x3 x4 x5) = kScatter (B := 128) (r_79 c arg1 harg1 arg2 harg2 arg3 harg3 arg4 harg4 arg5 harg5 arg6 harg6 x0 x1 x2 x3 x4 x5) (r_108 c arg1 harg1 arg2 harg2 arg3 harg3 arg4 harg4 arg5 harg5 arg6 harg6 x0 x1 x2 x3 x4 x5) (r_110 c arg1 harg1 arg2 harg2 arg3 harg3 arg4 harg4 arg5 harg5 arg6 harg6 x0 x1 x2 x3 x4 x5) (r_111 c arg1 harg1 arg2 harg2 arg3 harg3 arg4 harg4 arg5 harg5 arg6 harg6 x0 x1 x2 x3 x4 x5) := rfl
theorem alp3 : (r_142 c arg1 harg1 arg2 harg2 arg3 harg3 arg4 harg4 arg5 harg5 arg6 harg6 x0 x1 x2 x3 x4 x5) = kAlpha (B := 128) (n := 110) 0x44000000#32 (r_122 c arg1 harg1 arg2 harg2 arg3 harg3 arg4 harg4 arg5 harg5 arg6 harg6 x0 x1 x2 x3 x4 x5) (r_123 c arg1 harg1 arg2 harg2 arg3 harg3 arg4 harg4 arg5 harg5 arg6 harg6 x0 x1 x2 x3 x4 x5) (kScatter (B := 128) (r_92 c arg1 harg1 arg2 harg2 arg3 harg3 arg4 harg4 arg5 harg5 arg6 harg6 x0 x1 x2 x3 x4 x5) (kSdf (B := 128) (r_1 c arg1 harg1 x0) (r_2 c arg2 harg2 x1) (r_3 c arg3 harg3 x2) (row c arg4 harg4 x3) (r_5 c arg5 harg5 x4) (r c arg6 harg6 x5) (r_108 c arg1 harg1 arg2 harg2 arg3 harg3 arg4 harg4 arg5 harg5 arg6 harg6 x0 x1 x2 x3 x4 x5)) (r_110 c arg1 harg1 arg2 harg2 arg3 harg3 arg4 harg4 arg5 harg5 arg6 harg6 x0 x1 x2 x3 x4 x5) (r_111 c arg1 harg1 arg2 harg2 arg3 harg3 arg4 harg4 arg5 harg5 arg6 harg6 x0 x1 x2 x3 x4 x5)) := rfl
theorem cdf3 : k0_pay185 (r_145 c arg1 harg1 arg2 harg2 arg3 harg3 arg4 harg4 arg5 harg5 arg6 harg6 x0 x1 x2 x3 x4 x5) k0_pay184 = kCdf (B := 128) (n := 112) (by omega) (kPdf 0x42E00000#32 (kWeights (B := 128) (n := 112) (by omega) (r_142 c arg1 harg1 arg2 harg2 arg3 harg3 arg4 harg4 arg5 harg5 arg6 harg6 x0 x1 x2 x3 x4 x5))) := rfl
theorem new3 : (r_150 c arg1 harg1 arg2 harg2 arg3 harg3 arg4 harg4 arg5 harg5 arg6 harg6 x0 x1 x2 x3 x4 x5) = kNew16 (kSample (B := 128) (n := 112) 17 kU3 kU2 (k0_pay185 (r_145 c arg1 harg1 arg2 harg2 arg3 harg3 arg4 harg4 arg5 harg5 arg6 harg6 x0 x1 x2 x3 x4 x5) k0_pay184) (concatenate (S2 128 113) 1 [⟨S2 128 112, (r_122 c arg1 harg1 arg2 harg2 arg3 harg3 arg4 harg4 arg5 harg5 arg6 harg6 x0 x1 x2 x3 x4 x5)⟩, ⟨S2 128 1, (r_123 c arg1 harg1 arg2 harg2 arg3 harg3 arg4 harg4 arg5 harg5 arg6 harg6 x0 x1 x2 x3 x4 x5)⟩] (conc2 rfl))) := rfl
theorem last3 : (r_164 c arg1 harg1 arg2 harg2 arg3 harg3 arg4 harg4 arg5 harg5 arg6 harg6 x0 x1 x2 x3 x4 x5) = kScatter (B := 128) (r_122 c arg1 harg1 arg2 harg2 arg3 harg3 arg4 harg4 arg5 harg5 arg6 harg6 x0 x1 x2 x3 x4 x5) (r_150 c arg1 harg1 arg2 harg2 arg3 harg3 arg4 harg4 arg5 harg5 arg6 harg6 x0 x1 x2 x3 x4 x5) (kPosOld (r_122 c arg1 harg1 arg2 harg2 arg3 harg3 arg4 harg4 arg5 harg5 arg6 harg6 x0 x1 x2 x3 x4 x5) (r_150 c arg1 harg1 arg2 harg2 arg3 harg3 arg4 harg4 arg5 harg5 arg6 harg6 x0 x1 x2 x3 x4 x5)) (kPosNew 0x42E00000#32 (r_122 c arg1 harg1 arg2 harg2 arg3 harg3 arg4 harg4 arg5 harg5 arg6 harg6 x0 x1 x2 x3 x4 x5) (r_150 c arg1 harg1 arg2 harg2 arg3 harg3 arg4 harg4 arg5 harg5 arg6 harg6 x0 x1 x2 x3 x4 x5)) := rfl

/-- Rounds take the words of a round to those of the next. -/
theorem round1 : kNext (B := 128) (n := 62) 0x42800000#32 0x42800000#32 (by omega) (kSdf (r_1 c arg1 harg1 x0) (r_2 c arg2 harg2 x1) (r_3 c arg3 harg3 x2) (row c arg4 harg4 x3) (r_5 c arg5 harg5 x4) (r c arg6 harg6 x5)) ⟨k0_pay4, k0_pay5, (r_7 c arg1 harg1 arg2 harg2 arg3 harg3 arg4 harg4 arg5 harg5 arg6 harg6 x0 x1 x2 x3 x4 x5)⟩ = (⟨(r_36 c arg1 harg1 arg2 harg2 arg3 harg3 arg4 harg4 arg5 harg5 arg6 harg6 x0 x1 x2 x3 x4 x5), (r_37 c arg1 harg1 arg2 harg2 arg3 harg3 arg4 harg4 arg5 harg5 arg6 harg6 x0 x1 x2 x3 x4 x5), (r_46 c arg1 harg1 arg2 harg2 arg3 harg3 arg4 harg4 arg5 harg5 arg6 harg6 x0 x1 x2 x3 x4 x5)⟩ : State 128 80) := by
  have e : kNew (B := 128) (n := 62) 0x42800000#32 0x42800000#32 (by omega) k0_pay4 k0_pay5 (r_7 c arg1 harg1 arg2 harg2 arg3 harg3 arg4 harg4 arg5 harg5 arg6 harg6 x0 x1 x2 x3 x4 x5) = kSample (B := 128) (n := 64) 17 kU3 kU2 (r_11 c arg1 harg1 arg2 harg2 arg3 harg3 arg4 harg4 arg5 harg5 arg6 harg6 x0 x1 x2 x3 x4 x5) r_12 := by
    rw [cdf0, wts0]; rfl
  unfold kNext
  dsimp only
  rw [e, bins1, max1, sdf1, old0, pos0, end0, new0]

theorem round2 : kNext (B := 128) (n := 78) 0x43000000#32 0x42A00000#32 (by omega) (kSdf (r_1 c arg1 harg1 x0) (r_2 c arg2 harg2 x1) (r_3 c arg3 harg3 x2) (row c arg4 harg4 x3) (r_5 c arg5 harg5 x4) (r c arg6 harg6 x5)) ⟨(r_36 c arg1 harg1 arg2 harg2 arg3 harg3 arg4 harg4 arg5 harg5 arg6 harg6 x0 x1 x2 x3 x4 x5), (r_37 c arg1 harg1 arg2 harg2 arg3 harg3 arg4 harg4 arg5 harg5 arg6 harg6 x0 x1 x2 x3 x4 x5), (r_46 c arg1 harg1 arg2 harg2 arg3 harg3 arg4 harg4 arg5 harg5 arg6 harg6 x0 x1 x2 x3 x4 x5)⟩ = (⟨(r_79 c arg1 harg1 arg2 harg2 arg3 harg3 arg4 harg4 arg5 harg5 arg6 harg6 x0 x1 x2 x3 x4 x5), (r_80 c arg1 harg1 arg2 harg2 arg3 harg3 arg4 harg4 arg5 harg5 arg6 harg6 x0 x1 x2 x3 x4 x5), (r_92 c arg1 harg1 arg2 harg2 arg3 harg3 arg4 harg4 arg5 harg5 arg6 harg6 x0 x1 x2 x3 x4 x5)⟩ : State 128 96) := by
  have e : kNew (B := 128) (n := 78) 0x43000000#32 0x42A00000#32 (by omega) (r_36 c arg1 harg1 arg2 harg2 arg3 harg3 arg4 harg4 arg5 harg5 arg6 harg6 x0 x1 x2 x3 x4 x5) (r_37 c arg1 harg1 arg2 harg2 arg3 harg3 arg4 harg4 arg5 harg5 arg6 harg6 x0 x1 x2 x3 x4 x5) (r_46 c arg1 harg1 arg2 harg2 arg3 harg3 arg4 harg4 arg5 harg5 arg6 harg6 x0 x1 x2 x3 x4 x5) = kSample (B := 128) (n := 80) 17 kU3 kU2 (r_53 c arg1 harg1 arg2 harg2 arg3 harg3 arg4 harg4 arg5 harg5 arg6 harg6 x0 x1 x2 x3 x4 x5) (r_54 c arg1 harg1 arg2 harg2 arg3 harg3 arg4 harg4 arg5 harg5 arg6 harg6 x0 x1 x2 x3 x4 x5) := by
    rw [cdf1, pdf1, alp1]; rfl
  unfold kNext
  dsimp only
  rw [e, bins2, max2, sdf2, old1, pos1, end1, new1]

theorem round3 : kNext (B := 128) (n := 94) 0x43800000#32 0x42C00000#32 (by omega) (kSdf (r_1 c arg1 harg1 x0) (r_2 c arg2 harg2 x1) (r_3 c arg3 harg3 x2) (row c arg4 harg4 x3) (r_5 c arg5 harg5 x4) (r c arg6 harg6 x5)) ⟨(r_79 c arg1 harg1 arg2 harg2 arg3 harg3 arg4 harg4 arg5 harg5 arg6 harg6 x0 x1 x2 x3 x4 x5), (r_80 c arg1 harg1 arg2 harg2 arg3 harg3 arg4 harg4 arg5 harg5 arg6 harg6 x0 x1 x2 x3 x4 x5), (r_92 c arg1 harg1 arg2 harg2 arg3 harg3 arg4 harg4 arg5 harg5 arg6 harg6 x0 x1 x2 x3 x4 x5)⟩ =
    (⟨(r_122 c arg1 harg1 arg2 harg2 arg3 harg3 arg4 harg4 arg5 harg5 arg6 harg6 x0 x1 x2 x3 x4 x5), (r_123 c arg1 harg1 arg2 harg2 arg3 harg3 arg4 harg4 arg5 harg5 arg6 harg6 x0 x1 x2 x3 x4 x5), kScatter (B := 128) (r_92 c arg1 harg1 arg2 harg2 arg3 harg3 arg4 harg4 arg5 harg5 arg6 harg6 x0 x1 x2 x3 x4 x5) (kSdf (B := 128) (r_1 c arg1 harg1 x0) (r_2 c arg2 harg2 x1) (r_3 c arg3 harg3 x2) (row c arg4 harg4 x3) (r_5 c arg5 harg5 x4) (r c arg6 harg6 x5) (r_108 c arg1 harg1 arg2 harg2 arg3 harg3 arg4 harg4 arg5 harg5 arg6 harg6 x0 x1 x2 x3 x4 x5)) (r_110 c arg1 harg1 arg2 harg2 arg3 harg3 arg4 harg4 arg5 harg5 arg6 harg6 x0 x1 x2 x3 x4 x5) (r_111 c arg1 harg1 arg2 harg2 arg3 harg3 arg4 harg4 arg5 harg5 arg6 harg6 x0 x1 x2 x3 x4 x5)⟩ : State 128 112) := by
  have e : kNew (B := 128) (n := 94) 0x43800000#32 0x42C00000#32 (by omega) (r_79 c arg1 harg1 arg2 harg2 arg3 harg3 arg4 harg4 arg5 harg5 arg6 harg6 x0 x1 x2 x3 x4 x5) (r_80 c arg1 harg1 arg2 harg2 arg3 harg3 arg4 harg4 arg5 harg5 arg6 harg6 x0 x1 x2 x3 x4 x5) (r_92 c arg1 harg1 arg2 harg2 arg3 harg3 arg4 harg4 arg5 harg5 arg6 harg6 x0 x1 x2 x3 x4 x5) = kSample (B := 128) (n := 96) 17 kU3 kU2 (r_101 c arg1 harg1 arg2 harg2 arg3 harg3 arg4 harg4 arg5 harg5 arg6 harg6 x0 x1 x2 x3 x4 x5) (r_102 c arg1 harg1 arg2 harg2 arg3 harg3 arg4 harg4 arg5 harg5 arg6 harg6 x0 x1 x2 x3 x4 x5) := by
    rw [cdf2, alp2]; rfl
  unfold kNext
  dsimp only
  rw [e, bins3, max3, old2, pos2, end2, new2]

theorem round4 : (kNext (B := 128) (n := 110) 0x44000000#32 0x42E00000#32 (by omega) (kSdf (r_1 c arg1 harg1 x0) (r_2 c arg2 harg2 x1) (r_3 c arg3 harg3 x2) (row c arg4 harg4 x3) (r_5 c arg5 harg5 x4) (r c arg6 harg6 x5))
    ⟨(r_122 c arg1 harg1 arg2 harg2 arg3 harg3 arg4 harg4 arg5 harg5 arg6 harg6 x0 x1 x2 x3 x4 x5), (r_123 c arg1 harg1 arg2 harg2 arg3 harg3 arg4 harg4 arg5 harg5 arg6 harg6 x0 x1 x2 x3 x4 x5), kScatter (B := 128) (r_92 c arg1 harg1 arg2 harg2 arg3 harg3 arg4 harg4 arg5 harg5 arg6 harg6 x0 x1 x2 x3 x4 x5) (kSdf (B := 128) (r_1 c arg1 harg1 x0) (r_2 c arg2 harg2 x1) (r_3 c arg3 harg3 x2) (row c arg4 harg4 x3) (r_5 c arg5 harg5 x4) (r c arg6 harg6 x5) (r_108 c arg1 harg1 arg2 harg2 arg3 harg3 arg4 harg4 arg5 harg5 arg6 harg6 x0 x1 x2 x3 x4 x5)) (r_110 c arg1 harg1 arg2 harg2 arg3 harg3 arg4 harg4 arg5 harg5 arg6 harg6 x0 x1 x2 x3 x4 x5) (r_111 c arg1 harg1 arg2 harg2 arg3 harg3 arg4 harg4 arg5 harg5 arg6 harg6 x0 x1 x2 x3 x4 x5)⟩).t = (r_164 c arg1 harg1 arg2 harg2 arg3 harg3 arg4 harg4 arg5 harg5 arg6 harg6 x0 x1 x2 x3 x4 x5) := by
  have e : kNew (B := 128) (n := 110) 0x44000000#32 0x42E00000#32 (by omega) (r_122 c arg1 harg1 arg2 harg2 arg3 harg3 arg4 harg4 arg5 harg5 arg6 harg6 x0 x1 x2 x3 x4 x5) (r_123 c arg1 harg1 arg2 harg2 arg3 harg3 arg4 harg4 arg5 harg5 arg6 harg6 x0 x1 x2 x3 x4 x5) (kScatter (B := 128) (r_92 c arg1 harg1 arg2 harg2 arg3 harg3 arg4 harg4 arg5 harg5 arg6 harg6 x0 x1 x2 x3 x4 x5) (kSdf (B := 128) (r_1 c arg1 harg1 x0) (r_2 c arg2 harg2 x1) (r_3 c arg3 harg3 x2) (row c arg4 harg4 x3) (r_5 c arg5 harg5 x4) (r c arg6 harg6 x5) (r_108 c arg1 harg1 arg2 harg2 arg3 harg3 arg4 harg4 arg5 harg5 arg6 harg6 x0 x1 x2 x3 x4 x5)) (r_110 c arg1 harg1 arg2 harg2 arg3 harg3 arg4 harg4 arg5 harg5 arg6 harg6 x0 x1 x2 x3 x4 x5) (r_111 c arg1 harg1 arg2 harg2 arg3 harg3 arg4 harg4 arg5 harg5 arg6 harg6 x0 x1 x2 x3 x4 x5)) =
      kSample (B := 128) (n := 112) 17 kU3 kU2 (k0_pay185 (r_145 c arg1 harg1 arg2 harg2 arg3 harg3 arg4 harg4 arg5 harg5 arg6 harg6 x0 x1 x2 x3 x4 x5) k0_pay184) (concatenate (S2 128 113) 1 [⟨S2 128 112, (r_122 c arg1 harg1 arg2 harg2 arg3 harg3 arg4 harg4 arg5 harg5 arg6 harg6 x0 x1 x2 x3 x4 x5)⟩, ⟨S2 128 1, (r_123 c arg1 harg1 arg2 harg2 arg3 harg3 arg4 harg4 arg5 harg5 arg6 harg6 x0 x1 x2 x3 x4 x5)⟩] (conc2 rfl)) := by
    rw [cdf3, alp3]; rfl
  unfold kNext
  dsimp only
  rw [e, last3, new3]

/-- What the body stores, as a function of what it reads. -/
theorem net : (r_164 c arg1 harg1 arg2 harg2 arg3 harg3 arg4 harg4 arg5 harg5 arg6 harg6 x0 x1 x2 x3 x4 x5) = kNet (r_1 c arg1 harg1 x0) (r_2 c arg2 harg2 x1) (r_3 c arg3 harg3 x2) (row c arg4 harg4 x3) (r_5 c arg5 harg5 x4) (r c arg6 harg6 x5) := by
  unfold kNet
  have h : (⟨kStart, kc _ 0x3F800000#32, kSdf (r_1 c arg1 harg1 x0) (r_2 c arg2 harg2 x1) (r_3 c arg3 harg3 x2) (row c arg4 harg4 x3) (r_5 c arg5 harg5 x4) (r c arg6 harg6 x5) kStart⟩ : State 128 64) = ⟨k0_pay4, k0_pay5, (r_7 c arg1 harg1 arg2 harg2 arg3 harg3 arg4 harg4 arg5 harg5 arg6 harg6 x0 x1 x2 x3 x4 x5)⟩ := by
    rw [sdf0]; rfl
  rw [h, round1, round2, round3, round4]

end words

variable (i : grid0.Coords) (arg7 : Memref sig .tc .vmem S128x128 .f32) (harg7 : arg7.IsWhole)

/-- The output block of one call, as a function of the input blocks. -/
theorem out_eq : out0_A_6 c i arg1 harg1 arg2 harg2 arg3 harg3 arg4 harg4 arg5 harg5 arg6 harg6 arg7 harg7 x0 x1 x2 x3 x4 x5 =
    kNet (B := 128) x0 x1 x2 x3 x4 (x5 (ix2 0 0)) := by
  have hz : (![0, 0] : Fin 2 → Nat) = fun _ => 0 := by funext a; fin_cases a <;> rfl
  unfold out0_A_6
  rw [View.read_writes_junk_eq_canon]
  unfold kernelRun0_A
  dsimp only
  rw [View.canon_unit_zero hz, net]
  have e0 : r_1 c arg1 harg1 x0 = x0 := by
    show View.readAt (Elt Ideal) arg1.view (Rect.unit ![0, 0] S128x3.size inb_S128x3_S128x3_0_0).toLoadRect (harg1.unread x0) = x0
    rw [View.readAt_eq_ld, harg1.read_unread, View.ld_unit_zero hz]
  have e1 : r_2 c arg2 harg2 x1 = x1 := by
    show View.readAt (Elt Ideal) arg2.view (Rect.unit ![0, 0] S128x3.size inb_S128x3_S128x3_0_0).toLoadRect (harg2.unread x1) = x1
    rw [View.readAt_eq_ld, harg2.read_unread, View.ld_unit_zero hz]
  have e2 : r_3 c arg3 harg3 x2 = x2 := by
    show View.readAt (Elt Ideal) arg3.view (Rect.unit ![0, 0] S3x128.size inb_S3x128_S3x128_0_0).toLoadRect (harg3.unread x2) = x2
    rw [View.readAt_eq_ld, harg3.read_unread, View.ld_unit_zero hz]
  have e3 : row c arg4 harg4 x3 = x3 := by
    unfold row
    rw [View.readAt_eq_ld, harg4.read_unread, View.ld_unit_zero hz]
  have e4 : r_5 c arg5 harg5 x4 = x4 := by
    show View.readAt (Elt Ideal) arg5.view (Rect.unit ![0, 0] S128x1.size inb_S128x1_S128x1_0_0).toLoadRect (harg5.unread x4) = x4
    rw [View.readAt_eq_ld, harg5.read_unread, View.ld_unit_zero hz]
  have e5 : r c arg6 harg6 x5 = x5 (ix2 0 0) := by
    show View.readAt (Elt Ideal) arg6.view _ (harg6.unread x5) _ = _
    rw [View.readAt_eq_ld, harg6.read_unread]
    exact congrArg x5 (funext fun a => by match a with | ⟨0, _⟩ => rfl | ⟨1, _⟩ => rfl)
  rw [e0, e1, e2, e3, e4, e5]

end Cert.KLink
-- ==== Proof.Formulas.lean ====
/-
The quantities of one round as functions on the naturals, and running products and sums by doubling.
-/
module

public import proofs.«01_k».proof.Proof.Rows

@[expose] public section

noncomputable section

namespace Cert.Rows

open Idealize.ShloMosaic

/-- The logistic function. -/
def sig (x : EReal) : EReal := Ideal.div (cw 0x3F800000#32) (cw 0x3F800000#32 + Ideal.exp (-x))

/-- The lengths of the sections between the samples, the last one ending at `M 0`. -/
abbrev distRow (n : ℕ) (T M : ℕ → EReal) : ℕ → EReal := fun j => cat (n + 2) T M (1 + j) - cat (n + 2) T M j

/-- The slope of each section. -/
abbrev cosRow (n : ℕ) (T M S : ℕ → EReal) : ℕ → EReal := fun j => Ideal.div (S (1 + j) - S j) (distRow n T M j + cw 0x3727C5AC#32)

/-- The smaller of the slopes of a section and of the one before it, between −1000 and 0. -/
abbrev clipRow (n : ℕ) (T M S : ℕ → EReal) : ℕ → EReal := fun j =>
  min (cw 0x00000000#32) (max (cw 0xC47A0000#32) (min (cat 1 (fun _ => cw 0x00000000#32) (cosRow n T M S) j) (cosRow n T M S j)))

/-- Half the change over a section. -/
abbrev halfRow (n : ℕ) (T M S : ℕ → EReal) : ℕ → EReal := fun j => clipRow n T M S j * distRow n T M j * cw 0x3F000000#32

/-- The opacities of the sections, the last one zero. -/
def alphaRow (wi : BitVec 32) (n : ℕ) (T M S : ℕ → EReal) : ℕ → EReal :=
  cat (n + 1) (fun j => Ideal.div
      (sig (((S j + S (1 + j)) * cw 0x3F000000#32 - halfRow n T M S j) * cw wi)
        - sig (((S j + S (1 + j)) * cw 0x3F000000#32 + halfRow n T M S j) * cw wi) + cw 0x3727C5AC#32)
      (sig (((S j + S (1 + j)) * cw 0x3F000000#32 - halfRow n T M S j) * cw wi) + cw 0x3727C5AC#32))
    (fun _ => cw 0x00000000#32)

/-- What is left of the light after each section. -/
abbrev factorRow (a : ℕ → EReal) : ℕ → EReal := cat 1 (fun _ => cw 0x3F800000#32) (fun j => cw 0x3F800000#32 - a j)

/-- The weights of the samples. -/
abbrev weightsRow (a : ℕ → EReal) : ℕ → EReal := fun j => a j * (∏ i ∈ Finset.range (j + 1), factorRow a i) + cw 0x3727C5AC#32

/-- How much the weights' sum falls short. -/
abbrev padRow (n : ℕ) (w : ℕ → EReal) : EReal := max (cw 0x3727C5AC#32 - ∑ i ∈ Finset.range n, w i) (cw 0x00000000#32)

/-- The weights, divided by their sum. -/
abbrev pdfRow (wn : BitVec 32) (n : ℕ) (w : ℕ → EReal) : ℕ → EReal := fun j =>
  Ideal.div (w j + Ideal.div (padRow n w) (cw wn)) ((∑ i ∈ Finset.range n, w i) + padRow n w)

/-- The distribution function of a density, from zero on. -/
abbrev cdfRow (p : ℕ → EReal) : ℕ → EReal :=
  cat 1 (fun _ => cw 0x00000000#32) (fun j => min (∑ i ∈ Finset.range (j + 1), p i) (cw 0x3F800000#32))

/-- The distribution function of one round. -/
def cdfOf (wi wn : BitVec 32) (n : ℕ) (T M S : ℕ → EReal) : ℕ → EReal := cdfRow (pdfRow wn (n + 2) (weightsRow (alphaRow wi n T M S)))

/-- The network at the point `o + t d`. -/
def sdfAt (o d : ℕ → EReal) (W1 : ℕ → ℕ → EReal) (b1 : ℕ → EReal) (W2 : ℕ → ℕ → EReal) (b2 : EReal) (t : EReal) : EReal :=
  (∑ h ∈ Finset.range 128, max ((∑ k ∈ Finset.range 3, (o k + t * d k) * W1 k h) + b1 h) (cw 0x00000000#32) * W2 h 0) + b2

theorem cw_zero : cw 0x00000000#32 = 0 := Ideal.ofBits_zero_f32
theorem cw_one : cw 0x3F800000#32 = 1 := Ideal.ofBits_one_f32

/-- The product of the `s` numbers that end at place `j` (of all numbers up to there if they are fewer). -/
abbrev win {M : Type} [CommMonoid M] (r : ℕ → M) (s j : ℕ) : M := ∏ i ∈ Finset.Ico (j + 1 - s) (j + 1), r i

/-- Two windows make one of double the length. -/
theorem win_double {M : Type} [CommMonoid M] (r : ℕ → M) (s j : ℕ) : win r s j * (if j < s then 1 else win r s (j - s)) = win r (s + s) j := by
  unfold win
  split
  · rw [mul_one, show j + 1 - s = 0 by omega, show j + 1 - (s + s) = 0 by omega]
  · rw [mul_comm, show j - s + 1 = j + 1 - s by omega, show j + 1 - s - s = j + 1 - (s + s) by omega]
    exact Finset.prod_Ico_consecutive r (by omega) (by omega)

theorem win_one {M : Type} [CommMonoid M] (r : ℕ → M) (j : ℕ) : win r 1 j = r j := by
  simp [win]

theorem win_all {M : Type} [CommMonoid M] (r : ℕ → M) {s j : ℕ} (h : j + 1 ≤ s) : win r s j = ∏ i ∈ Finset.range (j + 1), r i := by
  rw [win, Nat.sub_eq_zero_of_le h, Finset.range_eq_Ico]

end Cert.Rows
-- ==== Proof.KRow.lean ====
/-
The rows of the kernel's tables.
-/
module

public import proofs.«01_k».proof.Proof.Formulas
public import proofs.«01_k».proof.Proof.KNet

@[expose] public section

noncomputable section

namespace Cert.Rows

open Idealize.ShloMosaic Cert.KNet

variable {B n : ℕ} {b : Fin B}

theorem Rd.kc {w : BitVec 32} : Rd (kc (S2 B n) w) b fun _ => cw w := fun _ _ => rfl

/-- One step of a doubling scan, in rows. -/
theorem Rd.kStep {op : FVec Ideal (S2 B n) .f32 → FVec Ideal (S2 B n) .f32 → FVec Ideal (S2 B n) .f32} {f : EReal → EReal → EReal}
    (hop : ∀ {x y r s}, Rd x b r → Rd y b s → Rd (op x y) b fun j => f (r j) (s j)) {w : BitVec 32} {s : ℕ} (h : s ≤ n)
    {x : FVec Ideal (S2 B n) .f32} {r q : ℕ → EReal} (hx : Rd x b r) (hq : ∀ j, f (r j) (if j < s then cw w else r (j - s)) = q j) :
    Rd (KNet.kStep op w s h x) b q := by
  unfold KNet.kStep
  exact (hop hx ((Rd.kc (n := s) (w := w)).concat (hx.slice0 (slices2 (by omega))) (conc2 (by omega)))).congr fun j _ => hq j

/-- A whole scan, in rows. -/
theorem Rd.kScan {op : FVec Ideal (S2 B n) .f32 → FVec Ideal (S2 B n) .f32 → FVec Ideal (S2 B n) .f32} {f : EReal → EReal → EReal}
    (hop : ∀ {x y r s}, Rd x b r → Rd y b s → Rd (op x y) b fun j => f (r j) (s j)) {w : BitVec 32} (hn : 64 ≤ n) (hn' : n ≤ 128)
    {x : FVec Ideal (S2 B n) .f32} {r : ℕ → EReal} (hx : Rd x b r) (P : ℕ → ℕ → EReal) (Q : ℕ → EReal) (h1 : ∀ j, r j = P 1 j)
    (hP : ∀ s j, f (P s j) (if j < s then cw w else P s (j - s)) = P (s + s) j) (hQ : ∀ s j, j + 1 ≤ s → P s j = Q j) :
    Rd (KNet.kScan op w hn x) b Q := by
  have h64 := (((((((hx.congr fun j _ => h1 j).kStep hop (w := w) (s := 1) (by omega) (hP 1)).kStep hop (w := w) (s := 2) (by omega) (hP 2)).kStep hop
    (w := w) (s := 4) (by omega) (hP 4)).kStep hop (w := w) (s := 8) (by omega) (hP 8)).kStep hop (w := w) (s := 16) (by omega) (hP 16)).kStep hop
    (w := w) (s := 32) (by omega) (hP 32))
  unfold KNet.kScan
  dsimp only
  split
  · exact (h64.kStep hop hn (hP 64)).congr fun j hj => hQ 128 j (by omega)
  · exact h64.congr fun j hj => hQ 64 j (by omega)

/-- The running products. -/
theorem Rd.kProd (hn : 64 ≤ n) (hn' : n ≤ 128) {x : FVec Ideal (S2 B n) .f32} {r : ℕ → EReal} (hx : Rd x b r) :
    Rd (KNet.kScan Idealize.ShloMosaic.mulf 0x3F800000#32 hn x) b fun j => ∏ i ∈ Finset.range (j + 1), r i :=
  Rd.kScan (f := fun x y => x * y) Rd.mulf hn hn' hx (win r) _ (fun j => (win_one r j).symm)
    (fun s j => by rw [cw_one]; exact win_double r s j) (fun _ _ h => win_all r h)

/-- The running sums. -/
theorem Rd.kSum (hn : 64 ≤ n) (hn' : n ≤ 128) {x : FVec Ideal (S2 B n) .f32} {r : ℕ → EReal} (hx : Rd x b r) :
    Rd (KNet.kScan Idealize.ShloMosaic.addf 0x00000000#32 hn x) b fun j => ∑ i ∈ Finset.range (j + 1), r i :=
  Rd.kScan (f := fun x y => x + y) Rd.addf hn hn' hx (win (M := Multiplicative EReal) r) _ (fun j => (win_one (M := Multiplicative EReal) r j).symm)
    (fun s j => by rw [cw_zero]; exact win_double (M := Multiplicative EReal) r s j) (fun _ _ h => win_all (M := Multiplicative EReal) r h)

/-- The logistic function in rows. -/
theorem Rd.kSig {x : FVec Ideal (S2 B n) .f32} {r : ℕ → EReal} (hx : Rd x b r) : Rd (kSig x) b fun j => sig (r j) :=
  (Rd.kc.divf (Rd.kc.addf (Rd.kc.subf hx).exp)).congr fun j _ => by rw [sig, cw_zero, zero_sub]

variable {T M S : ℕ → EReal}

theorem Rd.kAlpha {wi : BitVec 32} {bins : FVec Ideal (S2 B (n + 2)) .f32} {mx : FVec Ideal (S2 B 1) .f32} {sdf : FVec Ideal (S2 B (n + 2)) .f32}
    (hT : Rd bins b T) (hM : Rd mx b M) (hS : Rd sdf b S) : Rd (kAlpha wi bins mx sdf) b (alphaRow wi n T M S) := by
  have edges := hT.concat hM (conc2 (n := n + 3) rfl)
  have dist := ((edges.slice (m := n + 2) (o := 1) (slices2 (by omega))).subf (edges.slice0 (m := n + 2) (slices2 (by omega)))).slice0
    (m := n + 1) (slices2 (by omega))
  have prev := hS.slice0 (m := n + 1) (slices2 (by omega))
  have next := hS.slice (m := n + 1) (o := 1) (slices2 (by omega))
  have mid := (prev.addf next).mulf (Rd.kc (w := 0x3F000000#32))
  have cos := (next.subf prev).divf (dist.addf (Rd.kc (w := 0x3727C5AC#32)))
  have clip := (Rd.kc (w := 0x00000000#32)).minimumf ((Rd.kc (w := 0xC47A0000#32)).maximumf
    (((Rd.kc (n := 1) (w := 0x00000000#32)).concat (cos.slice0 (m := n) (slices2 (by omega))) (conc2 (n := n + 1) (by omega))).minimumf cos))
  have half := (clip.mulf dist).mulf (Rd.kc (w := 0x3F000000#32))
  have pc := ((mid.subf half).mulf (Rd.kc (w := wi))).kSig
  have nc := ((mid.addf half).mulf (Rd.kc (w := wi))).kSig
  exact (((pc.subf nc).addf (Rd.kc (w := 0x3727C5AC#32))).divf (pc.addf (Rd.kc (w := 0x3727C5AC#32)))).concat (Rd.kc (n := 1)) (conc2 (n := n + 2) rfl)

theorem Rd.kWeights (hn : 64 ≤ n) (hn' : n ≤ 128) {a : FVec Ideal (S2 B n) .f32} {r : ℕ → EReal} (ha : Rd a b r) :
    Rd (kWeights hn a) b (weightsRow r) := by
  have rest := (Rd.kc (w := 0x3F800000#32)).subf (ha.slice0 (m := n - 1) (slices2 (by omega)))
  have factor := (Rd.kc (n := 1) (w := 0x3F800000#32)).concat rest (conc2 (n := n) (by omega))
  exact (ha.mulf (Rd.kProd hn hn' factor)).addf (Rd.kc (w := 0x3727C5AC#32))

theorem Rd.kPdf {wn : BitVec 32} {w : FVec Ideal (S2 B n) .f32} {r : ℕ → EReal} (hw : Rd w b r) : Rd (kPdf wn w) b (pdfRow wn n r) := by
  have s := hw.rowSum red1 (.inl rfl) scList
  have pad := ((Rd.kc (w := 0x3727C5AC#32)).subf s).maximumf (Rd.kc (w := 0x00000000#32))
  exact (hw.addf ((pad.divf (Rd.kc (w := wn))).spread bcCol)).divf ((s.addf pad).spread bcCol)

theorem Rd.kCdf (hn : 64 ≤ n) (hn' : n ≤ 128) {p : FVec Ideal (S2 B n) .f32} {r : ℕ → EReal} (hp : Rd p b r) : Rd (kCdf hn p) b (cdfRow r) :=
  (Rd.kc (n := 1)).concat ((Rd.kSum hn hn' hp).minimumf (Rd.kc (w := 0x3F800000#32))) (conc2 (n := n + 1) (by omega))

end Cert.Rows
-- ==== Proof.KPick.lean ====
/-
The rows of the kernel's samples and of its merged tables.
-/
module

public import Idealize.ShloMosaic.Lib.MatmulPlain
public import proofs.«01_k».proof.Proof.KRow

@[expose] public section

noncomputable section

namespace Cert.Rows

open Idealize.ShloMosaic Cert.KNet

variable {B n p : ℕ} {b : Fin B}

/-- A choice by the bit of a decision. -/
theorem sel {α : Type} (P : Prop) [Decidable P] (a c : α) : Scalar.select (BitVec.ofBool (decide P)) a c = if P then a else c := by
  unfold Scalar.select
  by_cases h : P <;> simp [h]

/-- The number of a small natural's word. -/
theorem word_num {j : ℕ} (h : j < 2 ^ 31) : (((BitVec.ofNat 32 j).toInt : ℝ) : EReal) = (j : EReal) := by
  have : (BitVec.ofNat 32 j).toInt = (j : Int) := by
    rw [BitVec.toInt_ofNat', Int.bmod_def]
    norm_num at h ⊢
    omega
  rw [this]
  norm_cast

/-- The number of the bit of a decision. -/
theorem bit_num (P : Prop) [Decidable P] : ((((BitVec.ofBool (decide P)).setWidth 32).toInt : ℝ) : EReal) = if P then 1 else 0 := by
  by_cases h : P <;> simp [h]

theorem Rd.kIota (hn : n < 2 ^ 31) : Rd (KNet.kIota B n) b fun j => (j : EReal) := by
  intro j h
  refine Eq.trans ?_ (word_num (h.trans hn))
  show (((BitVec.ofNat 32 (0 * n + j)).toInt : ℝ) : EReal) = _
  rw [Nat.zero_mul, Nat.zero_add]

theorem Rd3.kc {w : BitVec 32} : Rd3 (KNet.kc (S3 B p n) w) b fun _ _ => cw w := fun _ _ _ _ => rfl

/-- A box of one table of one column, repeated. -/
theorem Rd3.boxAll {α : Type} {x : (S3 1 p 1).Idx → α} {r : ℕ → ℕ → α} (hx : Rd3 x 0 r) (hc : (S3 1 p 1).Broadcasts (S3 B p n)) :
    Rd3 (broadcastTo (S3 B p n) x hc) b fun i _ => r i 0 := by
  intro i hi j h
  pointwise
  exact (congrArg (fun c => x (ix3 0 c 0)) (pin ⟨i, hi⟩ (by omega))).trans (hx i hi 0 Nat.one_pos)

/-- A column of a box. -/
theorem Rd3.slice {α : Type} {x : (S3 B p (n + 1)).Idx → α} {r : ℕ → ℕ → α} (hx : Rd3 x b r) (hc : (S3 B p (n + 1)).Slices ![0, 0, n] (S3 B p 1)) :
    Rd3 (extractStridedSlice (S3 B p 1) ![0, 0, n] x hc) b fun i j => r i (n + j) := by
  intro i hi j h
  obtain rfl : j = 0 := by omega
  pointwise
  exact hx i hi n (by omega)

section elementwise
variable {x y : FVec Ideal (S3 B p n) .f32} {r s : ℕ → ℕ → EReal}

theorem Rd3.cmpf {k : CmpFPredicate} (hx : Rd3 x b r) (hy : Rd3 y b s) : Rd3 (cmpf k x y) b fun i j => Ideal.cmp k (r i j) (s i j) :=
  fun i hi j h => congrArg₂ (Ideal.cmp k) (hx i hi j h) (hy i hi j h)

theorem Rd3.mulf (hx : Rd3 x b r) (hy : Rd3 y b s) : Rd3 (mulf x y) b fun i j => r i j * s i j :=
  fun i hi j h => congrArg₂ (fun a c : EReal => a * c) (hx i hi j h) (hy i hi j h)

theorem Rd3.addf (hx : Rd3 x b r) (hy : Rd3 y b s) : Rd3 (addf x y) b fun i j => r i j + s i j :=
  fun i hi j h => congrArg₂ (fun a c : EReal => a + c) (hx i hi j h) (hy i hi j h)

theorem Rd3.maximumf (hx : Rd3 x b r) (hy : Rd3 y b s) : Rd3 (maximumf x y) b fun i j => max (r i j) (s i j) :=
  fun i hi j h => congrArg₂ (fun a c : EReal => max a c) (hx i hi j h) (hy i hi j h)

theorem Rd3.select {M : IVec (S3 B p n) 1} {m : ℕ → ℕ → BitVec 1} (hM : Rd3 M b m) (hx : Rd3 x b r) (hy : Rd3 y b s) :
    Rd3 (select M x y) b fun i j => Scalar.select (m i j) (r i j) (s i j) :=
  fun i hi j h => by
    show Scalar.select (M _) (x _) (y _) = _
    rw [hM i hi j h, hx i hi j h, hy i hi j h]

theorem Rd3.num {M : IVec (S3 B p n) 1} {m : ℕ → ℕ → BitVec 1} (hM : Rd3 M b m) (hw) :
    Rd3 (sitofp (F := Ideal) .f32 (extui 32 M hw)) b fun i j => ((((m i j).setWidth 32).toInt : ℝ) : EReal) :=
  fun i hi j h => congrArg (fun a : BitVec 1 => (((a.setWidth 32).toInt : ℝ) : EReal)) (hM i hi j h)

end elementwise

theorem Rd.select {x y : FVec Ideal (S2 B n) .f32} {r s : ℕ → EReal} {M : IVec (S2 B n) 1} {m : ℕ → BitVec 1} (hM : Rd M b m) (hx : Rd x b r)
    (hy : Rd y b s) : Rd (select M x y) b fun j => Scalar.select (m j) (r j) (s j) :=
  fun j h => by
    show Scalar.select (M _) (x _) (y _) = _
    rw [hM j h, hx j h, hy j h]

theorem Rd.cmpf {x y : FVec Ideal (S2 B n) .f32} {r s : ℕ → EReal} {k : CmpFPredicate} (hx : Rd x b r) (hy : Rd y b s) :
    Rd (cmpf k x y) b fun j => Ideal.cmp k (r j) (s j) :=
  fun j h => congrArg₂ (Ideal.cmp k) (hx j h) (hy j h)

/-- The levels at which the distribution function is inverted. -/
abbrev levelAt (i : ℕ) : EReal := (i : EReal) * cw 0x3D70F0F1#32 + cw 0x3CF0F0F1#32

theorem Rd.kU2 : Rd KNet.kU2 0 levelAt := ((Rd.kIota (by norm_num)).mulf Rd.kc).addf Rd.kc

theorem Rd3.kU3 : Rd3 KNet.kU3 0 fun i _ => levelAt i := by
  intro i hi j h
  refine congrArg (fun a : EReal => a * cw 0x3D70F0F1#32 + cw 0x3CF0F0F1#32) (Eq.trans ?_ (word_num (j := i) (by omega)))
  show (((BitVec.ofNat 32 (0 * 17 + i)).toInt : ℝ) : EReal) = _
  rw [Nat.zero_mul, Nat.zero_add]

/-- The last number of the row, among the first `n + 1`, that is at most the level, by a maximum. -/
abbrev below (n : ℕ) (C E : ℕ → EReal) (u : EReal) : EReal :=
  (Finset.range (n + 1)).fold max (cw 0xFF800000#32) fun j => if C j ≤ u then E j else cw 0x00000000#32

/-- The first number of the row, among the first `n + 1`, that is above the level, by a minimum; the last number if there is none. -/
abbrev above (n : ℕ) (far : BitVec 32) (C E : ℕ → EReal) (u : EReal) : EReal :=
  if C n ≤ u then E n else (Finset.range (n + 1)).fold min (cw 0x7F800000#32) fun j => if C j ≤ u then cw far else E j

/-- A sample between two neighbours. -/
abbrev between (u c0 c1 e0 e1 : EReal) : EReal :=
  e0 + min (cw 0x3F800000#32) (max (cw 0x00000000#32) (Ideal.div (u - c0) (c1 - c0))) * (e1 - e0)

theorem Rd.kSample {cdf ex : FVec Ideal (S2 B (n + 1)) .f32} {C E : ℕ → EReal} (hC : Rd cdf b C) (hE : Rd ex b E) :
    Rd (KNet.kSample 17 KNet.kU3 KNet.kU2 cdf ex) b fun i =>
      between (levelAt i) (below n C C (levelAt i)) (above n 0x40000000#32 C C (levelAt i)) (below n C E (levelAt i)) (above n 0x7149F2CA#32 C E (levelAt i)) := by
  have M : Rd3 (kMask 17 KNet.kU3 cdf) b fun i j => Ideal.cmp .ole (C j) (levelAt i) :=
    Rd3.cmpf ((hC.box scBox).down bcDown) (Rd3.kU3.boxAll bcBox)
  have cd := ((hC.box scBox).self scSelf).down (p := 17) bcDown
  have ed := ((hE.box scBox).self scSelf).down (p := 17) bcDown
  have c0 := (M.select cd (Rd3.kc (w := 0x00000000#32))).maxAcross red3 (.inl rfl)
  have e0 := (M.select ed (Rd3.kc (w := 0x00000000#32))).maxAcross red3 (.inl rfl)
  have c1 := (M.select (Rd3.kc (w := 0x40000000#32)) cd).minAcross red3 (.inl rfl)
  have e1 := (M.select (Rd3.kc (w := 0x7149F2CA#32)) ed).minAcross red3 (.inl rfl)
  have all := (M.slice slices3).uncol scUncol
  have cl := ((hC.slice (o := n) (m := 1) (slices2 (by omega))).self2 scSelf).spread (n := 17) bcCol
  have el := ((hE.slice (o := n) (m := 1) (slices2 (by omega))).self2 scSelf).spread (n := 17) bcCol
  have c1' := Rd.select all cl c1
  have e1' := Rd.select all el e1
  have raw := ((Rd.kU2.repeatRow (b := b) bcRow).subf c0).divf (c1'.subf c0)
  have raw' := Rd.select (Rd.cmpf (k := .one) raw raw) (Rd.kc (w := 0x00000000#32)) raw
  have ts := (Rd.kc (w := 0x3F800000#32)).minimumf ((Rd.kc (w := 0x00000000#32)).maximumf raw')
  have res := e0.addf (ts.mulf (e1'.subf e0))
  have done := res.congr (s := fun i => between (levelAt i) (below n C C (levelAt i)) (above n 0x40000000#32 C C (levelAt i))
    (below n C E (levelAt i)) (above n 0x7149F2CA#32 C E (levelAt i))) (fun i _ => by
      simp only [Ideal.cmp, sel, Nat.add_zero, ne_eq, not_true_eq_false, if_false])
  unfold KNet.kSample
  exact done

theorem Rd3.congr {x : FVec Ideal (S3 B p n) .f32} {r s : ℕ → ℕ → EReal} (h : Rd3 x b r) (e : ∀ i, i < p → ∀ j, j < n → r i j = s i j) : Rd3 x b s :=
  fun i hi j hj => (h i hi j hj).trans (e i hi j hj)

section places
variable {k : ℕ} {bins : FVec Ideal (S2 B n) .f32} {new : FVec Ideal (S2 B k) .f32} {T X : ℕ → EReal}

theorem Rd3.kLess (hT : Rd bins b T) (hX : Rd new b X) : Rd3 (KNet.kLess bins new) b fun i j => if X i < T j then 1 else 0 :=
  ((Rd3.cmpf (k := .olt) ((hX.col scCol).across bcAcross) ((hT.box scBox).down bcDown)).num (by decide)).congr
    fun i _ j _ => bit_num (X i < T j)

theorem Rd.kPosOld (hn : n < 2 ^ 31) (hT : Rd bins b T) (hX : Rd new b X) :
    Rd (KNet.kPosOld bins new) b fun j => (j : EReal) + ∑ i ∈ Finset.range k, if X i < T j then 1 else 0 :=
  (Rd.kIota hn).addf ((Rd3.kLess hT hX).sumDown red2 (.inl rfl))

theorem Rd.kPosNew (hk : k < 2 ^ 31) {wn : BitVec 32} (hT : Rd bins b T) (hX : Rd new b X) :
    Rd (KNet.kPosNew wn bins new) b fun i => (i : EReal) + (cw wn - ∑ j ∈ Finset.range n, if X i < T j then 1 else 0) :=
  (Rd.kIota hk).addf (Rd.kc.subf ((Rd3.kLess hT hX).sumAcross red3 (.inl rfl)))

end places

section shifts

/-- The rows moved by `s`, kept where the wanted shift is `s`. -/
abbrev shifted (old c : ℕ → EReal) (p s : ℕ) : EReal :=
  if cat s (fun _ => cw 0xBF800000#32) c p = cw (kWord s) then cat s (fun _ => cw 0x00000000#32) old p else cw 0x00000000#32

theorem Rd.kShift {w : BitVec 32} {s : ℕ} (h : s ≤ n) {x : FVec Ideal (S2 B n) .f32} {r : ℕ → EReal} (hx : Rd x b r) :
    Rd (KNet.kShift w s h x) b (cat s (fun _ => cw w) r) :=
  (Rd.kc (n := s) (w := w)).concat (hx.slice0 (slices2 (by omega))) (conc2 (by omega))

theorem Rd.kShifts {old c : FVec Ideal (S2 B n) .f32} {O D : ℕ → EReal} (hO : Rd old b O) (hc : Rd c b D) (s : ℕ) (h : s ≤ n) :
    Rd (KNet.kShifts old c s h) b fun p => ∑ i ∈ Finset.range (s + 1), shifted O D p i := by
  induction s with
  | zero =>
    have := (Rd.kc (w := 0x00000000#32)).addf (Rd.select (Rd.cmpf (k := .oeq) hc (Rd.kc (w := kWord 0))) hO (Rd.kc (w := 0x00000000#32)))
    unfold KNet.kShifts
    refine this.congr fun p _ => ?_
    simp only [Ideal.cmp, sel, zero_add, Finset.sum_range_one, shifted, cat, Nat.not_lt_zero, if_false, Nat.sub_zero]
    rw [cw_zero, zero_add]
  | succ s ih =>
    have := (ih (by omega)).addf (Rd.select (Rd.cmpf (k := .oeq) (Rd.kShift (w := 0xBF800000#32) h hc) (Rd.kc (w := kWord (s + 1))))
      (Rd.kShift (w := 0x00000000#32) h hO) (Rd.kc (w := 0x00000000#32)))
    unfold KNet.kShifts
    refine this.congr fun p _ => ?_
    simp only [Ideal.cmp, sel]
    rw [Finset.sum_range_succ _ (s + 1)]

/-- The numbers of the last axis of a box. -/
theorem Rd3.num2 (hn : n < 2 ^ 31) : Rd3 (sitofp (F := Ideal) .f32 (iota .tc (S3 B p n) 32 [2] iota3)) b fun _ j => (j : EReal) := by
  intro i _ j h
  refine Eq.trans ?_ (word_num (h.trans hn))
  show (((BitVec.ofNat 32 (0 * n + j)).toInt : ℝ) : EReal) = _
  rw [Nat.zero_mul, Nat.zero_add]

theorem Rd.kScatter (hn : n + 16 < 2 ^ 31) {old : FVec Ideal (S2 B n) .f32} {new : FVec Ideal (S2 B 16) .f32} {po : FVec Ideal (S2 B n) .f32}
    {pn : FVec Ideal (S2 B 16) .f32} {O N PO PN : ℕ → EReal} (hO : Rd old b O) (hN : Rd new b N) (hPO : Rd po b PO) (hPN : Rd pn b PN) :
    Rd (KNet.kScatter old new po pn) b fun p =>
      (∑ s ∈ Finset.range 17, shifted (cat n O fun _ => cw 0x00000000#32) (cat n (fun j => PO j - (j : EReal)) fun _ => cw 0xBF800000#32) p s)
        + ∑ i ∈ Finset.range 16, (if PN i = (p : EReal) then 1 else 0) * N i := by
  have padO := hO.concat (Rd.kc (n := 16) (w := 0x00000000#32)) (conc2 (n := n + 16) rfl)
  have padC := (hPO.subf (Rd.kIota (B := B) (b := b) (n := n) (by omega))).concat (Rd.kc (n := 16) (w := 0xBF800000#32)) (conc2 (n := n + 16) rfl)
  have sh := Rd.kShifts padO padC 16 (by omega)
  have hot := ((Rd3.cmpf (k := .oeq) ((hPN.col scCol).across bcAcross) (Rd3.num2 (B := B) (p := 16) (b := b) hn)).num (by decide)).congr
    fun i _ j _ => bit_num (PN i = (j : EReal))
  exact sh.addf ((hot.mulf ((hN.col scCol).across bcAcross)).sumDown red2 (.inl rfl))

end shifts

section network
variable {K N : ℕ}

theorem Rd.mm {R : ℕ} {r : Fin R} {x : FVec Ideal (S2 R K) .f32} {w : FVec Ideal (S2 K N) .f32} {X : ℕ → EReal} {W : ℕ → ℕ → EReal} (hx : Rd x r X)
    (hw : ∀ k : Fin K, Rd w k (W k)) :
    Rd (matmul (DotDims.plain R K N) none x w (constant (F := Ideal) (S2 R N) .f32 0x00000000#32)) r fun c => ∑ k ∈ Finset.range K, X k * W k c := by
  intro c hc
  show _ = ∑ k ∈ Finset.range K, X k * W k c
  rw [Finset.sum_range]
  refine (Ideal.matmul_plain_apply none x w (constant (F := Ideal) (S2 R N) .f32 0x00000000#32) r ⟨c, hc⟩).trans ?_
  refine (congrArg (fun a : EReal => a + _) Ideal.ofBits_zero_f32).trans ((zero_add _).trans ?_)
  exact Finset.sum_congr rfl fun k _ => congrArg₂ (fun a c : EReal => a * c) (hx k.1 k.2) (hw k c hc)

/-- The row of a flat table that holds entry `j` of row `b` of a box. -/
theorem row_lt (b : Fin B) {j : ℕ} (h : j < n) : b.1 * n + j < B * n := by
  have := Nat.mul_le_mul_right n b.2
  rw [Nat.succ_mul] at this
  omega

theorem Rd3.flat {α : Type} {x : (S3 B n K).Idx → α} {X : ℕ → ℕ → α} (hx : Rd3 x b X) (hc : (S3 B n K).ShapeCasts (S2 (B * n) K)) {j : ℕ} (h : j < n) :
    Rd (shapeCast (S2 (B * n) K) x hc) ⟨b.1 * n + j, row_lt b h⟩ (X j) := by
  intro c hk
  refine (shapeCast_at x hc _ (ix3 b ⟨j, h⟩ ⟨c, hk⟩) ?_).trans (hx j h c hk)
  rw [Shape.rowMajor_val_two, Shape.rowMajor_val_three]
  simp

theorem Rd.table {α : Type} {x : (S2 (B * n) 1).Idx → α} {X : ℕ → ℕ → α} (hx : ∀ j (h : j < n), Rd x ⟨b.1 * n + j, row_lt b h⟩ (X j))
    (hc : (S2 (B * n) 1).ShapeCasts (S2 B n)) : Rd (shapeCast (S2 B n) x hc) b fun j => X j 0 := by
  intro j h
  refine (shapeCast_at x hc _ (ix2 ⟨b.1 * n + j, row_lt b h⟩ 0) ?_).trans (hx j h 0 Nat.one_pos)
  rw [Shape.rowMajor_val_two, Shape.rowMajor_val_two]
  simp

theorem Rd.thereAndBack {α : Type} {x : (S2 1 n).Idx → α} {r : ℕ → α} (hx : Rd x 0 r) (h : (S2 1 n).ShapeCasts (S1 n)) (h' : (S1 n).ShapeCasts (S2 1 n)) :
    Rd (shapeCast (S2 1 n) (shapeCast (S1 n) x h) h') 0 r := by
  intro j hj
  refine (shapeCast_at _ h' _ (ix1 ⟨j, hj⟩) ?_).trans ((shapeCast_at x h _ (ix2 0 ⟨j, hj⟩) ?_).trans (hx j hj)) <;>
  · rw [Shape.rowMajor_val_two, Shape.rowMajor_val_one]
    simp

variable {o d : FVec Ideal (S2 B 3) .f32} {W1 : FVec Ideal (S2 3 128) .f32} {b1 : FVec Ideal (S2 1 128) .f32} {W2 : FVec Ideal (S2 128 1) .f32}
  {b2 : Ideal .f32} {t : FVec Ideal (S2 B n) .f32} {O D b1' r : ℕ → EReal} {W1' W2' : ℕ → ℕ → EReal}

theorem Rd.kSdf (ho : Rd o b O) (hd : Rd d b D) (hW1 : ∀ k, Rd W1 k (W1' k)) (hb1 : Rd b1 0 b1') (hW2 : ∀ k, Rd W2 k (W2' k)) (ht : Rd t b r) :
    Rd (KNet.kSdf o d W1 b1 W2 b2 t) b fun j => sdfAt O D W1' b1' W2' b2 (r j) := by
  have P := ((ho.box scBox).down (p := n) bcDown).addf ((((ht.col scCol).across (n := 3) bcAcross)).mulf ((hd.box scBox).down (p := n) bcDown))
  have H := fun j (h : j < n) => ((((Rd.mm (P.flat scFlat h) hW1).addf ((hb1.thereAndBack scRow scRow').repeatRow bcRow)).maximumf
    (Rd.kc (w := 0x00000000#32))).mm (N := 1) hW2)
  exact (Rd.table H scTable).addf (Rd.const (c := b2))

end network

end Cert.Rows
-- ==== Proof.Merge.lean ====
/-
Two sorted lists merged by counting: the place of each entry, and the stable sort of both lists together.
-/
module

public import Idealize.ShloMosaic.Lib.SortFacts
public import proofs.«01_k».proof.Proof.KPick

@[expose] public section

noncomputable section

namespace Cert.Rows

open Idealize.ShloMosaic

/-! ### The stable sort puts the entries in order of number, then of place -/

section sort
variable {n : ℕ} (X : Fin n → EReal)

/-- Smaller, or as large and earlier. -/
def Before (a c : Fin n) : Prop := X a < X c ∨ X a = X c ∧ a < c

theorem insert_before (a : Fin n) (l : List (Fin n)) (ha : ∀ c ∈ l, a < c) (hl : l.Pairwise (Before X)) :
    (insertBefore (fun x y => decide (X x < X y)) a l).Pairwise (Before X) := by
  induction l with
  | nil => simp [insertBefore]
  | cons c l ih =>
    obtain ⟨hc, hl'⟩ := List.pairwise_cons.1 hl
    unfold insertBefore
    split
    · next h =>
      have h := of_decide_eq_true h
      refine List.pairwise_cons.2 ⟨fun e he => ?_, ih (fun e he => ha e (List.mem_cons_of_mem _ he)) hl'⟩
      rcases List.mem_cons.1 ((perm_insertBefore _ a l).mem_iff.1 he) with rfl | he
      · exact .inl h
      · exact hc e he
    · next h =>
      have h : X a ≤ X c := le_of_not_gt fun h' => h (decide_eq_true h')
      refine List.pairwise_cons.2 ⟨fun e he => ?_, hl⟩
      have le : X c ≤ X e := by
        rcases List.mem_cons.1 he with rfl | he
        · exact le_rfl
        · rcases hc e he with h | h
          · exact h.le
          · exact h.1.le
      rcases (h.trans le).lt_or_eq with h' | h'
      · exact .inl h'
      · exact .inr ⟨h', ha e he⟩

theorem sort_before (l : List (Fin n)) (hl : l.Pairwise (· < ·)) : (stableSort (fun x y => decide (X x < X y)) l).Pairwise (Before X) := by
  induction l with
  | nil => simp [stableSort]
  | cons a l ih =>
    obtain ⟨ha, hl'⟩ := List.pairwise_cons.1 hl
    unfold stableSort
    exact insert_before X a _ (fun c hc => ha c ((perm_stableSort _ l).mem_iff.1 hc)) (ih hl')

theorem sorted_before {i j : Fin n} (h : i < j) :
    Before X (sortedFrom (fun x y => decide (X x < X y)) i) (sortedFrom (fun x y => decide (X x < X y)) j) := by
  have := List.pairwise_iff_get.1 (sort_before X (List.finRange n) (List.pairwise_lt_finRange n))
  exact this _ _ h

theorem sorted_before_iff {i j : Fin n} :
    Before X (sortedFrom (fun x y => decide (X x < X y)) i) (sortedFrom (fun x y => decide (X x < X y)) j) ↔ i < j := by
  refine ⟨fun h => ?_, sorted_before X⟩
  by_contra hn
  rcases (not_lt.1 hn).lt_or_eq with h' | rfl
  · rcases h with h | h <;> rcases sorted_before X h' with h' | h'
    · exact absurd (h.trans h') (lt_irrefl _)
    · exact absurd h'.1.symm h.ne
    · exact absurd h.1.symm h'.ne
    · exact absurd (h.2.trans h'.2) (lt_irrefl _)
  · rcases h with h | h
    · exact absurd h (lt_irrefl _)
    · exact absurd h.2 (lt_irrefl _)

open Classical in
/-- How many entries come before entry `q`. -/
def rank (q : Fin n) : ℕ := ∑ a : Fin n, if Before X a q then 1 else 0

theorem rank_sorted (i : Fin n) : rank X (sortedFrom (fun x y => decide (X x < X y)) i) = i.val := by
  classical
  unfold rank
  have bij : Function.Bijective (sortedFrom fun x y => decide (X x < X y)) := ⟨sortedFrom_injective _, sortedFrom_surjective _⟩
  rw [← Equiv.sum_comp (Equiv.ofBijective _ bij)]
  simp only [Equiv.ofBijective_apply, sorted_before_iff]
  rw [← Finset.card_filter]
  have : (Finset.univ.filter fun a : Fin n => a < i) = Finset.Iio i := by ext; simp
  rw [this, Fin.card_Iio]

theorem rank_eq_iff (q i : Fin n) : rank X q = i.val ↔ q = sortedFrom (fun x y => decide (X x < X y)) i := by
  constructor
  · intro h
    obtain ⟨j, rfl⟩ := sortedFrom_surjective (fun x y => decide (X x < X y)) q
    rw [rank_sorted] at h
    rw [Fin.ext h]
  · rintro rfl
    exact rank_sorted X i

end sort

/-! ### The places by counting -/

section places
variable (n k : ℕ) (T X : ℕ → EReal)

/-- How many of the new entries are before old entry `j`. -/
abbrev newBefore (j : ℕ) : ℕ := ((Finset.range k).filter fun i => X i < T j).card

/-- How many of the old entries are after new entry `i`. -/
abbrev oldAfter (i : ℕ) : ℕ := ((Finset.range n).filter fun j => X i < T j).card

/-- The place of entry `q` of both lists. -/
def place (q : ℕ) : ℕ := if q < n then q + newBefore k T X q else (q - n) + (n - oldAfter n T X (q - n))

variable {n k T X}

/-- The entries of both lists. -/
abbrev both (n k : ℕ) (T X : ℕ → EReal) : Fin (n + k) → EReal := fun q => cat n T X q.val

/-- The place of an entry is the number of entries before it. -/
theorem place_rank (hT : ∀ i j, i ≤ j → j < n → T i ≤ T j) (hX : ∀ i j, i ≤ j → j < k → X i ≤ X j) (q : Fin (n + k)) :
    place n k T X q.val = rank (both n k T X) q := by
  classical
  unfold rank
  have two : ∀ a : Fin (n + k), (Before (both n k T X) a q) ↔ (cat n T X a.val < cat n T X q.val ∨ cat n T X a.val = cat n T X q.val ∧ a.val < q.val) :=
    fun _ => Iff.rfl
  simp only [two]
  rw [← Finset.sum_range (fun a => if cat n T X a < cat n T X q.val ∨ cat n T X a = cat n T X q.val ∧ a < q.val then 1 else 0), Finset.sum_range_add]
  have left : ∀ a ∈ Finset.range n, cat n T X a = T a := fun a ha => if_pos (Finset.mem_range.1 ha)
  have right : ∀ i, cat n T X (n + i) = X i := fun i => by rw [cat, if_neg (by omega), Nat.add_sub_cancel_left]
  unfold place
  split
  · next h =>
    have hq : cat n T X q.val = T q.val := if_pos h
    rw [hq]
    congr 1
    · rw [← Finset.card_filter]
      have : (Finset.range n).filter (fun a => cat n T X a < T q.val ∨ cat n T X a = T q.val ∧ a < q.val) = Finset.range q.val := by
        ext a
        simp only [Finset.mem_filter, Finset.mem_range]
        constructor
        · rintro ⟨ha, hl⟩
          rw [left a (Finset.mem_range.2 ha)] at hl
          by_contra hn
          have := hT q.val a (by omega) ha
          rcases hl with hl | hl
          · exact absurd hl (not_lt.2 this)
          · exact hn hl.2
        · intro ha
          refine ⟨by omega, ?_⟩
          rw [left a (Finset.mem_range.2 (by omega))]
          rcases (hT a q.val ha.le h).lt_or_eq with h' | h'
          · exact .inl h'
          · exact .inr ⟨h', ha⟩
      rw [this, Finset.card_range]
    · rw [newBefore, Finset.card_filter]
      refine Finset.sum_congr rfl fun i _ => ?_
      rw [right]
      refine if_congr ⟨fun h' => .inl h', fun h' => h'.resolve_right fun h' => ?_⟩ rfl rfl
      omega
  · next h =>
    have hi : q.val - n < k := by have := q.isLt; omega
    have hq : cat n T X q.val = X (q.val - n) := if_neg h
    rw [hq, add_comm]
    congr 1
    · have e := Finset.card_filter_add_card_filter_not (s := Finset.range n) (fun j => X (q.val - n) < T j)
      rw [Finset.card_range] at e
      have : n - oldAfter n T X (q.val - n) = ((Finset.range n).filter fun j => ¬ X (q.val - n) < T j).card := by
        rw [oldAfter]
        omega
      rw [this, Finset.card_filter]
      refine Finset.sum_congr rfl fun a ha => ?_
      rw [left a ha]
      have := Finset.mem_range.1 ha
      refine if_congr ⟨fun h' => ?_, fun h' => ?_⟩ rfl rfl
      · rcases (not_lt.1 h').lt_or_eq with h' | h'
        · exact .inl h'
        · exact .inr ⟨h', by omega⟩
      · rcases h' with h' | h'
        · exact not_lt.2 h'.le
        · exact not_lt.2 h'.1.le
    · rw [← Finset.card_filter]
      have : (Finset.range k).filter (fun a => cat n T X (n + a) < X (q.val - n) ∨ cat n T X (n + a) = X (q.val - n) ∧ n + a < q.val)
          = Finset.range (q.val - n) := by
        ext a
        simp only [Finset.mem_filter, Finset.mem_range, right]
        constructor
        · rintro ⟨ha, hl⟩
          by_contra hn
          have := hX (q.val - n) a (by omega) ha
          rcases hl with hl | hl
          · exact absurd hl (not_lt.2 this)
          · omega
        · intro ha
          refine ⟨by omega, ?_⟩
          rcases (hX a (q.val - n) ha.le hi).lt_or_eq with h' | h'
          · exact .inl h'
          · exact .inr ⟨h', by omega⟩
      rw [this, Finset.card_range]

end places

/-! ### Values moved to their places -/

section values
variable {n : ℕ} {T X : ℕ → EReal}

theorem nat_eq {a c : ℕ} : ((a : EReal) = (c : EReal)) ↔ a = c := by
  exact_mod_cast Iff.rfl

theorem nat_sub_left (a c : ℕ) : ((a : EReal) + (c : EReal)) - (a : EReal) = (c : EReal) := by
  have : (((a : ℝ) + (c : ℝ) - (a : ℝ) : ℝ) : EReal) = ((c : ℝ) : EReal) := by rw [add_sub_cancel_left]
  simpa only [EReal.coe_sub, EReal.coe_add, EReal.coe_coe_eq_natCast] using this

theorem nat_sub_le {a c : ℕ} (h : c ≤ a) : (a : EReal) - (c : EReal) = ((a - c : ℕ) : EReal) := by
  have : (((a : ℝ) - (c : ℝ) : ℝ) : EReal) = (((a - c : ℕ) : ℝ) : EReal) := by rw [Nat.cast_sub h]
  simpa only [EReal.coe_sub, EReal.coe_coe_eq_natCast] using this

theorem count_cast (m : ℕ) (P : ℕ → Prop) [DecidablePred P] : (∑ i ∈ Finset.range m, if P i then (1 : EReal) else 0) = (((Finset.range m).filter P).card : EReal) := by
  rw [Finset.card_filter]
  push_cast
  exact Finset.sum_congr rfl fun i _ => by split <;> simp

theorem cw_negOne : cw 0xBF800000#32 = ((-1 : ℝ) : EReal) := by
  simp [cw, Ideal.ofBits, Ideal.ieee]
  rw [← EReal.coe_mul]
  norm_num

theorem cw_word {s : ℕ} (h : s ≤ 16) : cw (KNet.kWord s) = (s : EReal) := by
  interval_cases s <;> simp [cw, KNet.kWord, Ideal.ofBits, Ideal.ieee] <;> rw [← EReal.coe_mul] <;> norm_num <;> rfl

theorem negOne_ne {s : ℕ} : ¬ (cw 0xBF800000#32 = (s : EReal)) := by
  rw [cw_negOne]
  intro h
  have : (-1 : ℝ) = (s : ℝ) := by exact_mod_cast h
  have : (0 : ℝ) ≤ s := Nat.cast_nonneg s
  linarith

/-- The values of both lists at the places of their entries, as the kernel adds them up. -/
abbrev scattered (n : ℕ) (wn : BitVec 32) (T X O N : ℕ → EReal) (p : ℕ) : EReal :=
  (∑ s ∈ Finset.range 17, shifted (cat n O fun _ => cw 0x00000000#32)
      (cat n (fun j => ((j : EReal) + ∑ i ∈ Finset.range 16, if X i < T j then 1 else 0) - (j : EReal)) fun _ => cw 0xBF800000#32) p s)
    + ∑ i ∈ Finset.range 16, (if ((i : EReal) + (cw wn - ∑ j ∈ Finset.range n, if X i < T j then 1 else 0)) = (p : EReal) then 1 else 0) * N i

/-- The kernel's sum at a place is the value of the entry that belongs there. -/
theorem scattered_eq {wn : BitVec 32} (hw : cw wn = (n : EReal)) (hT : ∀ i j, i ≤ j → j < n → T i ≤ T j) (hX : ∀ i j, i ≤ j → j < 16 → X i ≤ X j)
    (O N : ℕ → EReal) (p : Fin (n + 16)) :
    scattered n wn T X O N p.val = cat n O N (sortedFrom (fun a c : Fin (n + 16) => decide (cat n T X a.val < cat n T X c.val)) p).val := by
  set q := sortedFrom (fun a c : Fin (n + 16) => decide (cat n T X a.val < cat n T X c.val)) p with hq
  have key : ∀ a, a < n + 16 → (place n 16 T X a = p.val ↔ a = q.val) := fun a ha => by
    have := rank_eq_iff (both n 16 T X) ⟨a, ha⟩ p
    rw [← place_rank hT hX] at this
    rw [this]
    exact Fin.ext_iff
  have old : ∀ s ∈ Finset.range 17, shifted (cat n O fun _ => cw 0x00000000#32)
      (cat n (fun j => ((j : EReal) + ∑ i ∈ Finset.range 16, if X i < T j then 1 else 0) - (j : EReal)) fun _ => cw 0xBF800000#32) p.val s
      = if s ≤ p.val ∧ p.val - s = q.val ∧ q.val < n then O q.val else 0 := by
    intro s hs
    have hs' : s ≤ 16 := Nat.lt_succ_iff.1 (Finset.mem_range.1 hs)
    unfold shifted
    rw [cw_word hs']
    by_cases h1 : p.val < s
    · have : cat s (fun _ => cw 0xBF800000#32) (cat n (fun j => ((j : EReal) + ∑ i ∈ Finset.range 16, if X i < T j then 1 else 0) - (j : EReal))
          fun _ => cw 0xBF800000#32) p.val = cw 0xBF800000#32 := if_pos h1
      rw [this, if_neg negOne_ne, if_neg (by omega), cw_zero]
    · rw [show ∀ g h : ℕ → EReal, cat s g h p.val = h (p.val - s) from fun g h => if_neg h1, show ∀ g h : ℕ → EReal, cat s g h p.val = h (p.val - s) from fun g h => if_neg h1]
      by_cases h2 : p.val - s < n
      · rw [show ∀ g h : ℕ → EReal, cat n g h (p.val - s) = g (p.val - s) from fun g h => if_pos h2, show ∀ g h : ℕ → EReal, cat n g h (p.val - s) = g (p.val - s) from fun g h => if_pos h2, count_cast, nat_sub_left]
        have e : place n 16 T X (p.val - s) = (p.val - s) + newBefore 16 T X (p.val - s) := if_pos h2
        have iff1 := key (p.val - s) (by omega)
        rw [e] at iff1
        by_cases h3 : newBefore 16 T X (p.val - s) = s
        · have h4 : p.val - s = q.val := iff1.1 (by omega)
          rw [if_pos (nat_eq.2 h3), if_pos ⟨by omega, h4, by omega⟩, h4]
        · rw [if_neg (fun h => h3 (nat_eq.1 h)), if_neg fun h => h3 (by have := iff1.2 h.2.1; omega), cw_zero]
      · rw [cat, if_neg h2, if_neg negOne_ne, if_neg (by omega), cw_zero]
  have new : ∀ i ∈ Finset.range 16, (if ((i : EReal) + (cw wn - ∑ j ∈ Finset.range n, if X i < T j then 1 else 0)) = (p.val : EReal) then 1 else 0) * N i
      = if n + i = q.val then N i else 0 := by
    intro i hi
    have hi := Finset.mem_range.1 hi
    have le : oldAfter n T X i ≤ n := (Finset.card_filter_le _ _).trans (Finset.card_range n).le
    have e : place n 16 T X (n + i) = i + (n - oldAfter n T X i) := by
      rw [place, if_neg (by omega), Nat.add_sub_cancel_left]
    have iff1 := key (n + i) (by omega)
    rw [e] at iff1
    rw [count_cast, hw, nat_sub_le le, ← Nat.cast_add]
    by_cases h : i + (n - oldAfter n T X i) = p.val
    · rw [if_pos (nat_eq.2 h), if_pos (iff1.1 h), one_mul]
    · rw [if_neg (fun h' => h (nat_eq.1 h')), if_neg (fun h' => h (iff1.2 h')), zero_mul]
  rw [scattered, Finset.sum_congr rfl old, Finset.sum_congr rfl new]
  have back := (key q.val q.isLt).2 rfl
  by_cases hn : q.val < n
  · have e : q.val + newBefore 16 T X q.val = p.val := (if_pos hn).symm.trans back
    have le : newBefore 16 T X q.val ≤ 16 := (Finset.card_filter_le _ _).trans (Finset.card_range 16).le
    rw [Finset.sum_eq_single (newBefore 16 T X q.val), if_pos ⟨by omega, by omega, hn⟩, Finset.sum_eq_zero, add_zero, cat, if_pos hn]
    · intro i _
      exact if_neg (by omega)
    · intro s _ hs
      exact if_neg (by omega)
    · intro hs
      exact absurd (Finset.mem_range.2 (by omega)) hs
  · have hi : q.val - n < 16 := by have := q.isLt; omega
    rw [Finset.sum_eq_zero fun s _ => if_neg (by omega), zero_add, Finset.sum_eq_single (q.val - n), if_pos (by omega), cat, if_neg hn]
    · intro i _ hne
      exact if_neg (by omega)
    · intro h
      exact absurd (Finset.mem_range.2 hi) h

/-- The entries of both lists in sorted order. -/
theorem sorted_le (X : ℕ → EReal) {i j : Fin n} (h : i ≤ j) :
    X (sortedFrom (fun a c : Fin n => decide (X a.val < X c.val)) i).val ≤ X (sortedFrom (fun a c : Fin n => decide (X a.val < X c.val)) j).val := by
  rcases h.lt_or_eq with h | rfl
  · rcases sorted_before (fun a : Fin n => X a.val) h with h | h
    · exact h.le
    · exact h.1.le
  · exact le_rfl

end values

end Cert.Rows
-- ==== Proof.Bounds.lean ====
/-
One round's distribution function is a rising function between zero and one, and the product of its factors is the exponential of the sum of their logarithms.
-/
module

public import proofs.«01_k».proof.Proof.Formulas
public import Mathlib.Data.EReal.Inv

@[expose] public section

noncomputable section

namespace Cert.Rows

open Idealize.ShloMosaic

/-- The first `n` numbers of a row do not fall and lie between zero and one. -/
structure Climb (n : ℕ) (T : ℕ → EReal) : Prop where
  le : ∀ i j, i ≤ j → j < n → T i ≤ T j
  zero : ∀ j, j < n → 0 ≤ T j
  one : ∀ j, j < n → T j ≤ 1

/-- A number between zero and one. -/
abbrev Part (x : EReal) : Prop := ∃ r : ℝ, 0 ≤ r ∧ r ≤ 1 ∧ x = (r : EReal)

theorem part {x : EReal} (h0 : 0 ≤ x) (h1 : x ≤ 1) : Part x := by
  induction x with
  | bot => exact absurd h0 (by simp)
  | top => exact absurd (top_le_iff.1 h1) (by exact_mod_cast EReal.coe_ne_top 1)
  | coe r => exact ⟨r, by exact_mod_cast h0, by exact_mod_cast h1, rfl⟩

theorem div_real (a : ℝ) {c : ℝ} (hc : c ≠ 0) : Ideal.div (a : EReal) (c : EReal) = ((a / c : ℝ) : EReal) := by
  have : (c : EReal) ≠ 0 := by exact_mod_cast hc
  rw [Ideal.div, if_neg this, ← EReal.coe_inv, ← EReal.coe_mul, div_eq_mul_inv]

theorem sum_real (p : ℕ → ℝ) (m : ℕ) : (∑ i ∈ Finset.range m, (p i : EReal)) = ((∑ i ∈ Finset.range m, p i : ℝ) : EReal) := by
  induction m with
  | zero => simp
  | succ m ih => rw [Finset.sum_range_succ, ih, Finset.sum_range_succ, EReal.coe_add]

theorem min_real (a c : ℝ) : min (a : EReal) (c : EReal) = ((min a c : ℝ) : EReal) := (EReal.coe_strictMono.monotone.map_min).symm
theorem max_real (a c : ℝ) : max (a : EReal) (c : EReal) = ((max a c : ℝ) : EReal) := (EReal.coe_strictMono.monotone.map_max).symm

theorem cw_eps : ∃ e : ℝ, 0 < e ∧ cw 0x3727C5AC#32 = (e : EReal) :=
  ⟨10995116 / 2 ^ 40, by norm_num, by
    simp [cw, Ideal.ofBits, Ideal.ieee]
    rw [← EReal.coe_mul]
    norm_num⟩

theorem cw_half : cw 0x3F000000#32 = ((1 / 2 : ℝ) : EReal) := by
  simp [cw, Ideal.ofBits, Ideal.ieee]
  rw [← EReal.coe_mul]
  norm_num

theorem cw_floor : cw 0xC47A0000#32 = ((-1000 : ℝ) : EReal) := by
  simp [cw, Ideal.ofBits, Ideal.ieee]
  rw [← EReal.coe_mul]
  norm_num

/-! ### The logistic function -/

theorem sig_real (r : ℝ) : sig (r : EReal) = ((1 / (1 + Real.exp (-r)) : ℝ) : EReal) := by
  have pos : 1 + Real.exp (-r) ≠ 0 := (add_pos one_pos (Real.exp_pos _)).ne'
  have e : Ideal.exp (-(r : EReal)) = ((Real.exp (-r) : ℝ) : EReal) := rfl
  rw [sig, cw_one, e, ← EReal.coe_one, ← EReal.coe_add, div_real _ pos]

theorem sig_bot : sig ⊥ = 0 := by
  have e : Ideal.exp (-⊥ : EReal) = ⊤ := rfl
  have t : (1 : EReal) + ⊤ = ⊤ := by exact_mod_cast EReal.coe_add_top 1
  rw [sig, cw_one, e, t, Ideal.div, if_neg (by simp)]
  simp

theorem sig_top : sig ⊤ = 1 := by
  have e : Ideal.exp (-⊤ : EReal) = 0 := rfl
  rw [sig, cw_one, e, add_zero, ← EReal.coe_one, div_real _ one_ne_zero, div_one]

theorem sig_part (x : EReal) : Part (sig x) := by
  induction x with
  | bot => exact ⟨0, le_rfl, zero_le_one, by rw [sig_bot]; rfl⟩
  | top => exact ⟨1, zero_le_one, le_rfl, by rw [sig_top]; rfl⟩
  | coe r =>
    have pos := Real.exp_pos (-r)
    refine ⟨_, by positivity, ?_, sig_real r⟩
    rw [div_le_one (by positivity)]
    linarith

theorem sig_mono {x y : EReal} (h : x ≤ y) : sig x ≤ sig y := by
  induction x with
  | bot =>
    obtain ⟨r, h0, _, e⟩ := sig_part y
    rw [sig_bot, e]
    exact_mod_cast h0
  | top => rw [top_le_iff.1 h]
  | coe r =>
    induction y with
    | bot => exact absurd h (by simp)
    | top =>
      obtain ⟨r', _, h1, e⟩ := sig_part r
      rw [sig_top, e]
      exact_mod_cast h1
    | coe r' =>
      have hr : r ≤ r' := by exact_mod_cast h
      rw [sig_real, sig_real]
      refine EReal.coe_le_coe_iff.2 (one_div_le_one_div_of_le (add_pos one_pos (Real.exp_pos _)) ?_)
      have := Real.exp_le_exp.2 (neg_le_neg hr)
      linarith

/-! ### The opacities -/

/-- The share of the fall from `p` to `n`. -/
theorem fall_part {p n : EReal} (hp : Part p) (hn : Part n) (h : n ≤ p) :
    Part (Ideal.div (p - n + cw 0x3727C5AC#32) (p + cw 0x3727C5AC#32)) := by
  obtain ⟨p, p0, p1, rfl⟩ := hp
  obtain ⟨n, n0, n1, rfl⟩ := hn
  obtain ⟨e, he, ee⟩ := cw_eps
  have h : n ≤ p := by exact_mod_cast h
  rw [ee, ← EReal.coe_sub, ← EReal.coe_add, ← EReal.coe_add, div_real _ (by linarith)]
  refine ⟨_, div_nonneg (by linarith) (by linarith), ?_, rfl⟩
  rw [div_le_one (by linarith)]
  linarith

theorem alpha_part {wi : BitVec 32} (hw : 0 ≤ cw wi) {n : ℕ} {T : ℕ → EReal} (hT : Climb (n + 2) T) (M S : ℕ → EReal) (j : ℕ) :
    Part (alphaRow wi n T M S j) := by
  unfold alphaRow cat
  split
  · next hj =>
    refine fall_part (sig_part _) (sig_part _) (sig_mono ?_)
    have half : ∃ h : ℝ, h ≤ 0 ∧ halfRow n T M S j = (h : EReal) := by
      have clip : ∃ c : ℝ, c ≤ 0 ∧ clipRow n T M S j = (c : EReal) := by
        have up : clipRow n T M S j ≤ ((0 : ℝ) : EReal) := (min_le_left _ _).trans cw_zero.le
        have down : ((-1000 : ℝ) : EReal) ≤ clipRow n T M S j := le_min (by rw [cw_zero]; exact_mod_cast (by norm_num : (-1000 : ℝ) ≤ 0)) (cw_floor.symm.le.trans (le_max_left _ _))
        generalize clipRow n T M S j = x at up down
        induction x with
        | bot => exact absurd down (by simp)
        | top => exact absurd up (by simp)
        | coe r => exact ⟨r, EReal.coe_le_coe_iff.1 up, rfl⟩
      have dist : ∃ d : ℝ, 0 ≤ d ∧ distRow n T M j = (d : EReal) := by
        have a : cat (n + 2) T M (1 + j) = T (1 + j) := if_pos (by omega)
        have c : cat (n + 2) T M j = T j := if_pos (by omega)
        obtain ⟨x, _, _, hx⟩ := part (hT.zero (1 + j) (by omega)) (hT.one (1 + j) (by omega))
        obtain ⟨y, _, _, hy⟩ := part (hT.zero j (by omega)) (hT.one j (by omega))
        have le := hT.le j (1 + j) (by omega) (by omega)
        rw [hx, hy] at le
        refine ⟨x - y, sub_nonneg.2 (EReal.coe_le_coe_iff.1 le), ?_⟩
        rw [distRow, a, c, hx, hy, EReal.coe_sub]
      obtain ⟨c, hc, ec⟩ := clip
      obtain ⟨d, hd, ed⟩ := dist
      refine ⟨c * d * (1 / 2), by nlinarith [mul_nonneg (neg_nonneg.2 hc) hd], ?_⟩
      rw [halfRow, ec, ed, cw_half, ← EReal.coe_mul, ← EReal.coe_mul]
    obtain ⟨h, h0, eh⟩ := half
    refine mul_le_mul_of_nonneg_right ?_ hw
    rw [eh, sub_eq_add_neg]
    refine add_le_add le_rfl ?_
    rw [← EReal.coe_neg]
    exact EReal.coe_le_coe_iff.2 (by linarith)
  · exact ⟨0, le_rfl, zero_le_one, by rw [cw_zero]; rfl⟩

/-! ### The weights -/

theorem factor_part {a : ℕ → EReal} (ha : ∀ j, Part (a j)) (j : ℕ) : Part (factorRow a j) := by
  unfold factorRow cat
  split
  · exact ⟨1, zero_le_one, le_rfl, by rw [cw_one]; rfl⟩
  · obtain ⟨r, h0, h1, e⟩ := ha (j - 1)
    refine ⟨1 - r, by linarith, by linarith, ?_⟩
    show cw 0x3F800000#32 - a (j - 1) = _
    rw [e, cw_one, EReal.coe_sub, EReal.coe_one]

/-- The sum of the logarithms: it is that of the product, or both are lost to a zero factor. -/
theorem log_sum {f : ℕ → EReal} (hf : ∀ j, Part (f j)) (m : ℕ) :
    (∃ s : ℝ, (∑ i ∈ Finset.range m, Ideal.log (f i)) = (s : EReal) ∧ (∏ i ∈ Finset.range m, f i) = ((Real.exp s : ℝ) : EReal))
      ∨ ((∑ i ∈ Finset.range m, Ideal.log (f i)) = ⊥ ∧ (∏ i ∈ Finset.range m, f i) = 0) := by
  induction m with
  | zero => exact .inl ⟨0, by simp, by simp⟩
  | succ m ih =>
    rw [Finset.sum_range_succ, Finset.prod_range_succ]
    obtain ⟨r, h0, _, e⟩ := hf m
    have l : Ideal.log (r : EReal) = if r ≤ 0 then ⊥ else ((Real.log r : ℝ) : EReal) := rfl
    rw [e, l]
    by_cases hr : r ≤ 0
    · right
      rw [if_pos hr, le_antisymm hr h0]
      exact ⟨EReal.add_bot _, by rw [EReal.coe_zero, mul_zero]⟩
    · rw [if_neg hr]
      rcases ih with ⟨s, hs, hp⟩ | ⟨hs, hp⟩
      · left
        refine ⟨s + Real.log r, by rw [hs, EReal.coe_add], ?_⟩
        rw [hp, ← EReal.coe_mul, Real.exp_add, Real.exp_log (not_le.1 hr)]
      · right
        rw [hs, hp, zero_mul]
        exact ⟨EReal.bot_add _, rfl⟩

theorem exp_log {f : ℕ → EReal} (hf : ∀ j, Part (f j)) (m : ℕ) :
    Ideal.exp (∑ i ∈ Finset.range m, Ideal.log (f i)) = ∏ i ∈ Finset.range m, f i := by
  rcases log_sum hf m with ⟨s, hs, hp⟩ | ⟨hs, hp⟩
  · rw [hs, hp]
    rfl
  · rw [hs, hp]
    rfl

theorem prod_part {f : ℕ → EReal} (hf : ∀ j, Part (f j)) (m : ℕ) : Part (∏ i ∈ Finset.range m, f i) := by
  induction m with
  | zero => exact ⟨1, zero_le_one, le_rfl, by simp⟩
  | succ m ih =>
    obtain ⟨r, h0, h1, e⟩ := hf m
    obtain ⟨s, s0, s1, es⟩ := ih
    exact ⟨s * r, mul_nonneg s0 h0, mul_le_one₀ s1 h0 h1, by rw [Finset.prod_range_succ, e, es, EReal.coe_mul]⟩

theorem weights_pos {a : ℕ → EReal} (ha : ∀ j, Part (a j)) : ∃ w : ℕ → ℝ, (∀ j, 0 < w j) ∧ ∀ j, weightsRow a j = (w j : EReal) := by
  have one : ∀ j, ∃ w : ℝ, 0 < w ∧ weightsRow a j = (w : EReal) := fun j => by
    obtain ⟨r, r0, _, er⟩ := ha j
    obtain ⟨p, p0, _, ep⟩ := prod_part (factor_part ha) (j + 1)
    obtain ⟨e, e0, ee⟩ := cw_eps
    exact ⟨r * p + e, by nlinarith [mul_nonneg r0 p0], by rw [weightsRow, er, ep, ee, EReal.coe_add, EReal.coe_mul]⟩
  choose w h0 h using one
  exact ⟨w, h0, h⟩

theorem pdf_nonneg {wn : BitVec 32} {n : ℕ} (hn : 0 < n) (hw : cw wn = ((n : ℝ) : EReal)) {r : ℕ → EReal} {w : ℕ → ℝ} (h0 : ∀ j, 0 < w j) (h : ∀ j, r j = (w j : EReal)) :
    ∃ p : ℕ → ℝ, (∀ j, 0 ≤ p j) ∧ ∀ j, pdfRow wn n r j = (p j : EReal) := by
  obtain ⟨e, e0, ee⟩ := cw_eps
  have total : (∑ i ∈ Finset.range n, r i) = ((∑ i ∈ Finset.range n, w i : ℝ) : EReal) := by
    rw [← sum_real]
    exact Finset.sum_congr rfl fun i _ => h i
  have tpos : 0 < ∑ i ∈ Finset.range n, w i := Finset.sum_pos (fun i _ => h0 i) ⟨0, Finset.mem_range.2 hn⟩
  have pad : padRow n r = ((max (e - ∑ i ∈ Finset.range n, w i) 0 : ℝ) : EReal) := by
    rw [padRow, total, ee, cw_zero, ← EReal.coe_sub, ← EReal.coe_zero, max_real]
  have ppos : 0 ≤ max (e - ∑ i ∈ Finset.range n, w i) 0 := le_max_right _ _
  have nz : (n : ℝ) ≠ 0 := by exact_mod_cast hn.ne'
  refine ⟨fun j => (w j + max (e - ∑ i ∈ Finset.range n, w i) 0 / n) / (∑ i ∈ Finset.range n, w i + max (e - ∑ i ∈ Finset.range n, w i) 0), fun j => ?_, fun j => ?_⟩
  · exact div_nonneg (add_nonneg (h0 j).le (div_nonneg ppos (Nat.cast_nonneg n))) (add_nonneg tpos.le ppos)
  · rw [pdfRow, pad, total, hw, h, div_real _ nz, ← EReal.coe_add, ← EReal.coe_add, div_real _ (add_pos_of_pos_of_nonneg tpos ppos).ne']

theorem cdf_climbs {p : ℕ → EReal} {q : ℕ → ℝ} (h0 : ∀ j, 0 ≤ q j) (h : ∀ j, p j = (q j : EReal)) :
    ∃ c : ℕ → ℝ, Monotone c ∧ c 0 = 0 ∧ (∀ j, c j ≤ 1) ∧ ∀ j, cdfRow p j = (c j : EReal) := by
  refine ⟨fun j => min (∑ i ∈ Finset.range j, q i) 1, ?_, by simp, fun j => min_le_right _ _, fun j => ?_⟩
  · intro i j hij
    exact min_le_min_right _ (Finset.sum_le_sum_of_subset_of_nonneg (Finset.range_mono hij) fun i _ _ => h0 i)
  · unfold cdfRow cat
    split
    · next hj =>
      have : j = 0 := by omega
      subst this
      simp [cw_zero]
    · next hj =>
      show min (∑ i ∈ Finset.range (j - 1 + 1), p i) (cw 0x3F800000#32) = _
      rw [show j - 1 + 1 = j by omega, Finset.sum_congr rfl fun i _ => h i, sum_real, cw_one, ← EReal.coe_one, min_real]

/-- The distribution function of a round rises from zero and stays at or below one. -/
theorem cdfOf_climbs {wi wn : BitVec 32} (hi : 0 ≤ cw wi) {n : ℕ} (hn : cw wn = (((n + 2 : ℕ) : ℝ) : EReal)) {T : ℕ → EReal} (hT : Climb (n + 2) T) (M S : ℕ → EReal) :
    ∃ c : ℕ → ℝ, Monotone c ∧ c 0 = 0 ∧ (∀ j, c j ≤ 1) ∧ ∀ j, cdfOf wi wn n T M S j = (c j : EReal) := by
  obtain ⟨w, w0, ew⟩ := weights_pos (alpha_part hi hT M S)
  obtain ⟨p, p0, ep⟩ := pdf_nonneg (by omega) hn w0 ew
  exact cdf_climbs p0 ep

end Cert.Rows
-- ==== Proof.RRow.lean ====
/-
The rows of the reference's tables.
-/
module

public import Idealize.ShloMosaic.Lib.SortFacts
public import Idealize.ShloMosaic.Lib.StableHlo.Predicate
public import proofs.«01_k».proof.Proof.KPick
public import proofs.«01_k».proof.Proof.RNet

@[expose] public section

noncomputable section

namespace Cert.Rows

open Idealize.ShloMosaic Cert.RNet

variable {B n p k q : ℕ} {b : Fin B}

/-- The list `x` holds the numbers `r`. -/
def Rd1 {α : Type} (x : (S1 n).Idx → α) (r : ℕ → α) : Prop := ∀ j (h : j < n), x (ix1 ⟨j, h⟩) = r j

theorem Rd.rc {w : BitVec 32} : Rd (rc (S2 B n) w) b fun _ => cw w := fun _ _ => rfl
theorem Rd3.rc {w : BitVec 32} : Rd3 (RNet.rc (S3 B p n) w) b fun _ _ => cw w := fun _ _ _ _ => rfl
theorem Rd.ri {w : BitVec 32} : Rd (ri (S2 B n) w) b fun _ => w := fun _ _ => rfl

/-- The coordinate read along an axis that a broadcast keeps. -/
theorem kept {N m : ℕ} {h0 : N = 1 → 0 < N} {h : ¬N = 1 → m < N} (hm : m < N) :
    (if h1 : N = 1 then (⟨0, h0 h1⟩ : Fin N) else ⟨m, h h1⟩).val = m := by
  split
  · show 0 = m
    omega
  · rfl

theorem Rd3.rDown {α : Type} {x : (S2 B n).Idx → α} {r : ℕ → α} (hx : Rd x b r) : Rd3 (rDown p x) b fun _ j => r j := by
  intro i hi j h
  refine Eq.trans (congrArg x (funext fun a => ?_)) (hx j h)
  match a with
  | ⟨0, _⟩ =>
    exact Fin.ext ((kept (Fin.isLt _)).trans (kept b.isLt))
  | ⟨1, _⟩ =>
    exact Fin.ext ((kept (Fin.isLt _)).trans (kept h))

theorem Rd3.rAcross {α : Type} {x : (S2 B p).Idx → α} {r : ℕ → α} (hx : Rd x b r) : Rd3 (rAcross n x) b fun i _ => r i := by
  intro i hi j h
  refine Eq.trans (congrArg x (funext fun a => ?_)) (hx i hi)
  match a with
  | ⟨0, _⟩ =>
    exact Fin.ext ((kept (Fin.isLt _)).trans (kept b.isLt))
  | ⟨1, _⟩ =>
    exact Fin.ext ((kept (Fin.isLt _)).trans (kept hi))

theorem Rd3.rDeep {x : FVec Ideal (S1 n) .f32} {r : ℕ → EReal} (hx : Rd1 x r) : Rd3 (rDeep B p x) b fun _ j => r j := by
  intro i hi j h
  refine Eq.trans (congrArg x (funext fun a => ?_)) (hx j h)
  match a with
  | ⟨0, _⟩ =>
    exact Fin.ext ((kept (Fin.isLt _)).trans (kept h))

theorem Rd.rRow {x : FVec Ideal (S1 n) .f32} {r : ℕ → EReal} (hx : Rd1 x r) : Rd (broadcastInDim (S2 B n) ![1] bdRow x) b r := by
  intro j h
  refine Eq.trans (congrArg x (funext fun a => ?_)) (hx j h)
  match a with
  | ⟨0, _⟩ =>
    exact Fin.ext (kept h)

theorem Rd.rSpread {x : FVec Ideal (S2 B 1) .f32} {r : ℕ → EReal} (hx : Rd x b r) : Rd (broadcastInDim (S2 B n) ![0, 1] bdCol x) b fun _ => r 0 := by
  intro j h
  refine Eq.trans (congrArg x (funext fun a => ?_)) (hx 0 Nat.one_pos)
  match a with
  | ⟨0, _⟩ =>
    exact Fin.ext (kept b.isLt)
  | ⟨1, _⟩ => rfl

/-! ### Equally spaced numbers -/

/-- Equally spaced numbers, as the reference computes them. -/
abbrev linRow (k : ℕ) (wk a c : BitVec 32) : ℕ → EReal :=
  cat k (fun j => cw a * (cw 0x3F800000#32 - Ideal.div (j : EReal) (cw wk)) + cw c * Ideal.div (j : EReal) (cw wk)) fun _ => cw c

theorem Rd1.rLin {wk a c : BitVec 32} (hk : k < 2 ^ 31) : Rd1 (RNet.rLin k wk a c) (linRow k wk a c) := by
  intro j h
  unfold RNet.rLin
  pointwise
  unfold linRow cat
  split
  · next hj =>
    have e : FloatOps.sitofp (F := Ideal) .f32 (BitVec.ofNat 32 j) = (j : EReal) := word_num (hj.trans hk)
    rw [e, cw_one]
  · rfl

/-! ### The opacities and the weights -/

theorem Rd.rSig {x : FVec Ideal (S2 B n) .f32} {r : ℕ → EReal} (hx : Rd x b r) : Rd (RNet.rSig x) b fun j => sig (r j) :=
  Rd.rc.hdivf (Rd.rc.addf (Rd.hexp hx.hnegf))

theorem Rd.rAlpha {T M S : ℕ → EReal} {wi : BitVec 32} {bins : FVec Ideal (S2 B (n + 2)) .f32} {mx : FVec Ideal (S2 B 1) .f32}
    {sdf : FVec Ideal (S2 B (n + 2)) .f32} (hT : Rd bins b T) (hM : Rd mx b M) (hS : Rd sdf b S) :
    Rd (RNet.rAlpha wi bins mx sdf) b (alphaRow wi n T M S) := by
  have edges := hT.concat hM (conc2 (n := n + 3) rfl)
  have dist := ((edges.slice (m := n + 2) (o := 1) (slices2 (by omega))).subf (edges.slice0 (m := n + 2) (slices2 (by omega)))).slice0
    (m := n + 1) (slices2 (by omega))
  have prev := hS.slice0 (m := n + 1) (slices2 (by omega))
  have next := hS.slice (m := n + 1) (o := 1) (slices2 (by omega))
  have mid := (prev.addf next).mulf (Rd.rc (w := 0x3F000000#32))
  have cos := (next.subf prev).hdivf (dist.addf (Rd.rc (w := 0x3727C5AC#32)))
  have clip := (Rd.rc (w := 0x00000000#32)).minimumf ((Rd.rc (w := 0xC47A0000#32)).maximumf
    (((Rd.rc (n := 1) (w := 0x00000000#32)).concat (cos.slice0 (m := n) (slices2 (by omega))) (conc2 (n := n + 1) (by omega))).minimumf cos))
  have half := (clip.mulf dist).mulf (Rd.rc (w := 0x3F000000#32))
  have pc := ((mid.subf half).mulf (Rd.rc (w := wi))).rSig
  have nc := ((mid.addf half).mulf (Rd.rc (w := wi))).rSig
  exact (((pc.subf nc).addf (Rd.rc (w := 0x3727C5AC#32))).hdivf (pc.addf (Rd.rc (w := 0x3727C5AC#32)))).concat (Rd.rc (n := 1)) (conc2 (n := n + 2) rfl)

/-- A running sum over a list. -/
theorem foldl_sum {ι : Type} (g : ι → EReal) (l : List ι) (v : EReal) : l.foldl (fun r i => r + g i) v = v + (l.map g).sum := by
  induction l generalizing v with
  | nil => simp
  | cons a l ih => rw [List.foldl_cons, ih, List.map_cons, List.sum_cons, add_assoc]

/-- A sum over a window that starts before the row. -/
theorem sum_win (r : ℕ → EReal) {n j : ℕ} (h : j ≤ n) :
    (∑ w ∈ Finset.range (n + 1), if n ≤ j + w then r (j + w - n) else 0) = ∑ i ∈ Finset.range (j + 1), r i := by
  rw [show n + 1 = (n - j) + (j + 1) by omega, Finset.sum_range_add, Finset.sum_eq_zero fun w hw => if_neg (by have := Finset.mem_range.1 hw; omega),
    zero_add]
  refine Finset.sum_congr rfl fun i _ => ?_
  rw [if_pos (by omega), show j + (n - j + i) - n = i by omega]

theorem Rd.rCum (hB : 0 < B) {x : FVec Ideal (S2 B (n + 1)) .f32} {r : ℕ → EReal} (hx : Rd x b r) :
    Rd (RNet.rCum hB x) b fun j => ∑ i ∈ Finset.range (j + 1), r i := by
  intro j hj
  let W : Shape := ⟨2, ![1, n + 1]⟩
  have hW : W.numel = n + 1 := by simp [W, Shape.numel]
  have two : ∀ m : Fin W.numel, (W.rowMajor.symm m 0).val = 0 ∧ (W.rowMajor.symm m 1).val = m.val := by
    intro m
    have e := Shape.rowMajor_val_two (W.rowMajor.symm m)
    rw [Equiv.apply_symm_apply] at e
    have h0 : (W.rowMajor.symm m 0).val < 1 := (W.rowMajor.symm m 0).isLt
    have h0' : (W.rowMajor.symm m 0).val = 0 := by omega
    rw [h0', Nat.zero_mul, Nat.zero_add] at e
    exact ⟨h0', e.symm⟩
  let g : Fin W.numel → EReal := fun m => if n ≤ j + m.val then r (j + m.val - n) else 0
  have start : (RNet.rc S0 0x00000000#32 : FVec Ideal S0 .f32) (Shape.Idx.first pos0) = (0 : EReal) := cw_zero
  have step : RNet.rCum hB x (ix2 b ⟨j, hj⟩) = (List.finRange W.numel).foldl (fun a m => a + g m) 0 := by
    show Host.reduceWindow (fun a c : EReal => a + c) ![1, n + 1] ![1, 1] ![0, n] ![0, 0] x (fun _ : S0.Idx => (RNet.rc S0 0x00000000#32 : FVec Ideal S0 .f32) (Shape.Idx.first pos0)) (windows hB) pos0 (ix2 b ⟨j, hj⟩) = _
    unfold Host.reduceWindow
    dsimp only
    rw [start]
    congr 1
    funext a m
    obtain ⟨w0, w1⟩ := two m
    congr 1
    show _ = if n ≤ j + m.val then r (j + m.val - n) else 0
    split
    · next hin =>
      have h1 := hin 1
      change n ≤ j * 1 + (W.rowMajor.symm m 1).val ∧ j * 1 + (W.rowMajor.symm m 1).val - n < n + 1 at h1
      rw [w1] at h1
      rw [if_pos (by omega)]
      refine (congrArg x (funext fun a => Fin.ext ?_)).trans (hx (j + m.val - n) (by omega))
      match a with
      | ⟨0, _⟩ =>
        show b.val * 1 + (W.rowMajor.symm m 0).val - 0 = b.val
        rw [w0]
        omega
      | ⟨1, _⟩ =>
        show j * 1 + (W.rowMajor.symm m 1).val - n = j + m.val - n
        rw [w1, Nat.mul_one]
    · next hin =>
      have hm : m.val < n + 1 := lt_of_lt_of_eq m.isLt hW
      rw [if_neg fun hle => hin fun a => by
        match a with
        | ⟨0, _⟩ =>
          show 0 ≤ b.val * 1 + (W.rowMajor.symm m 0).val ∧ b.val * 1 + (W.rowMajor.symm m 0).val - 0 < B
          rw [w0]
          have := b.isLt
          omega
        | ⟨1, _⟩ =>
          show n ≤ j * 1 + (W.rowMajor.symm m 1).val ∧ j * 1 + (W.rowMajor.symm m 1).val - n < n + 1
          rw [w1]
          omega]
  rw [step, foldl_sum, zero_add]
  show ((List.finRange W.numel).map g).sum = ∑ i ∈ Finset.range (j + 1), r i
  rw [← sum_win r (Nat.lt_succ_iff.1 hj), ← hW, Finset.sum_range, Fin.sum_univ_def]

/-- The weights, as the reference computes them: the product as a sum of logarithms. -/
abbrev weightsRow' (a : ℕ → EReal) : ℕ → EReal := fun j =>
  a j * Ideal.exp (∑ i ∈ Finset.range (j + 1), Ideal.log (factorRow a i)) + cw 0x3727C5AC#32

theorem Rd.rWeights (hB : 0 < B) {a : FVec Ideal (S2 B (n + 2)) .f32} {r : ℕ → EReal} (ha : Rd a b r) :
    Rd (RNet.rWeights hB a) b (weightsRow' r) := by
  have rest := (Rd.rc (w := 0x3F800000#32)).subf (ha.slice0 (m := n + 1) (slices2 (by omega)))
  have factor := (Rd.rc (n := 1) (w := 0x3F800000#32)).concat rest (conc2 (n := n + 2) (by omega))
  exact (ha.mulf (Rd.hexp (Rd.rCum hB (Rd.hlog factor)))).addf (Rd.rc (w := 0x3727C5AC#32))

theorem Rd.rSum {x : FVec Ideal (S2 B n) .f32} {r : ℕ → EReal} (hx : Rd x b r) :
    Rd (broadcastInDim (S2 B 1) ![0] bdList (Host.reduceAdd x (constant S0 .f32 0x00000000#32) toRow pos0)) b fun _ => ∑ i ∈ Finset.range n, r i := by
  intro j h
  have e : (Host.reduceAdd x (constant S0 .f32 0x00000000#32) toRow pos0 : FVec Ideal (S1 B) .f32) (ix1 b) = ∑ i ∈ Finset.range n, r i := by
    pointwise
    rw [Finset.sum_range]
    exact Finset.sum_congr rfl fun i _ => hx i.1 i.2
  refine Eq.trans (congrArg (Host.reduceAdd x (constant S0 .f32 0x00000000#32) toRow pos0 : FVec Ideal (S1 B) .f32) (funext fun a => ?_)) e
  match a with
  | ⟨0, _⟩ =>
    exact Fin.ext (kept b.isLt)

theorem Rd.rPdf {wn : BitVec 32} {w : FVec Ideal (S2 B n) .f32} {r : ℕ → EReal} (hw : Rd w b r) : Rd (RNet.rPdf wn w) b (pdfRow wn n r) := by
  have s := hw.rSum
  have pad := ((Rd.rc (w := 0x3727C5AC#32)).subf s).maximumf (Rd.rc (w := 0x00000000#32))
  exact (hw.addf (Rd.rSpread (pad.hdivf (Rd.rc (w := wn))))).hdivf (Rd.rSpread (s.addf pad))

theorem Rd.rCdf (hB : 0 < B) {p : FVec Ideal (S2 B (n + 1)) .f32} {r : ℕ → EReal} (hp : Rd p b r) : Rd (RNet.rCdf hB p) b (cdfRow r) :=
  (Rd.rc (n := 1)).concat ((Rd.rCum hB hp).minimumf (Rd.rc (w := 0x3F800000#32))) (conc2 (n := n + 2) (by omega))

end Cert.Rows
-- ==== Proof.RPick.lean ====
/-
The rows of the reference's samples, of its sorted tables and of its network.
-/
module

public import proofs.«01_k».proof.Proof.RRow

@[expose] public section

noncomputable section

namespace Cert.Rows

open Idealize.ShloMosaic Cert.RNet

variable {B n p k q : ℕ} {b : Fin B}

/-! ### Indices -/

/-- How many of the first `n` numbers are at most `u`. -/
abbrev countOf (n : ℕ) (C : ℕ → EReal) (u : EReal) : ℕ := ((Finset.range n).filter fun j => C j ≤ u).card

theorem Rd.rCount (hn : n < 2 ^ 32) {cdf : FVec Ideal (S2 B n) .f32} {u : FVec Ideal (S2 B p) .f32} {C U : ℕ → EReal} (hC : Rd cdf b C) (hU : Rd u b U) :
    Rd (RNet.rCount cdf u) b fun i => BitVec.ofNat 32 (countOf n C (U i)) := by
  intro i hi
  have M : Rd3 (Idealize.ShloMosaic.cmpf .ole (RNet.rDown p cdf) (RNet.rAcross n u)) b fun i j => Ideal.cmp .ole (C j) (U i) := Rd3.cmpf (Rd3.rDown hC) (Rd3.rAcross hU)
  unfold RNet.rCount
  rw [Host.reduce_eq_fold_single IntOp.addi _ _ _ red3]
  apply BitVec.eq_of_toNat_eq
  have bits : ∀ j : Fin n, (((extui 32 (Idealize.ShloMosaic.cmpf .ole (RNet.rDown p cdf) (RNet.rAcross n u)) (by decide) : IVec (S3 B p n) 32) ∘ red3.lift (ix2 b ⟨i, hi⟩)) j).toNat
      = if C j.val ≤ U i then 1 else 0 := fun j => by
    have e : (red3 (B := B) (p := p) (n := n)).lift (ix2 b ⟨i, hi⟩) j = ix3 b ⟨i, hi⟩ j := by
      funext a
      match a with
      | ⟨0, _⟩ => rfl
      | ⟨1, _⟩ => rfl
      | ⟨2, _⟩ => rfl
    show ((Idealize.ShloMosaic.cmpf .ole (RNet.rDown p cdf) (RNet.rAcross n u) (red3.lift (ix2 b ⟨i, hi⟩) j)).setWidth 32).toNat = _
    rw [e, M i hi j.val j.isLt, StableHlo.Predicate.toNat_setWidth_bit]
    by_cases h : C j.val ≤ U i <;> simp [Ideal.cmp, h]
  have total : ∑ j : Fin n, (((extui 32 (Idealize.ShloMosaic.cmpf .ole (RNet.rDown p cdf) (RNet.rAcross n u)) (by decide) : IVec (S3 B p n) 32) ∘ red3.lift (ix2 b ⟨i, hi⟩)) j).toNat
      = countOf n C (U i) := by
    rw [countOf, Finset.card_filter, Finset.sum_range]
    exact Finset.sum_congr rfl fun j _ => bits j
  have small : countOf n C (U i) < 2 ^ 32 := ((Finset.card_filter_le _ _).trans (Finset.card_range n).le).trans_lt hn
  refine (StableHlo.Predicate.toNat_fold_addi Finset.univ _ (lt_of_eq_of_lt total small)).trans (total.trans ?_)
  rw [BitVec.toNat_ofNat, Nat.mod_eq_of_lt small]

theorem toInt_small {a : ℕ} (h : a < 2 ^ 31) : (BitVec.ofNat 32 a).toInt = (a : Int) := StableHlo.Predicate.toInt_ofNat_small _ h

theorem slt_small {a c : ℕ} (h : a < 2 ^ 31) (h' : c < 2 ^ 31) : (BitVec.ofNat 32 a).slt (BitVec.ofNat 32 c) = decide (a < c) := by
  rw [BitVec.slt, toInt_small h, toInt_small h']
  simp

theorem Rd.rClip {N : ℕ} (hN : N < 2 ^ 31) {i : IVec (S2 B p) 32} {f : ℕ → ℕ} (hf : ∀ j, f j < 2 ^ 31) (hi : Rd i b fun j => BitVec.ofNat 32 (f j)) :
    Rd (RNet.rClip N i) b fun j => BitVec.ofNat 32 (min N (f j)) := by
  intro j h
  show IntOp.minsi (BitVec.ofNat 32 N) (IntOp.maxsi (BitVec.ofNat 32 0) (i (ix2 b ⟨j, h⟩))) = _
  rw [hi j h]
  unfold IntOp.minsi IntOp.maxsi
  rw [slt_small (hf j) (by norm_num)]
  simp only [Nat.not_lt_zero, decide_false, Bool.false_eq_true, if_false]
  rw [slt_small hN (hf j)]
  by_cases h : N < f j
  · simp [h, h.le]
  · simp [h, Nat.le_of_not_lt h]

/-- The index before, moved into the row. -/
theorem Rd.rClip1 {N : ℕ} (hN : N < 2 ^ 31) {i : IVec (S2 B p) 32} {f : ℕ → ℕ} (hf : ∀ j, f j < 2 ^ 31) (hi : Rd i b fun j => BitVec.ofNat 32 (f j)) :
    Rd (RNet.rClip N (subi i (RNet.ri _ 1#32))) b fun j => BitVec.ofNat 32 (min N (f j - 1)) := by
  intro j h
  have one : subi i (RNet.ri _ 1#32) (ix2 b ⟨j, h⟩) = BitVec.ofNat 32 (f j) - 1#32 := congrArg (fun a : BitVec 32 => a - 1#32) (hi j h)
  show IntOp.minsi (BitVec.ofNat 32 N) (IntOp.maxsi (BitVec.ofNat 32 0) (subi i (RNet.ri _ 1#32) (ix2 b ⟨j, h⟩))) = _
  rw [one]
  rcases Nat.eq_zero_or_pos (f j) with e | e
  · rw [e]
    have : IntOp.maxsi (BitVec.ofNat 32 0) (BitVec.ofNat 32 0 - 1#32) = BitVec.ofNat 32 0 := by decide
    rw [this, IntOp.minsi, slt_small hN (by norm_num)]
    simp [e]
  · have e' : BitVec.ofNat 32 (f j) - 1#32 = BitVec.ofNat 32 (f j - 1) := by
      apply BitVec.eq_of_toNat_eq
      have := hf j
      rw [BitVec.toNat_sub]
      simp only [BitVec.toNat_ofNat]
      omega
    have hf' : f j - 1 < 2 ^ 31 := by have := hf j; omega
    rw [e']
    unfold IntOp.minsi IntOp.maxsi
    rw [slt_small hf' (by norm_num)]
    simp only [Nat.not_lt_zero, decide_false, Bool.false_eq_true, if_false]
    rw [slt_small hN hf']
    by_cases h : N < f j - 1
    · simp [h, h.le]
    · simp [h, Nat.le_of_not_lt h]

/-- One entry per index, from the same row. -/
theorem gather_at {α : Type} (hB : 0 < B) (hn : 0 < n) (hn' : n < 2 ^ 31) (x : (S2 B n).Idx → α) (idx : IVec (S3 B p 1) 32) (b : Fin B) (j : Fin p) (c : Fin n)
    (h : idx (ix3 b j 0) = BitVec.ofNat 32 c.val) : Host.gather (rowDims hB hn p) x idx (ix2 b j) = x (ix2 b c) := by
  unfold Host.gather
  refine congrArg x (funext fun a => Fin.ext ?_)
  let d := rowDims hB hn p
  match a with
  | ⟨0, _⟩ =>
    show d.start (ix2 b j) idx 0 + d.batchCoord (ix2 b j) 0 + d.offCoord (ix2 b j) 0 = b.val
    rw [d.start_batching _ _ 0 (List.mem_singleton.2 rfl), d.offCoord_eq_zero _ _ fun h => ((d.mem_sKept 0).1 h).2 (List.mem_singleton.2 rfl),
      Nat.zero_add, Nat.add_zero]
    rfl
  | ⟨1, _⟩ =>
    have two : (1 : Fin 2) ∉ [(0 : Fin 2)] := by decide
    show d.start (ix2 b j) idx 1 + d.batchCoord (ix2 b j) 1 + d.offCoord (ix2 b j) 1 = c.val
    rw [d.batchCoord_eq_zero _ _ two, d.offCoord_eq_zero _ _ fun h => ((d.mem_sKept 1).1 h).1 (List.mem_singleton.2 rfl)]
    have m : (1 : Fin 2) ∈ d.startIndexMap := List.mem_singleton.2 rfl
    have at0 : d.siIdx (ix2 b j) ⟨d.startIndexMap.idxOf 1, List.idxOf_lt_length_iff.2 m⟩ = ix3 b j 0 := by
      funext e
      match e with
      | ⟨0, _⟩ => rfl
      | ⟨1, _⟩ => rfl
      | ⟨2, _⟩ => rfl
    unfold GatherDims.start
    rw [dif_pos m, at0, h, toInt_small (c.isLt.trans hn')]
    show min ((c.val : Int)).toNat (n - 1) + 0 + 0 = c.val
    have := c.isLt
    omega

theorem Rd.rAt (hB : 0 < B) (hn : 0 < n) (hn' : n < 2 ^ 31) {x : FVec Ideal (S2 B n) .f32} {i : IVec (S2 B p) 32} {r : ℕ → EReal} {f : ℕ → ℕ}
    (hx : Rd x b r) (hi : Rd i b fun j => BitVec.ofNat 32 (f j)) (hf : ∀ j, j < p → f j < n) : Rd (RNet.rAt hB hn x i) b fun j => r (f j) := by
  intro j h
  have e : Idealize.ShloMosaic.select (cmpi .slt i (RNet.ri _ 0#32)) (addi i (RNet.ri _ (BitVec.ofNat 32 n))) i (ix2 b ⟨j, h⟩) = BitVec.ofNat 32 (f j) := by
    show Scalar.select (BitVec.ofBool ((i (ix2 b ⟨j, h⟩)).slt (BitVec.ofNat 32 0))) _ (i (ix2 b ⟨j, h⟩)) = _
    rw [hi j h, slt_small ((hf j h).trans hn') (by norm_num)]
    simp [Scalar.select]
  unfold RNet.rAt
  refine (gather_at hB hn hn' x _ b ⟨j, h⟩ ⟨f j, hf j h⟩ ((shapeCast_at _ _ _ (ix2 b ⟨j, h⟩) ?_).trans e)).trans (hx (f j) (hf j h))
  rw [Shape.rowMajor_val_two, Shape.rowMajor_val_three]
  show b.val * p + j = (b.val * p + j) * 1 + 0
  omega

/-! ### Samples -/

/-- An infinite number replaced by the largest finite one. -/
abbrev numOf (x : EReal) : EReal :=
  if (if x = cw 0x7F800000#32 then cw 0x7F7FFFFF#32 else x) = cw 0xFF800000#32 then cw 0xFF7FFFFF#32 else (if x = cw 0x7F800000#32 then cw 0x7F7FFFFF#32 else x)

theorem Rd.rNum {x : FVec Ideal (S2 B n) .f32} {r : ℕ → EReal} (hx : Rd x b r) : Rd (RNet.rNum x) b fun j => numOf (r j) := by
  have a := Rd.select (Rd.cmpf (k := .une) hx hx) (Rd.rc (w := 0x00000000#32)) hx
  have c := Rd.select (Rd.cmpf (k := .oeq) a (Rd.rc (w := 0x7F800000#32))) (Rd.rc (w := 0x7F7FFFFF#32)) a
  have e := Rd.select (Rd.cmpf (k := .oeq) c (Rd.rc (w := 0xFF800000#32))) (Rd.rc (w := 0xFF7FFFFF#32)) c
  unfold RNet.rNum
  refine e.congr fun j _ => ?_
  simp only [Ideal.cmp, sel, ne_eq, not_true_eq_false, if_false, decide_false, decide_not, decide_true, Bool.not_true]
  simp [Scalar.select]

/-- A sample between the neighbours numbered `lo` and `hi`. -/
abbrev pick (C E : ℕ → EReal) (u : EReal) (lo hi : ℕ) : EReal :=
  E lo + min (cw 0x3F800000#32) (max (cw 0x00000000#32) (numOf (Ideal.div (u - C lo) (C hi - C lo)))) * (E hi - E lo)

theorem Rd.rSample (hB : 0 < B) (hn : n + 1 < 2 ^ 31) {u : FVec Ideal (S2 B p) .f32} {cdf ex : FVec Ideal (S2 B (n + 1)) .f32} {U C E : ℕ → EReal}
    (hU : Rd u b U) (hC : Rd cdf b C) (hE : Rd ex b E) :
    Rd (RNet.rSample hB u cdf ex) b fun i => pick C E (U i) (min n (countOf (n + 1) C (U i) - 1)) (min n (countOf (n + 1) C (U i))) := by
  have c := Rd.rCount (b := b) (n := n + 1) (by omega) hC hU
  have small : ∀ i, countOf (n + 1) C (U i) < 2 ^ 31 := fun i => ((Finset.card_filter_le _ _).trans (Finset.card_range _).le).trans_lt hn
  have lo := Rd.rClip1 (N := n) (by omega) small c
  have hi := Rd.rClip (N := n) (by omega) small c
  have inl : ∀ i, i < p → min n (countOf (n + 1) C (U i) - 1) < n + 1 := fun i _ => by omega
  have inh : ∀ i, i < p → min n (countOf (n + 1) C (U i)) < n + 1 := fun i _ => by omega
  have c0 := Rd.rAt hB n.succ_pos hn hC lo inl
  have e0 := Rd.rAt hB n.succ_pos hn hE lo inl
  have c1 := Rd.rAt hB n.succ_pos hn hC hi inh
  have e1 := Rd.rAt hB n.succ_pos hn hE hi inh
  exact e0.addf (((Rd.rc (w := 0x3F800000#32)).minimumf ((Rd.rc (w := 0x00000000#32)).maximumf (Rd.rNum ((hU.subf c0).hdivf (c1.subf c0))))).mulf (e1.subf e0))

/-! ### Sorting -/

/-- The numbers of the entries in sorted order. -/
abbrev sorted (n : ℕ) (X : ℕ → EReal) : Fin n → Fin n := sortedFrom fun k k' => decide (X k.val < X k'.val)

/-- The comparison by which the reference sorts is that of the numbers. -/
theorem before_eq (l r : EReal × BitVec 32) : (Cert.ReferenceIdeal.comparator_f32_i32_d1 (F := Ideal) l r == 1#1) = decide (l.1 < r.1) := by
  have zero : Ideal.ofBits .f32 0x00000000#32 = 0 := Ideal.ofBits_zero_f32
  have drop : ∀ x : EReal, Scalar.select (BitVec.ofBool (decide (x = Ideal.ofBits .f32 0x00000000#32))) (Ideal.ofBits .f32 0x00000000#32) x = x := fun x => by
    rw [sel]
    split
    · exact (‹x = _›).symm
    · rfl
  have drop' : ∀ x c y : EReal, Scalar.select (BitVec.ofBool (decide (x ≠ x))) c y = y := fun x c y => by
    rw [sel, if_neg (not_not.2 rfl)]
  show (BitVec.ofBool (decide (Scalar.select (BitVec.ofBool (decide (l.1 ≠ l.1))) _ (Scalar.select (BitVec.ofBool (decide (l.1 = Ideal.ofBits .f32 0x00000000#32))) (Ideal.ofBits .f32 0x00000000#32) l.1)
    < Scalar.select (BitVec.ofBool (decide (r.1 ≠ r.1))) _ (Scalar.select (BitVec.ofBool (decide (r.1 = Ideal.ofBits .f32 0x00000000#32))) (Ideal.ofBits .f32 0x00000000#32) r.1))) == 1#1) = _
  rw [drop', drop', drop, drop]
  by_cases h : l.1 < r.1 <;> simp [h]

theorem Rd.rSort {x : FVec Ideal (S2 B n) .f32} {X : ℕ → EReal} (hx : Rd x b X) :
    Rd (RNet.rSort x) b fun j => BitVec.ofNat 32 (if h : j < n then (sorted n X ⟨j, h⟩).val else 0) := by
  intro j h
  have al : ∀ k : Fin n, (ix2 b ⟨j, h⟩ : (S2 B n).Idx).along 1 k = ix2 b k := fun k => by
    funext a
    match a with
    | ⟨0, _⟩ => rfl
    | ⟨1, _⟩ => rfl
  have rel : (fun k k' : Fin n => Cert.ReferenceIdeal.comparator_f32_i32_d1 (F := Ideal)
      (x ((ix2 b ⟨j, h⟩ : (S2 B n).Idx).along 1 k), iotaInDim (S2 B n) 32 1 ((ix2 b ⟨j, h⟩ : (S2 B n).Idx).along 1 k))
      (x ((ix2 b ⟨j, h⟩ : (S2 B n).Idx).along 1 k'), iotaInDim (S2 B n) 32 1 ((ix2 b ⟨j, h⟩ : (S2 B n).Idx).along 1 k')) == 1#1)
      = fun k k' => decide (X k.val < X k'.val) := by
    funext k k'
    rw [before_eq]
    show decide (x _ < x _) = _
    rw [al, al, hx k.val k.isLt, hx k'.val k'.isLt]
  unfold RNet.rSort Host.sort2
  rw [dif_pos (show 1 < (S2 B n).rank from Nat.one_lt_two)]
  show _ = BitVec.ofNat 32 (if h : j < n then (sorted n X ⟨j, h⟩).val else 0)
  rw [dif_pos h]
  refine (congrArg (fun R : Fin n → Fin n → Bool => BitVec.ofNat 32 (((ix2 b ⟨j, h⟩ : (S2 B n).Idx).along 1 (sortedFrom R ⟨j, h⟩)) 1).val) rel).trans ?_
  exact congrArg (fun I : (S2 B n).Idx => BitVec.ofNat 32 (I 1).val) (al (sorted n X ⟨j, h⟩))

/-! ### The network -/

theorem Rd3.dot {x : FVec Ideal (S3 B n k) .f32} {w : FVec Ideal (S2 k q) .f32} {X W : ℕ → ℕ → EReal} (hx : Rd3 x b X) (hw : ∀ c, Rd w c (W c)) :
    Rd3 (Host.dotGeneral (boxDims B n k q) none x w : FVec Ideal (S3 B n q) .f32) b fun j c => ∑ a ∈ Finset.range k, X j a * W a c := by
  intro j hj c hc
  show _ = ∑ a ∈ Finset.range k, X j a * W a c
  rw [Finset.sum_range]
  have e : (Host.dotGeneral (boxDims B n k q) none x w : FVec Ideal (S3 B n q) .f32) (ix3 b ⟨j, hj⟩ ⟨c, hc⟩)
      = 0 + ∑ a : Fin k, x (ix3 b ⟨j, hj⟩ a) * w (ix2 a ⟨c, hc⟩) :=
    Ideal.matmul_apply₁_of (boxDims B n k q) rfl rfl x w (fun _ => 0) (ix3 b ⟨j, hj⟩ ⟨c, hc⟩) (fun a => ix3 b ⟨j, hj⟩ a) (fun a => ix2 a ⟨c, hc⟩)
      (fun a => by
        funext e
        match e with
        | ⟨0, _⟩ => rfl
        | ⟨1, _⟩ => rfl
        | ⟨2, _⟩ => rfl)
      (fun a => by
        funext e
        match e with
        | ⟨0, _⟩ => rfl
        | ⟨1, _⟩ => rfl)
  rw [e, zero_add]
  exact Finset.sum_congr rfl fun a _ => congrArg₂ (fun a c : EReal => a * c) (hx j hj a.1 a.2) (hw a c hc)

variable {o d : FVec Ideal (S2 B 3) .f32} {W1 : FVec Ideal (S2 3 128) .f32} {b1 : FVec Ideal (S1 128) .f32} {W2 : FVec Ideal (S2 128 1) .f32}
  {b2 : FVec Ideal (S1 1) .f32} {t : FVec Ideal (S2 B n) .f32} {O D b1' b2' r : ℕ → EReal} {W1' W2' : ℕ → ℕ → EReal}

theorem Rd.rSdf (ho : Rd o b O) (hd : Rd d b D) (hW1 : ∀ k, Rd W1 k (W1' k)) (hb1 : Rd1 b1 b1') (hW2 : ∀ k, Rd W2 k (W2' k)) (hb2 : Rd1 b2 b2')
    (ht : Rd t b r) : Rd (RNet.rSdf o d W1 b1 W2 b2 t) b fun j => sdfAt O D W1' b1' W2' (b2' 0) (r j) := by
  have P := (Rd3.rDown (p := n) ho).addf ((Rd3.rAcross (n := 3) ht).mulf (Rd3.rDown (p := n) hd))
  have H := (((P.dot hW1).addf (Rd3.rDeep hb1)).maximumf (Rd3.rc (w := 0x00000000#32))).dot (q := 1) hW2
  exact (H.addf (Rd3.rDeep hb2)).uncol scUncol

end Cert.Rows
-- ==== Proof.Sampling.lean ====
/-
Picking a sample at a level: the two ways of finding its neighbours agree, and the samples climb with the levels.
-/
module

public import proofs.«01_k».proof.Proof.Bounds
public import proofs.«01_k».proof.Proof.KPick
public import proofs.«01_k».proof.Proof.RPick

@[expose] public section

noncomputable section

namespace Cert.Rows

open Idealize.ShloMosaic

/-! ### The words in question -/

theorem cw_top : cw 0x7F800000#32 = ⊤ := by simp [cw, Ideal.ofBits, Ideal.ieee]
theorem cw_bot : cw 0xFF800000#32 = ⊥ := by simp [cw, Ideal.ofBits, Ideal.ieee]

theorem cw_two : cw 0x40000000#32 = ((2 : ℝ) : EReal) := by
  simp [cw, Ideal.ofBits, Ideal.ieee]
  rw [← EReal.coe_mul]
  norm_num

theorem cw_far : ∃ r : ℝ, 1 ≤ r ∧ cw 0x7149F2CA#32 = (r : EReal) :=
  ⟨13234890 * 2 ^ 76, by norm_num, by
    simp [cw, Ideal.ofBits, Ideal.ieee]⟩

theorem cw_most : ∃ r : ℝ, 1 ≤ r ∧ cw 0x7F7FFFFF#32 = (r : EReal) :=
  ⟨16777215 * 2 ^ 104, by norm_num, by
    simp [cw, Ideal.ofBits, Ideal.ieee]⟩

theorem cw_least : ∃ r : ℝ, r ≤ 0 ∧ cw 0xFF7FFFFF#32 = (r : EReal) :=
  ⟨-(16777215 * 2 ^ 104), by norm_num, by
    simp [cw, Ideal.ofBits, Ideal.ieee]⟩

theorem cw_step : cw 0x3D70F0F1#32 = ((15790321 / 2 ^ 28 : ℝ) : EReal) := by
  simp [cw, Ideal.ofBits, Ideal.ieee]
  rw [← EReal.coe_mul]
  norm_num

theorem cw_first : cw 0x3CF0F0F1#32 = ((15790321 / 2 ^ 29 : ℝ) : EReal) := by
  simp [cw, Ideal.ofBits, Ideal.ieee]
  rw [← EReal.coe_mul]
  norm_num

/-- The level as a real number. -/
abbrev level (i : ℕ) : ℝ := i * (15790321 / 2 ^ 28) + 15790321 / 2 ^ 29

theorem levelAt_real (i : ℕ) : levelAt i = ((level i : ℝ) : EReal) := by
  rw [levelAt, cw_step, cw_first, ← EReal.coe_coe_eq_natCast, ← EReal.coe_mul, ← EReal.coe_add]

theorem level_nonneg (i : ℕ) : 0 ≤ level i := by positivity

theorem level_mono {i j : ℕ} (h : i ≤ j) : level i ≤ level j := by
  have : (i : ℝ) ≤ j := by exact_mod_cast h
  unfold level
  linarith [mul_le_mul_of_nonneg_right this (by norm_num : (0 : ℝ) ≤ 15790321 / 2 ^ 28)]

/-! ### Counting below the level -/

theorem initial (P : ℕ → Prop) (m : ℕ) (h : ∀ i j, i ≤ j → j < m → P j → P i) : ∃ k, k ≤ m ∧ ∀ j, j < m → (P j ↔ j < k) := by
  induction m with
  | zero => exact ⟨0, le_rfl, fun j hj => absurd hj (by omega)⟩
  | succ m ih =>
    by_cases hm : P m
    · exact ⟨m + 1, le_rfl, fun j hj => iff_of_true (h j m (by omega) (by omega) hm) hj⟩
    · obtain ⟨k, hk, iff1⟩ := ih fun i j hij hj => h i j hij (by omega)
      refine ⟨k, by omega, fun j hj => ?_⟩
      by_cases hj' : j < m
      · exact iff1 j hj'
      · have : j = m := by omega
        subst this
        exact iff_of_false hm (by omega)

variable {N : ℕ} {C E : ℕ → EReal}

theorem count_iff (hC : Climb N C) (u : EReal) : countOf N C u ≤ N ∧ ∀ j, j < N → (C j ≤ u ↔ j < countOf N C u) := by
  obtain ⟨k, hk, iff1⟩ := initial (fun j => C j ≤ u) N fun i j hij hj h => (hC.le i j hij hj).trans h
  have : countOf N C u = k := by
    have e : (Finset.range N).filter (fun j => C j ≤ u) = Finset.range k := by
      ext j
      simp only [Finset.mem_filter, Finset.mem_range]
      exact ⟨fun h => (iff1 j h.1).1 h.2, fun h => ⟨by omega, (iff1 j (by omega)).2 h⟩⟩
    rw [countOf, e, Finset.card_range]
  rw [this]
  exact ⟨hk, iff1⟩

theorem count_pos (hC : Climb (N + 1) C) {u : EReal} (h0 : C 0 ≤ u) : 0 < countOf (N + 1) C u :=
  ((count_iff hC u).2 0 N.succ_pos).1 h0

theorem count_mono {u v : EReal} (h : u ≤ v) : countOf N C u ≤ countOf N C v :=
  Finset.card_le_card fun _ hj => Finset.mem_filter.2 ⟨(Finset.mem_filter.1 hj).1, (Finset.mem_filter.1 hj).2.trans h⟩

theorem below_eq (hC : Climb (N + 1) C) (hE : Climb (N + 1) E) {u : EReal} (h0 : C 0 ≤ u) :
    below N C E u = E (min N (countOf (N + 1) C u - 1)) := by
  obtain ⟨le, iff1⟩ := count_iff hC u
  have pos := count_pos hC h0
  have e : min N (countOf (N + 1) C u - 1) = countOf (N + 1) C u - 1 := by omega
  rw [e]
  refine le_antisymm ((Finset.fold_max_le _).2 ⟨by rw [cw_bot]; exact bot_le, fun j hj => ?_⟩) ((Finset.le_fold_max _).2 (.inr ⟨countOf (N + 1) C u - 1, Finset.mem_range.2 (by omega), ?_⟩))
  · have hj := Finset.mem_range.1 hj
    split
    · next h =>
      have := (iff1 j hj).1 h
      exact hE.le _ _ (by omega) (by omega)
    · rw [cw_zero]
      exact hE.zero _ (by omega)
  · rw [if_pos ((iff1 _ (by omega)).2 (by omega))]

theorem above_eq {far : BitVec 32} (hf : 1 ≤ cw far) (hC : Climb (N + 1) C) (hE : Climb (N + 1) E) (u : EReal) :
    above N far C E u = E (min N (countOf (N + 1) C u)) := by
  obtain ⟨le, iff1⟩ := count_iff hC u
  unfold above
  split
  · next h =>
    have := (iff1 N N.lt_succ_self).1 h
    rw [Nat.min_eq_left (by omega)]
  · next h =>
    have : ¬ N < countOf (N + 1) C u := fun h' => h ((iff1 N N.lt_succ_self).2 h')
    rw [Nat.min_eq_right (by omega)]
    refine le_antisymm ((Finset.fold_min_le _).2 (.inr ⟨countOf (N + 1) C u, Finset.mem_range.2 (by omega), ?_⟩)) ((Finset.le_fold_min _).2 ⟨by rw [cw_top]; exact le_top, fun j hj => ?_⟩)
    · rw [if_neg fun h' => (lt_irrefl _) ((iff1 _ (by omega)).1 h')]
    · have hj := Finset.mem_range.1 hj
      split
      · exact (hE.one _ (by omega)).trans hf
      · next h' =>
        have : ¬ j < countOf (N + 1) C u := fun h'' => h' ((iff1 j hj).2 h'')
        exact hE.le _ _ (by omega) hj

/-! ### Between two neighbours -/

theorem numOf_clip (x : EReal) :
    min (cw 0x3F800000#32) (max (cw 0x00000000#32) (numOf x)) = min (cw 0x3F800000#32) (max (cw 0x00000000#32) x) := by
  obtain ⟨a, ha, ea⟩ := cw_most
  obtain ⟨c, hc, ec⟩ := cw_least
  rw [numOf, cw_top, cw_bot, ea, ec, cw_zero, cw_one]
  induction x with
  | bot =>
    have h : (c : EReal) ≤ 0 := by exact_mod_cast hc
    rw [if_neg bot_ne_top, if_pos rfl, max_eq_left h, max_eq_left bot_le]
  | top =>
    have h : (1 : EReal) ≤ (a : EReal) := by exact_mod_cast ha
    rw [if_pos rfl, if_neg (EReal.coe_ne_bot a), min_eq_left (h.trans (le_max_right _ _)), min_eq_left (le_top.trans (le_max_right _ _))]
  | coe r => rw [if_neg (EReal.coe_ne_top r), if_neg (EReal.coe_ne_bot r)]

theorem far_one : 1 ≤ cw 0x7149F2CA#32 := by
  obtain ⟨r, hr, e⟩ := cw_far
  rw [e]
  exact_mod_cast hr

theorem two_one : 1 ≤ cw 0x40000000#32 := by
  rw [cw_two]
  exact_mod_cast (by norm_num : (1 : ℝ) ≤ 2)

/-- The sample at the level `u`. -/
abbrev sampleAt (N : ℕ) (C E : ℕ → EReal) (u : EReal) : EReal := pick C E u (min N (countOf (N + 1) C u - 1)) (min N (countOf (N + 1) C u))

theorem between_eq (hC : Climb (N + 1) C) (hE : Climb (N + 1) E) {u : EReal} (h0 : C 0 ≤ u) :
    between u (below N C C u) (above N 0x40000000#32 C C u) (below N C E u) (above N 0x7149F2CA#32 C E u) = sampleAt N C E u := by
  rw [below_eq hC hC h0, below_eq hC hE h0, above_eq two_one hC hC, above_eq far_one hC hE, sampleAt, pick, numOf_clip]

theorem div_mono {x y d : ℝ} (h : x ≤ y) (hd : 0 ≤ d) : Ideal.div (x : EReal) (d : EReal) ≤ Ideal.div (y : EReal) (d : EReal) := by
  rcases hd.lt_or_eq with hd | rfl
  · rw [div_real _ hd.ne', div_real _ hd.ne']
    exact EReal.coe_le_coe_iff.2 (div_le_div_of_nonneg_right h hd.le)
  · have z : ((0 : ℝ) : EReal) = 0 := EReal.coe_zero
    rw [Ideal.div, Ideal.div, if_pos z, if_pos z]
    split
    · next h' =>
      have h' : (0 : ℝ) < x := by exact_mod_cast h'
      rw [if_pos (by exact_mod_cast h'.trans_le h)]
    · exact bot_le

/-- A number between two real numbers. -/
theorem pick_between {lo hi : ℕ} (u : EReal) (h : lo ≤ hi) (hh : hi < N) (hE : Climb N E) : E lo ≤ pick C E u lo hi ∧ pick C E u lo hi ≤ E hi := by
  rw [pick, numOf_clip, cw_zero, cw_one]
  obtain ⟨a, a0, a1, ea⟩ := part (hE.zero lo (by omega)) (hE.one lo (by omega))
  obtain ⟨c, c0, c1, ec⟩ := part (hE.zero hi (by omega)) (hE.one hi (by omega))
  have le : a ≤ c := EReal.coe_le_coe_iff.1 (by rw [← ea, ← ec]; exact hE.le lo hi h hh)
  obtain ⟨f, f0, f1, ef⟩ := part (x := min 1 (max 0 (Ideal.div (u - C lo) (C hi - C lo)))) (le_min zero_le_one (le_max_left _ _)) (min_le_left _ _)
  rw [ea, ec, ef, ← EReal.coe_sub, ← EReal.coe_mul, ← EReal.coe_add]
  constructor <;> refine EReal.coe_le_coe_iff.2 ?_ <;> nlinarith [mul_nonneg f0 (sub_nonneg.2 le), mul_le_mul_of_nonneg_right f1 (sub_nonneg.2 le)]

theorem sample_mono (hC : Climb (N + 1) C) (hE : Climb (N + 1) E) {u v : ℝ} (h0 : C 0 ≤ (u : EReal)) (h : u ≤ v) :
    sampleAt N C E (u : EReal) ≤ sampleAt N C E (v : EReal) := by
  have huv : (u : EReal) ≤ (v : EReal) := EReal.coe_le_coe_iff.2 h
  have mono := count_mono (N := N + 1) (C := C) huv
  have pos := count_pos hC h0
  have top := (count_iff hC (v : EReal)).1
  rcases mono.lt_or_eq with lt | eq
  · refine ((pick_between (N := N + 1) _ (by omega) (by omega) hE).2.trans (hE.le _ _ ?_ ?_)).trans (pick_between (N := N + 1) _ (by omega) (by omega) hE).1
    · omega
    · omega
  · unfold sampleAt
    rw [eq]
    set lo := min N (countOf (N + 1) C v - 1)
    set hi := min N (countOf (N + 1) C v)
    have hlo : lo < N + 1 := by omega
    have hhi : hi < N + 1 := by omega
    have lh : lo ≤ hi := by omega
    rw [pick, pick, numOf_clip, numOf_clip]
    obtain ⟨a, _, _, ea⟩ := part (hC.zero lo hlo) (hC.one lo hlo)
    obtain ⟨c, _, _, ec⟩ := part (hC.zero hi hhi) (hC.one hi hhi)
    have le : a ≤ c := EReal.coe_le_coe_iff.1 (by rw [← ea, ← ec]; exact hC.le lo hi lh hhi)
    obtain ⟨a', _, _, ea'⟩ := part (hE.zero lo hlo) (hE.one lo hlo)
    obtain ⟨c', _, _, ec'⟩ := part (hE.zero hi hhi) (hE.one hi hhi)
    have le' : a' ≤ c' := EReal.coe_le_coe_iff.1 (by rw [← ea', ← ec']; exact hE.le lo hi lh hhi)
    refine add_le_add le_rfl (mul_le_mul_of_nonneg_right ?_ ?_)
    · refine min_le_min_left _ (max_le_max_left _ ?_)
      rw [ea, ec, ← EReal.coe_sub, ← EReal.coe_sub, ← EReal.coe_sub]
      exact div_mono (by linarith) (by linarith)
    · rw [ea', ec', ← EReal.coe_sub]
      exact_mod_cast sub_nonneg.2 le'

/-- The samples at the levels climb. -/
theorem samples_climb (hC : Climb (N + 1) C) (hE : Climb (N + 1) E) (h0 : C 0 ≤ 0) (k : ℕ) : Climb k fun i => sampleAt N C E (levelAt i) := by
  have start : ∀ i, C 0 ≤ levelAt i := fun i => h0.trans (by rw [levelAt_real]; exact_mod_cast level_nonneg i)
  have at_ : ∀ i, E (min N (countOf (N + 1) C (levelAt i) - 1)) ≤ sampleAt N C E (levelAt i) ∧ sampleAt N C E (levelAt i) ≤ E (min N (countOf (N + 1) C (levelAt i))) :=
    fun i => pick_between (N := N + 1) _ (by omega) (by omega) hE
  refine ⟨fun i j hij _ => ?_, fun j _ => (hE.zero _ (by omega)).trans (at_ j).1, fun j _ => (at_ j).2.trans (hE.one _ (by omega))⟩
  have := start i
  show sampleAt N C E (levelAt i) ≤ sampleAt N C E (levelAt j)
  rw [levelAt_real] at this
  rw [levelAt_real, levelAt_real]
  exact sample_mono hC hE this (level_mono hij)

end Cert.Rows
-- ==== Proof.Round.lean ====
/-
One round of the kernel and one round of the reference, started from the same samples, end with the same samples; and so do four.
-/
module

public import proofs.«01_k».proof.Proof.Merge
public import proofs.«01_k».proof.Proof.Sampling

@[expose] public section

noncomputable section

namespace Cert.Rows

open Idealize.ShloMosaic Cert.KNet

/-! ### Levels and first samples -/

theorem cw_last : cw 0x3F70F0F1#32 = ((15790321 / 2 ^ 24 : ℝ) : EReal) := by
  simp [cw, Ideal.ofBits, Ideal.ieee]
  rw [← EReal.coe_mul]
  norm_num

theorem cw_16 : cw 0x41800000#32 = ((16 : ℝ) : EReal) := by
  simp [cw, Ideal.ofBits, Ideal.ieee]
  rw [← EReal.coe_mul]
  norm_num

theorem cw_64 : cw 0x42800000#32 = ((64 : ℝ) : EReal) := by
  simp [cw, Ideal.ofBits, Ideal.ieee]
  rw [← EReal.coe_mul]
  norm_num

theorem cw_64th : cw 0x3C800000#32 = ((1 / 64 : ℝ) : EReal) := by
  simp [cw, Ideal.ofBits, Ideal.ieee]
  rw [← EReal.coe_mul]
  norm_num

theorem lin_levels (i : ℕ) (h : i < 17) : linRow 16 0x41800000#32 0x00000000#32 0x3F70F0F1#32 i + cw 0x3CF0F0F1#32 = levelAt i := by
  rw [levelAt_real, level, cw_first, EReal.coe_add]
  congr 1
  unfold linRow cat
  split
  · show cw 0x00000000#32 * (cw 0x3F800000#32 - Ideal.div (i : EReal) (cw 0x41800000#32)) + cw 0x3F70F0F1#32 * Ideal.div (i : EReal) (cw 0x41800000#32) = _
    rw [cw_zero, zero_mul, zero_add, cw_last, cw_16, ← EReal.coe_coe_eq_natCast, div_real _ (by norm_num), ← EReal.coe_mul]
    congr 1
    ring
  · have : i = 16 := by omega
    subst this
    rw [cw_last]
    congr 1
    norm_num

/-- The samples at the start. -/
abbrev startRow : ℕ → EReal := fun j => (j : EReal) * cw 0x3C800000#32

theorem lin_start (j : ℕ) (h : j < 64) : linRow 64 0x42800000#32 0x00000000#32 0x3F800000#32 j = startRow j := by
  rw [linRow, cat, if_pos h, cw_zero, zero_mul, zero_add, cw_one, one_mul, cw_64, startRow, cw_64th, ← EReal.coe_coe_eq_natCast, div_real _ (by norm_num), ← EReal.coe_mul]
  congr 1
  ring

theorem lin_end : linRow 64 0x42800000#32 0x00000000#32 0x3F800000#32 64 = cw 0x3F800000#32 := if_neg (by omega)

theorem start_climbs : Climb 64 startRow := by
  have e : ∀ j, startRow j = (((j : ℝ) * (1 / 64) : ℝ) : EReal) := fun j => by
    rw [startRow, cw_64th, ← EReal.coe_coe_eq_natCast, ← EReal.coe_mul]
  refine ⟨fun i j hij _ => ?_, fun j _ => ?_, fun j h => ?_⟩
  · rw [e, e]
    have : (i : ℝ) ≤ j := by exact_mod_cast hij
    exact EReal.coe_le_coe_iff.2 (by linarith)
  · rw [e]
    have : (0 : ℝ) ≤ (j : ℝ) * (1 / 64) := by positivity
    exact_mod_cast this
  · rw [e]
    have h : (j : ℝ) ≤ 64 := by exact_mod_cast h.le
    have : (j : ℝ) * (1 / 64) ≤ 1 := by linarith
    exact_mod_cast this

variable {B B' : ℕ} {b : Fin B} {b' : Fin B'} {n : ℕ}

/-- Row `b` of the kernel's state and row `b'` of the reference's state hold the same samples. -/
structure Same (b : Fin B) (b' : Fin B') (σ : State B n) (τ : State B' n) (T S : ℕ → EReal) : Prop where
  climb : Climb n T
  kt : Rd σ.t b T
  rt : Rd τ.t b' T
  ks : Rd σ.s b S
  rs : Rd τ.s b' S
  km : Rd σ.m b fun _ => cw 0x3F800000#32
  rm : Rd τ.m b' fun _ => cw 0x3F800000#32

/-- The edges of the sections. -/
abbrev edgeRow (n : ℕ) (T : ℕ → EReal) : ℕ → EReal := cat (n + 2) T fun _ => cw 0x3F800000#32

/-- The new samples, with the new end. -/
def newRow (wi wn : BitVec 32) (n : ℕ) (T S : ℕ → EReal) : ℕ → EReal := fun i =>
  sampleAt (n + 2) (cdfOf wi wn n T (fun _ => cw 0x3F800000#32) S) (edgeRow n T) (levelAt i)

/-- The entries of both rows, put in the order of the keys. -/
def orderRow (n : ℕ) (T X V V' : ℕ → EReal) : ℕ → EReal := fun p =>
  if h : p < n + 16 then cat n V V' (sorted (n + 16) (cat n T X) ⟨p, h⟩).val else 0

theorem edges_climb {T : ℕ → EReal} (hT : Climb (n + 2) T) : Climb (n + 2 + 1) (edgeRow n T) := by
  have inner : ∀ j, j < n + 2 → edgeRow n T j = T j := fun j h => if_pos h
  have outer : ∀ j, ¬ j < n + 2 → edgeRow n T j = 1 := fun j h => (if_neg h).trans cw_one
  refine ⟨fun i j hij hj => ?_, fun j _ => ?_, fun j _ => ?_⟩
  · by_cases h : j < n + 2
    · rw [inner i (by omega), inner j h]
      exact hT.le i j hij h
    · rw [outer j h]
      by_cases h' : i < n + 2
      · rw [inner i h']
        exact hT.one i h'
      · rw [outer i h']
  · by_cases h : j < n + 2
    · rw [inner j h]
      exact hT.zero j h
    · rw [outer j h]
      exact zero_le_one
  · by_cases h : j < n + 2
    · rw [inner j h]
      exact hT.one j h
    · rw [outer j h]

section
variable {wi wn : BitVec 32} (hi : 0 ≤ cw wi) (hw : cw wn = (((n + 2 : ℕ) : ℝ) : EReal)) {T S : ℕ → EReal} (hT : Climb (n + 2) T)
include hi hw hT

theorem cdf_climb (M : ℕ → EReal) (m : ℕ) : Climb m (cdfOf wi wn n T M S) ∧ cdfOf wi wn n T M S 0 ≤ 0 := by
  obtain ⟨c, mono, c0, c1, e⟩ := cdfOf_climbs hi hw hT M S
  refine ⟨⟨fun i j hij _ => ?_, fun j _ => ?_, fun j _ => ?_⟩, ?_⟩
  · rw [e, e]
    exact EReal.coe_le_coe_iff.2 (mono hij)
  · rw [e]
    have : 0 ≤ c j := c0 ▸ mono (Nat.zero_le j)
    exact_mod_cast this
  · rw [e]
    exact_mod_cast c1 j
  · rw [e, c0, EReal.coe_zero]

theorem new_climbs (k : ℕ) : Climb k (newRow wi wn n T S) :=
  samples_climb (cdf_climb hi hw hT _ _).1 (edges_climb hT) (cdf_climb hi hw hT (fun _ => cw 0x3F800000#32) 0).2 k

theorem Rd.kNew (hn : 64 ≤ n + 2) (hn' : n + 2 ≤ 128) {bins : FVec Ideal (S2 B (n + 2)) .f32} {mx : FVec Ideal (S2 B 1) .f32} {sdf : FVec Ideal (S2 B (n + 2)) .f32}
    (ht : Rd bins b T) (hm : Rd mx b fun _ => cw 0x3F800000#32) (hs : Rd sdf b S) : Rd (KNet.kNew wi wn hn bins mx sdf) b (newRow wi wn n T S) := by
  have c : Rd (KNet.kCdf hn (KNet.kPdf wn (KNet.kWeights hn (KNet.kAlpha wi bins mx sdf)))) b (cdfOf wi wn n T (fun _ => cw 0x3F800000#32) S) :=
    Rd.kCdf hn hn' (Rd.kPdf (Rd.kWeights hn hn' (Rd.kAlpha ht hm hs)))
  have e := ht.concat hm (conc2 (n := n + 3) rfl)
  refine (Rd.kSample c e).congr fun i _ => ?_
  obtain ⟨cc, c0⟩ := cdf_climb (S := S) hi hw hT (fun _ => cw 0x3F800000#32) (n + 2 + 1)
  exact between_eq cc (edges_climb hT) (c0.trans (by rw [levelAt_real]; exact_mod_cast level_nonneg i))

theorem Rd.rNew (hB : 0 < B') (hn' : n + 2 ≤ 128) {bins : FVec Ideal (S2 B' (n + 2)) .f32} {mx : FVec Ideal (S2 B' 1) .f32} {sdf : FVec Ideal (S2 B' (n + 2)) .f32}
    (ht : Rd bins b' T) (hm : Rd mx b' fun _ => cw 0x3F800000#32) (hs : Rd sdf b' S) : Rd (RNet.rNew hB wi wn bins mx sdf) b' (newRow wi wn n T S) := by
  have weights : weightsRow' (alphaRow wi n T (fun _ => cw 0x3F800000#32) S) = weightsRow (alphaRow wi n T (fun _ => cw 0x3F800000#32) S) := funext fun j => by
    rw [weightsRow', weightsRow, exp_log (factor_part (alpha_part hi hT _ S))]
  have c : Rd (RNet.rCdf hB (RNet.rPdf wn (RNet.rWeights hB (RNet.rAlpha wi bins mx sdf)))) b' (cdfOf wi wn n T (fun _ => cw 0x3F800000#32) S) := by
    have w := Rd.rWeights hB (Rd.rAlpha (wi := wi) ht hm hs)
    rw [weights] at w
    exact Rd.rCdf hB (Rd.rPdf w)
  have e := ht.concat hm (conc2 (n := n + 3) rfl)
  have u : Rd (RNet.rLevels B') b' levelAt :=
    ((Rd.rRow (fun j h => congrArg (· + cw 0x3CF0F0F1#32) (Rd1.rLin (by norm_num) j h)) :
      Rd (RNet.rLevels B') b' fun i => linRow 16 0x41800000#32 0x00000000#32 0x3F70F0F1#32 i + cw 0x3CF0F0F1#32)).congr fun i h => lin_levels i h
  exact Rd.rSample hB (by omega) u c e

end

/-! ### One round -/

theorem order_climbs {T X : ℕ → EReal} (hT : Climb n T) (hX : Climb 16 X) : Climb (n + 16) (orderRow n T X T X) := by
  have inside : ∀ q, q < n + 16 → 0 ≤ cat n T X q ∧ cat n T X q ≤ 1 := fun q hq => by
    unfold cat
    split
    · next h => exact ⟨hT.zero q h, hT.one q h⟩
    · exact ⟨hX.zero _ (by omega), hX.one _ (by omega)⟩
  refine ⟨fun i j hij hj => ?_, fun j hj => ?_, fun j hj => ?_⟩
  · rw [orderRow, dif_pos (hij.trans_lt hj), orderRow, dif_pos hj]
    exact sorted_le (cat n T X) (Fin.mk_le_mk.2 hij)
  · rw [orderRow, dif_pos hj]
    exact (inside _ (Fin.isLt _)).1
  · rw [orderRow, dif_pos hj]
    exact (inside _ (Fin.isLt _)).2

theorem Rd.kMerge (hn : n ≤ 112) {wn : BitVec 32} (hw : cw wn = (n : EReal)) {t v : FVec Ideal (S2 B n) .f32} {x v' : FVec Ideal (S2 B 16) .f32} {T X V V' : ℕ → EReal}
    (hT : Climb n T) (hX : Climb 16 X) (ht : Rd t b T) (hx : Rd x b X) (hv : Rd v b V) (hv' : Rd v' b V') :
    Rd (KNet.kMerge wn t x v v') b (orderRow n T X V V') := by
  have po := Rd.kPosOld (show n < 2 ^ 31 by omega) ht hx
  have pn := Rd.kPosNew (show 16 < 2 ^ 31 by omega) (wn := wn) ht hx
  refine (Rd.kScatter (by omega) hv hv' po pn).congr fun p hp => ?_
  rw [orderRow, dif_pos hp]
  exact scattered_eq hw hT.le hX.le _ _ ⟨p, hp⟩

theorem Rd.rMerge (hB : 0 < B') (h0 : 0 < n + 16) (hn : n ≤ 112) {t v : FVec Ideal (S2 B' n) .f32} {x v' : FVec Ideal (S2 B' 16) .f32} {T X V V' : ℕ → EReal}
    (ht : Rd t b' T) (hx : Rd x b' X) (hv : Rd v b' V) (hv' : Rd v' b' V') :
    Rd (RNet.rAt hB h0 (RNet.rJoin v v') (RNet.rSort (RNet.rJoin t x))) b' (orderRow n T X V V') := by
  have all : Rd (RNet.rJoin t x) b' (cat n T X) := ht.concat hx (conc2 rfl)
  have j : Rd (RNet.rJoin v v') b' (cat n V V') := hv.concat hv' (conc2 rfl)
  have inside : ∀ p, p < n + 16 → (if h : p < n + 16 then (sorted (n + 16) (cat n T X) ⟨p, h⟩).val else 0) < n + 16 := fun p hp => by
    rw [dif_pos hp]
    exact Fin.isLt _
  refine (Rd.rAt hB h0 (by omega) j (Rd.rSort all) inside).congr fun p hp => ?_
  rw [orderRow, dif_pos hp, dif_pos hp]

theorem same_next (hB : 0 < B') {wi wn : BitVec 32} (hi : 0 ≤ cw wi) (hw : cw wn = (((n + 2 : ℕ) : ℝ) : EReal)) (hn : 64 ≤ n + 2) (hn' : n + 2 ≤ 112)
    {F : EReal → EReal} {knet : FVec Ideal (S2 B 16) .f32 → FVec Ideal (S2 B 16) .f32} {rnet : FVec Ideal (S2 B' 16) .f32 → FVec Ideal (S2 B' 16) .f32}
    (hk : ∀ x r, Rd x b r → Rd (knet x) b fun j => F (r j)) (hr : ∀ x r, Rd x b' r → Rd (rnet x) b' fun j => F (r j))
    {σ : State B (n + 2)} {τ : State B' (n + 2)} {T S : ℕ → EReal} (h : Same b b' σ τ T S) :
    Same b b' (kNext wi wn hn knet σ) (RNet.rNext hB wi wn rnet τ)
      (orderRow (n + 2) T (newRow wi wn n T S) T (newRow wi wn n T S)) (orderRow (n + 2) T (newRow wi wn n T S) S fun j => F (newRow wi wn n T S j)) := by
  have kx := Rd.kNew hi hw h.climb hn (by omega) h.kt h.km h.ks
  have rx := Rd.rNew hi hw h.climb hB (by omega) h.rt h.rm h.rs
  have climb := new_climbs (S := S) hi hw h.climb 17
  have climb16 := new_climbs (S := S) hi hw h.climb 16
  generalize newRow wi wn n T S = X at *
  unfold kNext RNet.rNext
  dsimp only
  generalize kNew wi wn hn σ.t σ.m σ.s = kn at *
  generalize RNet.rNew hB wi wn τ.t τ.m τ.s = rn at *
  have kx16 : Rd (kNew16 kn) b X := kx.slice0 (slices2 (by omega))
  have rx16 : Rd (RNet.rNew16 rn) b' X := rx.slice0 (slices2 (by omega))
  have wn' : cw wn = ((n + 2 : ℕ) : EReal) := hw.trans (EReal.coe_coe_eq_natCast _)
  have last : ∀ j, j < 1 → max (cw 0x3F800000#32) (X (16 + j)) = cw 0x3F800000#32 := fun j hj => by
    refine max_eq_left ?_
    rw [cw_one]
    exact climb.one _ (by omega)
  have c1 := order_climbs h.climb climb16
  have a1 := Rd.kMerge hn' wn' h.climb climb16 h.kt kx16 h.kt kx16
  have a2 := Rd.kMerge hn' wn' h.climb climb16 h.kt kx16 h.ks (hk _ _ kx16)
  have r1 := Rd.rMerge hB (show 0 < n + 2 + 16 by omega) hn' h.rt rx16 h.rt rx16
  have r2 := Rd.rMerge hB (show 0 < n + 2 + 16 by omega) hn' h.rt rx16 h.rs (hr _ _ rx16)
  have m1 := (h.km.maximumf (kx.slice (o := 16) (m := 1) (slices2 (by omega)))).congr last
  have m2 := (h.rm.maximumf (rx.slice (o := 16) (m := 1) (slices2 (by omega)))).congr last
  refine ⟨c1, ?_, ?_, ?_, ?_, ?_, ?_⟩
  · exact a1
  · dsimp only
    exact r1
  · exact a2
  · dsimp only
    exact r2
  · exact m1
  · exact m2

/-! ### Four rounds -/

theorem cw_128 : cw 0x43000000#32 = ((128 : ℝ) : EReal) := by
  simp [cw, Ideal.ofBits, Ideal.ieee]
  rw [← EReal.coe_mul]
  norm_num

theorem cw_256 : cw 0x43800000#32 = ((256 : ℝ) : EReal) := by
  simp [cw, Ideal.ofBits, Ideal.ieee]
  rw [← EReal.coe_mul]
  norm_num

theorem cw_512 : cw 0x44000000#32 = ((512 : ℝ) : EReal) := by
  simp [cw, Ideal.ofBits, Ideal.ieee]
  rw [← EReal.coe_mul]
  norm_num

theorem cw_80 : cw 0x42A00000#32 = ((80 : ℝ) : EReal) := by
  simp [cw, Ideal.ofBits, Ideal.ieee]
  rw [← EReal.coe_mul]
  norm_num

theorem cw_96 : cw 0x42C00000#32 = ((96 : ℝ) : EReal) := by
  simp [cw, Ideal.ofBits, Ideal.ieee]
  rw [← EReal.coe_mul]
  norm_num

theorem cw_112 : cw 0x42E00000#32 = ((112 : ℝ) : EReal) := by
  simp [cw, Ideal.ofBits, Ideal.ieee]
  rw [← EReal.coe_mul]
  norm_num

theorem nonneg_of {w : BitVec 32} {r : ℝ} (h : cw w = (r : EReal)) (h0 : 0 ≤ r) : 0 ≤ cw w := by
  rw [h]
  exact_mod_cast h0

/-- A row of the kernel's four rounds is the row of the reference's four rounds on the same origin and direction. -/
theorem nets (hB : 0 < B') {o d : FVec Ideal (S2 B 3) .f32} {o' d' : FVec Ideal (S2 B' 3) .f32} {W1 W1' : FVec Ideal (S2 3 128) .f32} {b1 : FVec Ideal (S2 1 128) .f32}
    {b1' : FVec Ideal (S1 128) .f32} {W2 W2' : FVec Ideal (S2 128 1) .f32} {b2 : Ideal .f32} {b2' : FVec Ideal (S1 1) .f32}
    {O D c1 c2 : ℕ → EReal} {U1 U2 : ℕ → ℕ → EReal} (ho : Rd o b O) (ho' : Rd o' b' O) (hd : Rd d b D) (hd' : Rd d' b' D)
    (hW1 : ∀ k, Rd W1 k (U1 k)) (hW1' : ∀ k, Rd W1' k (U1 k)) (hb1 : Rd b1 0 c1) (hb1' : Rd1 b1' c1)
    (hW2 : ∀ k, Rd W2 k (U2 k)) (hW2' : ∀ k, Rd W2' k (U2 k)) (hb2 : b2 = c2 0) (hb2' : Rd1 b2' c2) (j : Fin 128) :
    kNet o d W1 b1 W2 b2 (ix2 b j) = RNet.rNet hB o' d' W1' b1' W2' b2' (ix2 b' j) := by
  subst hb2
  have kn : ∀ {m : ℕ} (x : FVec Ideal (S2 B m) .f32) (r : ℕ → EReal), Rd x b r → Rd (kSdf o d W1 b1 W2 (c2 0) x) b fun j => sdfAt O D U1 c1 U2 (c2 0) (r j) :=
    fun _ _ h => Rd.kSdf ho hd hW1 hb1 hW2 h
  have rn : ∀ {m : ℕ} (x : FVec Ideal (S2 B' m) .f32) (r : ℕ → EReal), Rd x b' r → Rd (RNet.rSdf o' d' W1' b1' W2' b2' x) b' fun j => sdfAt O D U1 c1 U2 (c2 0) (r j) :=
    fun _ _ h => Rd.rSdf ho' hd' hW1' hb1' hW2' hb2' h
  have ks : Rd (kStart (B := B)) b startRow := (Rd.kIota (by norm_num)).mulf Rd.kc
  have lin : Rd1 (RNet.rLin 64 0x42800000#32 0x00000000#32 0x3F800000#32) (linRow 64 0x42800000#32 0x00000000#32 0x3F800000#32) := Rd1.rLin (by norm_num)
  have rs : Rd (RNet.rStart B') b' startRow :=
    ((Rd.rRow (fun j h => by pointwise; exact lin j (by omega)) : Rd (RNet.rStart B') b' (linRow 64 0x42800000#32 0x00000000#32 0x3F800000#32))).congr lin_start
  have re : Rd (RNet.rStartEnd B') b' fun _ => cw 0x3F800000#32 :=
    ((Rd.rRow (fun j h => by pointwise; exact lin (64 + j) (by omega)) :
      Rd (RNet.rStartEnd B') b' fun j => linRow 64 0x42800000#32 0x00000000#32 0x3F800000#32 (64 + j))).congr fun j hj => by
        rw [show 64 + j = 64 by omega]
        exact lin_end
  have s0 : Same b b' ⟨kStart, kc _ 0x3F800000#32, kSdf o d W1 b1 W2 (c2 0) kStart⟩ ⟨RNet.rStart B', RNet.rStartEnd B', RNet.rSdf o' d' W1' b1' W2' b2' (RNet.rStart B')⟩ startRow _ :=
    ⟨start_climbs, ks, rs, kn _ _ ks, rn _ _ rs, Rd.kc, re⟩
  have s1 := same_next (n := 62) hB (nonneg_of cw_64 (by norm_num)) (cw_64.trans (by norm_num)) (by omega) (by omega) kn rn s0
  have s2 := same_next (n := 78) hB (nonneg_of cw_128 (by norm_num)) (cw_80.trans (by norm_num)) (by omega) (by omega) kn rn s1
  have s3 := same_next (n := 94) hB (nonneg_of cw_256 (by norm_num)) (cw_96.trans (by norm_num)) (by omega) (by omega) kn rn s2
  have s4 := same_next (n := 110) hB (nonneg_of cw_512 (by norm_num)) (cw_112.trans (by norm_num)) (by omega) (by omega) kn rn s3
  exact (s4.kt j.1 j.2).trans (s4.rt j.1 j.2).symm

end Cert.Rows
-- ==== Proof.Whole.lean ====
/-
The kernel's result array after the run: the reference's four rounds on the kernel's own arguments.
-/
module

public import proofs.«01_k».proof.Proof.KLink
public import proofs.«01_k».proof.Proof.Round

@[expose] public section

noncomputable section

namespace Cert.Whole

open Idealize.ShloMosaic Idealize.ShloMosaic.TcCoe Idealize.SL.Sem Cert.KernelIdeal Cert.KernelIdeal.Gen Cert.KernelIdeal.Value Cert.Rows

/-- The numbers of a row, zero after its end. -/
def rowOf {B n : ℕ} (x : (S2 B n).Idx → EReal) (b : Fin B) : ℕ → EReal := fun j => if h : j < n then x (ix2 b ⟨j, h⟩) else 0

theorem Rd.own {B n : ℕ} (x : FVec Ideal (S2 B n) .f32) (b : Fin B) : Rd x b (rowOf x b) := fun _ h => by rw [rowOf, dif_pos h]

theorem Rd.other {B B' n : ℕ} {x : FVec Ideal (S2 B n) .f32} {y : FVec Ideal (S2 B' n) .f32} {b : Fin B} {b' : Fin B'}
    (e : ∀ k, x (ix2 b k) = y (ix2 b' k)) : Rd x b (rowOf y b') := fun j h => by rw [rowOf, dif_pos h, e]

/-- The rows of a table, zero after the last. -/
def tableOf {B n : ℕ} (x : (S2 B n).Idx → EReal) : ℕ → ℕ → EReal := fun i => if h : i < B then rowOf x ⟨i, h⟩ else fun _ => 0

theorem Rd.table_own {B n : ℕ} (x : FVec Ideal (S2 B n) .f32) (b : Fin B) : Rd x b (tableOf x b) := by
  rw [tableOf, dif_pos b.isLt]
  exact Rd.own x b

theorem Rd.table_other {B n : ℕ} {x y : FVec Ideal (S2 B n) .f32} (b : Fin B) (e : ∀ k, x (ix2 b k) = y (ix2 b k)) : Rd x b (tableOf y b) := by
  rw [tableOf, dif_pos b.isLt]
  exact Rd.other e

/-- The numbers of a list, zero after its end. -/
def listOf {n : ℕ} (x : (S1 n).Idx → EReal) : ℕ → EReal := fun j => if h : j < n then x (ix1 ⟨j, h⟩) else 0

theorem Rd1.own {n : ℕ} (x : FVec Ideal (S1 n) .f32) : Rd1 x (listOf x) := fun _ h => by rw [listOf, dif_pos h]

/-- The reference's four rounds. -/
abbrev result (o d : FVec Ideal (S2 4096 3) .f32) (W1 : FVec Ideal (S2 3 128) .f32) (b1 : FVec Ideal (S1 128) .f32) (W2 : FVec Ideal (S2 128 1) .f32)
    (b2 : FVec Ideal (S1 1) .f32) : FVec Ideal (S2 4096 128) .f32 := RNet.rNet (by omega) o d W1 b1 W2 b2

variable (m : (ℓ : Loc nD τ sig) → Buf (Elt Ideal) ℓ) (ρ : Dev nD → PrngReg)

/-! ### Where the blocks lie -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

theorem points (t : Fin cfg0.N) : t.val < 32 := t.isLt

/-- The ray that row `b` of block `t` is about. -/
abbrev ray (t : Fin cfg0.N) (b : Fin 128) : Fin 4096 := ⟨t.val * 128 + b.val, by have := points t; have := b.isLt; omega⟩

theorem emb0 (t : Fin cfg0.N) (b : Fin 128) (k : Fin 3) : ((cfg0.win 0).blk t).view.emb (ix2 b k) = ix2 (ray t b) k := by
  obtain ⟨e0, e1⟩ := idx0 t
  funext a; apply Fin.ext
  match a with
  | ⟨0, _⟩ => show win0_0.index t (0 : Fin 2) * 128 + 1 * b.val = t.val * 128 + b.val; omega
  | ⟨1, _⟩ => show win0_0.index t (1 : Fin 2) * 3 + 1 * k.val = k.val; omega

theorem emb1 (t : Fin cfg0.N) (b : Fin 128) (k : Fin 3) : ((cfg0.win 1).blk t).view.emb (ix2 b k) = ix2 (ray t b) k := by
  obtain ⟨e0, e1⟩ := idx1 t
  funext a; apply Fin.ext
  match a with
  | ⟨0, _⟩ => show win0_1.index t (0 : Fin 2) * 128 + 1 * b.val = t.val * 128 + b.val; omega
  | ⟨1, _⟩ => show win0_1.index t (1 : Fin 2) * 3 + 1 * k.val = k.val; omega

theorem emb2 (t : Fin cfg0.N) (b : Fin 3) (k : Fin 128) : ((cfg0.win 2).blk t).view.emb (ix2 b k) = ix2 b k := by
  obtain ⟨e0, e1⟩ := idx2 t
  funext a; apply Fin.ext
  match a with
  | ⟨0, _⟩ => show win0_2.index t (0 : Fin 2) * 3 + 1 * b.val = b.val; omega
  | ⟨1, _⟩ => show win0_2.index t (1 : Fin 2) * 128 + 1 * k.val = k.val; omega

theorem emb3 (t : Fin cfg0.N) (b : Fin 1) (k : Fin 128) : ((cfg0.win 3).blk t).view.emb (ix2 b k) = ix2 b k := by
  obtain ⟨e0, e1⟩ := idx3 t
  funext a; apply Fin.ext
  match a with
  | ⟨0, _⟩ => show win0_3.index t (0 : Fin 2) * 1 + 1 * b.val = b.val; omega
  | ⟨1, _⟩ => show win0_3.index t (1 : Fin 2) * 128 + 1 * k.val = k.val; omega

theorem emb4 (t : Fin cfg0.N) (b : Fin 128) (k : Fin 1) : ((cfg0.win 4).blk t).view.emb (ix2 b k) = ix2 b k := by
  obtain ⟨e0, e1⟩ := idx4 t
  funext a; apply Fin.ext
  match a with
  | ⟨0, _⟩ => show win0_4.index t (0 : Fin 2) * 128 + 1 * b.val = b.val; omega
  | ⟨1, _⟩ => show win0_4.index t (1 : Fin 2) * 1 + 1 * k.val = k.val; omega

theorem emb5 (t : Fin cfg0.N) (b k : Fin 1) : ((cfg0.win 5).blk t).view.emb (ix2 b k) = ix2 b k := by
  obtain ⟨e0, e1⟩ := idx5 t
  funext a; apply Fin.ext
  match a with
  | ⟨0, _⟩ => show win0_5.index t (0 : Fin 2) * 1 + 1 * b.val = b.val; omega
  | ⟨1, _⟩ => show win0_5.index t (1 : Fin 2) * 1 + 1 * k.val = k.val; omega

theorem emb6 (t : Fin cfg0.N) (b k : Fin 128) : ((cfg0.win 6).blk t).view.emb (ix2 b k) = ix2 (ray t b) k := by
  obtain ⟨e0, e1⟩ := idx6 t
  funext a; apply Fin.ext
  match a with
  | ⟨0, _⟩ => show win0_6.index t (0 : Fin 2) * 128 + 1 * b.val = t.val * 128 + b.val; omega
  | ⟨1, _⟩ => show win0_6.index t (1 : Fin 2) * 128 + 1 * k.val = k.val; omega

/-! ### The two offsets, reshaped before the launch -/

theorem first_offsets (c : Dev nD) : V m c main_v0 = shapeCast S1x128 (m ((c : Thread nD τ).loc main_arg3)) shapeCasts_S128_S1x128 := by
  show StableHlo.after hostOps0 _ (Proc.devRef .tc main_v0) = _
  after_results
  rfl

theorem last_offset (c : Dev nD) : V m c main_v1 = shapeCast S1x1 (m ((c : Thread nD τ).loc main_arg5)) shapeCasts_S1_S1x1 := by
  show StableHlo.after hostOps0 _ (Proc.devRef .tc main_v1) = _
  after_results
  rfl

theorem reshaped {n : ℕ} {x : FVec Ideal (S1 n) .f32} (h : (S1 n).ShapeCasts (S2 1 n)) (k : Fin n) : shapeCast (S2 1 n) x h (ix2 0 k) = x (ix1 k) :=
  shapeCast_at x h _ _ (by rw [Shape.rowMajor_val_two, Shape.rowMajor_val_one]; simp)

/-! ### The result -/

/-- The result array, from the kernel's arguments. -/
abbrev final (c : Dev nD) : FVec Ideal (S2 4096 128) .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

section inputs
variable (c : Dev nD) (t : Fin cfg0.N)

theorem in0 (b : Fin 128) (k : Fin 3) : iblk m c 0 t (ix2 b k) = m ((c : Thread nD τ).loc main_arg0) (ix2 (ray t b) k) := by
  show V m c main_arg0 (((cfg0.win 0).blk t).view.emb (ix2 b k)) = _
  rw [emb0, V_main_arg0]

theorem in1 (b : Fin 128) (k : Fin 3) : iblk m c 1 t (ix2 b k) = m ((c : Thread nD τ).loc main_arg1) (ix2 (ray t b) k) := by
  show V m c main_arg1 (((cfg0.win 1).blk t).view.emb (ix2 b k)) = _
  rw [emb1, V_main_arg1]

theorem in2 (b : Fin 3) (k : Fin 128) : iblk m c 2 t (ix2 b k) = m ((c : Thread nD τ).loc main_arg2) (ix2 b k) := by
  show V m c main_arg2 (((cfg0.win 2).blk t).view.emb (ix2 b k)) = _
  rw [emb2, V_main_arg2]

theorem in3 (k : Fin 128) : iblk m c 3 t (ix2 (0 : Fin 1) k) = m ((c : Thread nD τ).loc main_arg3) (ix1 k) := by
  show V m c main_v0 (((cfg0.win 3).blk t).view.emb (ix2 0 k)) = _
  rw [emb3, first_offsets]
  exact reshaped _ k

theorem in4 (b : Fin 128) (k : Fin 1) : iblk m c 4 t (ix2 b k) = m ((c : Thread nD τ).loc main_arg4) (ix2 b k) := by
  show V m c main_arg4 (((cfg0.win 4).blk t).view.emb (ix2 b k)) = _
  rw [emb4, V_main_arg4]

theorem in5 : iblk m c 5 t (ix2 (0 : Fin 1) (0 : Fin 1)) = m ((c : Thread nD τ).loc main_arg5) (ix1 0) := by
  show V m c main_v1 (((cfg0.win 5).blk t).view.emb (ix2 0 0)) = _
  rw [emb5, last_offset]
  exact reshaped _ 0

/-- Row `b` of what block `t` computes is the result's row at the ray of row `b`. -/
theorem block_row (b k : Fin 128) : KNet.kNet (B := 128) (iblk m c 0 t) (iblk m c 1 t) (iblk m c 2 t) (iblk m c 3 t) (iblk m c 4 t) (iblk m c 5 t (ix2 0 0)) (ix2 b k)
    = final m c (ix2 (ray t b) k) := by
  have h1 : Rd (B := 1) (n := 128) (iblk m c 3 t) 0 (listOf (m ((c : Thread nD τ).loc main_arg3))) := fun j h => by
    rw [in3 m c t ⟨j, h⟩, listOf, dif_pos h]
  have h2 : iblk m c 5 t (ix2 0 0) = listOf (m ((c : Thread nD τ).loc main_arg5)) 0 := by
    rw [in5 m c t, listOf, dif_pos Nat.one_pos]
    rfl
  exact nets (by omega) (Rd.other (in0 m c t b)) (Rd.own _ _) (Rd.other (in1 m c t b)) (Rd.own _ _) (fun i => Rd.table_other i (in2 m c t i))
    (fun i => Rd.table_own _ i) h1 (Rd1.own _) (fun i => Rd.table_other i (in4 m c t i)) (fun i => Rd.table_own _ i) h2 (Rd1.own _) k

/-- A table of one block that agrees with a whole table row by row is its block. -/
theorem block_of (X : FVec Ideal (S2 128 128) .f32) (G : FVec Ideal (S2 4096 128) .f32) (h : ∀ b k, X (ix2 b k) = G (ix2 (ray t b) k)) :
    (cfg0.win 6).cut (grid0.coords t) X = ((cfg0.win 6).blk t).view.read (Elt Ideal) G := by
  funext j
  show X j = G (((cfg0.win 6).blk t).view.emb j)
  have hj : j = ix2 (n0 := 128) (n1 := 128) (j 0) (j 1) := by
    funext a
    match a with
    | ⟨0, _⟩ => rfl
    | ⟨1, _⟩ => rfl
  have e : G (((cfg0.win 6).blk t).view.emb (ix2 (n0 := 128) (n1 := 128) (j 0) (j 1))) = G (ix2 (ray t (j 0)) (j 1)) := congrArg G (emb6 t (j 0) (j 1))
  exact (congrArg X hj).trans ((h (j 0) (j 1)).trans (e.symm.trans (congrArg (fun i => G (((cfg0.win 6).blk t).view.emb i)) hj.symm)))

theorem flushed : (dats m 0 c).flushed 6 t = ((cfg0.win 6).blk t).view.read (Elt Ideal) (final m c) := by
  rw [flushed6_A, KLink.out_eq]
  exact block_of t _ _ (block_row m c t)

end inputs

theorem covered (i : S4096x128.Idx) : ∃ t : Fin cfg0.N, (cfg0.win 6).flush t = true ∧ i ∈ ((cfg0.win 6).blk t).view.set := by
  have h0 : (i 0).val < 4096 := (i 0).isLt
  have ht : (i 0).val / 128 < 32 := by omega
  refine ⟨(⟨(i 0).val / 128, ht⟩ : Fin cfg0.N), flush0_6 _, ?_⟩
  have h := ((cfg0.win 6).blk (⟨(i 0).val / 128, ht⟩ : Fin cfg0.N)).view.emb_mem_set (ix2 ⟨(i 0).val % 128, Nat.mod_lt _ (by omega)⟩ (i 1))
  have e : (ix2 (ray ⟨(i 0).val / 128, ht⟩ ⟨(i 0).val % 128, Nat.mod_lt _ (by omega)⟩) (i 1) : S4096x128.Idx) = i := by
    funext a
    match a with
    | ⟨0, _⟩ => exact Fin.ext (Nat.div_add_mod' (i 0).val 128)
    | ⟨1, _⟩ => rfl
  exact (congrArg (· ∈ ((cfg0.win 6).blk (⟨(i 0).val / 128, ht⟩ : Fin cfg0.N)).view.set) ((emb6 _ _ _).trans e)).mp h

/-- The kernel's program ends with the reference's four rounds on its arguments, which it keeps. -/
theorem run : θ_run defs (onTc (τ := τ) (main (F := Ideal))) ⟨m, fun _ => 0, ρ⟩ fun r => ∀ c : Dev nD,
      r.2.mem ((c : Thread nD τ).loc main_v2) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((dats m 0 c).arrAt_eq_of_cover 6 (final m c) (fun t _ => flushed m c t) covered), (h c).2⟩) (run_blocks m ρ)

end Cert.Whole
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RLink
public import proofs.«01_k».proof.Proof.Whole
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's program keeps its arguments and ends with every counter at zero. -/
theorem frame_kernel : Cert.quiescent_Kernel (hKernel := Cert.Kernel.Gen.facts) :=
  fun m ρ _ => Cert.Kernel.Gen.frame m ρ

/-- The same of the kernel's program over the extended reals. -/
theorem frame_kernelIdeal : Cert.quiescent_KernelIdeal (hKernelIdeal := Cert.KernelIdeal.Gen.facts) :=
  fun m ρ _ => Cert.KernelIdeal.Gen.frame m ρ

/-- The reference keeps its arguments; it has no counters at all. -/
theorem frame_reference : Cert.quiescent_ReferenceIdeal (hReferenceIdeal := Cert.ReferenceIdeal.Gen.facts) :=
  fun m ρ _ => (θ_run _ _ _).mono (fun r h => ⟨fun c => (h c).2, sem_eq_zero_of_no_sems rfl r.2⟩) (Cert.ReferenceIdeal.Value.run m ρ)

/-- Over the extended reals the kernel and the reference end with equal results: the kernel's are the reference's four
    rounds on the kernel's arguments, and the reference's are those on its own. -/
theorem algebraic : Cert.algebraic_KernelIdeal_ReferenceIdeal (hKernelIdeal := Cert.KernelIdeal.Gen.facts) (hReferenceIdeal := Cert.ReferenceIdeal.Gen.facts) := by
  intro m g m' g' _ args
  refine ⟨fun c => Cert.Whole.final m c, Cert.Whole.run m g, (θ_run _ _ _).mono (fun r h c => ⟨(h c).1.trans ?_, (h c).2⟩) (Cert.ReferenceIdeal.Value.run m' g')⟩
  obtain ⟨e0, e1, e2, e3, e4, e5⟩ := args c
  refine (Cert.RLink.net (StableHlo.launchContents m' c)).trans ?_
  show Cert.Whole.result (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5)) = _
  rw [e0, e1, e2, e3, e4, e5]

theorem claim : Cert.Claim := ⟨Cert.Kernel.Gen.facts, Cert.KernelIdeal.Gen.facts, Cert.ReferenceIdeal.Gen.facts,
  frame_kernel, frame_kernelIdeal, frame_reference, trivial, algebraic⟩

end Cert.Proof

end
